-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 2048, 8, 128]⟩ ⟨4, ![1, 8192, 8, 128]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 2048, 8, 128]⟩ ⟨4, ![1, 8192, 8, 128]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x2048x1024 : Shape := ⟨3, ![1, 2048, 1024]⟩
abbrev S1024x1024 : Shape := ⟨2, ![1024, 1024]⟩
abbrev S1x2048x8x128 : Shape := ⟨4, ![1, 2048, 8, 128]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x2048x8x128 : S_.BroadcastsInDim S1x2048x8x128 (![] : Fin 0 → Fin S1x2048x8x128.rank)
  reducesTo_S1x2048x8x128_S_d0_1_2_3 : S1x2048x8x128.ReducesTo [0, 1, 2, 3] S_

variable [Facts]

def fn {F : FTy → Type} [FloatOps F] (main_arg0 : FVec F S1x2048x1024 .f32) (main_arg1 : FVec F S1024x1024 .f32) (main_arg2 : FVec F S1x2048x8x128 .f32) (main_arg3 : FVec F S1x2048x8x128 .f32) (main_arg4 : FVec F S1024x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x2048x8x128 .f32 := Host.absf main_arg2
  let main_cst_2 : FVec F S_ .f32 := constant S_ .f32 0x7F800000#32
  let main_v10 : FVec F S1x2048x8x128 .f32 := broadcastInDim S1x2048x8x128 ![] bcast_S_S1x2048x8x128 main_cst_2
  let main_v11 : IVec S1x2048x8x128 1 := cmpf .olt main_v9 main_v10
  let main_c_3 : IVec S_ 1 := constantI S_ 1 1#1
  let main_v12 : IVec S_ 1 := (fun x v => Host.reduce IntOp.andi x v reducesTo_S1x2048x8x128_S_d0_1_2_3 h_S_) main_v11 main_c_3
  let main_v13 : IVec S_ 1 := andi main_v8 main_v12
  main_v13
-- ==== Pre_finite_ReferenceIdeal.lean ====
abbrev S1x2048x1024 : Shape := ⟨3, ![1, 2048, 1024]⟩
abbrev S1024x1024 : Shape := ⟨2, ![1024, 1024]⟩
abbrev S1x8192x8x128 : Shape := ⟨4, ![1, 8192, 8, 128]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x8192x8x128 : S_.BroadcastsInDim S1x8192x8x128 (![] : Fin 0 → Fin S1x8192x8x128.rank)
  reducesTo_S1x8192x8x128_S_d0_1_2_3 : S1x8192x8x128.ReducesTo [0, 1, 2, 3] S_

variable [Facts]

def fn {F : FTy → Type} [FloatOps F] (main_arg0 : FVec F S1x2048x1024 .f32) (main_arg1 : FVec F S1024x1024 .f32) (main_arg2 : FVec F S1x8192x8x128 .f32) (main_arg3 : FVec F S1x8192x8x128 .f32) (main_arg4 : FVec F S1024x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x8192x8x128 .f32 := Host.absf main_arg2
  let main_cst_2 : FVec F S_ .f32 := constant S_ .f32 0x7F800000#32
  let main_v10 : FVec F S1x8192x8x128 .f32 := broadcastInDim S1x8192x8x128 ![] bcast_S_S1x8192x8x128 main_cst_2
  let main_v11 : IVec S1x8192x8x128 1 := cmpf .olt main_v9 main_v10
  let main_c_3 : IVec S_ 1 := constantI S_ 1 1#1
  let main_v12 : IVec S_ 1 := (fun x v => Host.reduce IntOp.andi x v reducesTo_S1x8192x8x128_S_d0_1_2_3 h_S_) main_v11 main_c_3
  let main_v13 : IVec S_ 1 := andi main_v8 main_v12
  main_v13
-- ==== Kernel.lean ====
abbrev S1x2048x1024 : Shape := ⟨3, ![1, 2048, 1024]⟩
abbrev S1024x1024 : Shape := ⟨2, ![1024, 1024]⟩
abbrev S1x2048x8x128 : Shape := ⟨4, ![1, 2048, 8, 128]⟩
abbrev S2048x1024 : Shape := ⟨2, ![2048, 1024]⟩
abbrev S2x512x1024 : Shape := ⟨3, ![2, 512, 1024]⟩
abbrev S128x1024 : Shape := ⟨2, ![128, 1024]⟩
abbrev S128x8 : Shape := ⟨2, ![128, 8]⟩
abbrev S8 : Shape := ⟨1, ![8]⟩
abbrev S3 : Shape := ⟨1, ![3]⟩
abbrev S4 : Shape := ⟨1, ![4]⟩
abbrev S_ : Shape := ⟨0, ![]⟩
abbrev S1 : Shape := ⟨1, ![1]⟩
abbrev S1x384x1024 : Shape := ⟨3, ![1, 384, 1024]⟩
abbrev S384x1024 : Shape := ⟨2, ![384, 1024]⟩
abbrev S1x512x1024 : Shape := ⟨3, ![1, 512, 1024]⟩
abbrev S512x1024 : Shape := ⟨2, ![512, 1024]⟩
abbrev S256x1024 : Shape := ⟨2, ![256, 1024]⟩
abbrev S256x384 : Shape := ⟨2, ![256, 384]⟩
abbrev S256x128 : Shape := ⟨2, ![256, 128]⟩
abbrev S1x384x128 : Shape := ⟨3, ![1, 384, 128]⟩
abbrev S384x128 : Shape := ⟨2, ![384, 128]⟩
abbrev S256 : Shape := ⟨1, ![256]⟩
abbrev S256x1 : Shape := ⟨2, ![256, 1]⟩
abbrev S256x512 : Shape := ⟨2, ![256, 512]⟩
abbrev S1x512x128 : Shape := ⟨3, ![1, 512, 128]⟩
abbrev S512x128 : Shape := ⟨2, ![512, 128]⟩
abbrev S128x1 : Shape := ⟨2, ![128, 1]⟩
abbrev S128x128 : Shape := ⟨2, ![128, 128]⟩
abbrev S1x128x1024 : Shape := ⟨3, ![1, 128, 1024]⟩
abbrev S1x128x128 : Shape := ⟨3, ![1, 128, 128]⟩
abbrev S128 : Shape := ⟨1, ![128]⟩

abbrev nBuf : Space → Nat
  | .hbm => 10
  | .vmem => 10
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S1x2048x8x128, .f32⟩
  | .hbm, ⟨3, _⟩ => ⟨S1x2048x8x128, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S1x2048x1024, .f32⟩
  | .local _ .vmem, ⟨0, _⟩ => ⟨S2048x1024, .f32⟩
  | .local _ .vmem, ⟨1, _⟩ => ⟨S1024x1024, .f32⟩
  | .local _ .vmem, ⟨2, _⟩ => ⟨S1024x1024, .f32⟩
  | .local _ .vmem, ⟨3, _⟩ => ⟨S2048x1024, .f32⟩
  | .local _ .vmem, ⟨4, _⟩ => ⟨S2x512x1024, .f32⟩
  | .local _ .vmem, ⟨5, _⟩ => ⟨S2x512x1024, .f32⟩
  | .local _ .vmem, ⟨6, _⟩ => ⟨S2048x1024, .f32⟩
  | .local _ .vmem, ⟨7, _⟩ => ⟨S128x1024, .f32⟩
  | .local _ .vmem, ⟨8, _⟩ => ⟨S128x8, .f32⟩
  | .local _ .vmem, ⟨9, _⟩ => ⟨S128x8, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 2 → Bool
  | ⟨0, _⟩ => false
  | ⟨1, _⟩ => true
  | _ => false

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  (ofTc nBuf bufTy 2 46 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_10 : BitVec 32 := 0#32
  let v13 : BitVec 1 := Scalar.cmpi .eq v2 c0_i32_10
  let v14 : BitVec 32 := Scalar.extui v13
  let c0_i32_11 : BitVec 32 := 0#32
  let v15 : BitVec 1 := Scalar.cmpi .ne v14 c0_i32_11
  v15

def k0_dev3 : Nat :=
  let c0_i32_153 : BitVec 32 := 0#32
  let c1_i32_151 : BitVec 32 := 1#32
  let c1_i32_152 : BitVec 32 := 1#32
  let v234 : BitVec 32 := Scalar.muli c1_i32_151 c1_i32_152
  let v235 : BitVec 32 := Scalar.addi c0_i32_153 v234
  v235.toNat
def k0_dev4 : Nat :=
  let c0_i32_162 : BitVec 32 := 0#32
  let c1_i32_160 : BitVec 32 := 1#32
  let c1_i32_161 : BitVec 32 := 1#32
  let v242 : BitVec 32 := Scalar.muli c1_i32_160 c1_i32_161
  let v243 : BitVec 32 := Scalar.addi c0_i32_162 v242
  v243.toNat
def k0_dev5 : Nat :=
  let c0_i32_298 : BitVec 32 := 0#32
  let c3_i32_296 : BitVec 32 := 3#32
  let c1_i32_297 : BitVec 32 := 1#32
  let v449 : BitVec 32 := Scalar.muli c3_i32_296 c1_i32_297
  let v450 : BitVec 32 := Scalar.addi c0_i32_298 v449
  v450.toNat
def k0_dev6 : Nat :=
  let c0_i32_307 : BitVec 32 := 0#32
  let c3_i32_305 : BitVec 32 := 3#32
  let c1_i32_306 : BitVec 32 := 1#32
  let v457 : BitVec 32 := Scalar.muli c3_i32_305 c1_i32_306
  let v458 : BitVec 32 := Scalar.addi c0_i32_307 v457
  v458.toNat
def k0_dev7 : Nat :=
  let c0_i32_444 : BitVec 32 := 0#32
  let c1_i32_442 : BitVec 32 := 1#32
  let c1_i32_443 : BitVec 32 := 1#32
  let v664 : BitVec 32 := Scalar.muli c1_i32_442 c1_i32_443
  let v665 : BitVec 32 := Scalar.addi c0_i32_444 v664
  v665.toNat
def k0_dev8 : Nat :=
  let c0_i32_453 : BitVec 32 := 0#32
  let c1_i32_451 : BitVec 32 := 1#32
  let c1_i32_452 : BitVec 32 := 1#32
  let v672 : BitVec 32 := Scalar.muli c1_i32_451 c1_i32_452
  let v673 : BitVec 32 := Scalar.addi c0_i32_453 v672
  v673.toNat
def k0_dev9 : Nat :=
  let c0_i32_590 : BitVec 32 := 0#32
  let c3_i32_588 : BitVec 32 := 3#32
  let c1_i32_589 : BitVec 32 := 1#32
  let v879 : BitVec 32 := Scalar.muli c3_i32_588 c1_i32_589
  let v880 : BitVec 32 := Scalar.addi c0_i32_590 v879
  v880.toNat
def k0_dev10 : Nat :=
  let c0_i32_599 : BitVec 32 := 0#32
  let c3_i32_597 : BitVec 32 := 3#32
  let c1_i32_598 : BitVec 32 := 1#32
  let v887 : BitVec 32 := Scalar.muli c3_i32_597 c1_i32_598
  let v888 : BitVec 32 := Scalar.addi c0_i32_599 v887
  v888.toNat
def k0_dev11 : Nat :=
  let c0_i32_735 : BitVec 32 := 0#32
  let c1_i32_733 : BitVec 32 := 1#32
  let c1_i32_734 : BitVec 32 := 1#32
  let v1094 : BitVec 32 := Scalar.muli c1_i32_733 c1_i32_734
  let v1095 : BitVec 32 := Scalar.addi c0_i32_735 v1094
  v1095.toNat
def k0_dev12 : Nat :=
  let c0_i32_743 : BitVec 32 := 0#32
  let c1_i32_741 : BitVec 32 := 1#32
  let c1_i32_742 : BitVec 32 := 1#32
  let v1102 : BitVec 32 := Scalar.muli c1_i32_741 c1_i32_742
  let v1103 : BitVec 32 := Scalar.addi c0_i32_743 v1102
  v1103.toNat
def k0_dev13 : Nat :=
  let c0_i32_879 : BitVec 32 := 0#32
  let c3_i32_877 : BitVec 32 := 3#32
  let c1_i32_878 : BitVec 32 := 1#32
  let v1309 : BitVec 32 := Scalar.muli c3_i32_877 c1_i32_878
  let v1310 : BitVec 32 := Scalar.addi c0_i32_879 v1309
  v1310.toNat
def k0_dev14 : Nat :=
  let c0_i32_888 : BitVec 32 := 0#32
  let c3_i32_886 : BitVec 32 := 3#32
  let c1_i32_887 : BitVec 32 := 1#32
  let v1317 : BitVec 32 := Scalar.muli c3_i32_886 c1_i32_887
  let v1318 : BitVec 32 := Scalar.addi c0_i32_888 v1317
  v1318.toNat
def k0_dev15 : Nat :=
  let c0_i32_1023 : BitVec 32 := 0#32
  let c1_i32_1021 : BitVec 32 := 1#32
  let c1_i32_1022 : BitVec 32 := 1#32
  let v1524 : BitVec 32 := Scalar.muli c1_i32_1021 c1_i32_1022
  let v1525 : BitVec 32 := Scalar.addi c0_i32_1023 v1524
  v1525.toNat
def k0_dev16 : Nat :=
  let c0_i32_1031 : BitVec 32 := 0#32
  let c1_i32_1029 : BitVec 32 := 1#32
  let c1_i32_1030 : BitVec 32 := 1#32
  let v1532 : BitVec 32 := Scalar.muli c1_i32_1029 c1_i32_1030
  let v1533 : BitVec 32 := Scalar.addi c0_i32_1031 v1532
  v1533.toNat
def k0_dev17 : Nat :=
  let c0_i32_1213 : BitVec 32 := 0#32
  let c3_i32_1211 : BitVec 32 := 3#32
  let c1_i32_1212 : BitVec 32 := 1#32
  let v1941 : BitVec 32 := Scalar.muli c3_i32_1211 c1_i32_1212
  let v1942 : BitVec 32 := Scalar.addi c0_i32_1213 v1941
  v1942.toNat
def k0_dev18 : Nat :=
  let c0_i32_1222 : BitVec 32 := 0#32
  let c3_i32_1220 : BitVec 32 := 3#32
  let c1_i32_1221 : BitVec 32 := 1#32
  let v1949 : BitVec 32 := Scalar.muli c3_i32_1220 c1_i32_1221
  let v1950 : BitVec 32 := Scalar.addi c0_i32_1222 v1949
  v1950.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_12 : BitVec 32 := 1#32
  let v16 : BitVec 1 := Scalar.cmpi .eq v2 c1_i32_12
  let v17 : BitVec 32 := Scalar.extui v16
  let c0_i32_13 : BitVec 32 := 0#32
  let v18 : BitVec 1 := Scalar.cmpi .ne v17 c0_i32_13
  v18

def k0_dev19 : Nat :=
  let c0_i32_142 : BitVec 32 := 0#32
  let c0_i32_140 : BitVec 32 := 0#32
  let c1_i32_141 : BitVec 32 := 1#32
  let v216 : BitVec 32 := Scalar.muli c0_i32_140 c1_i32_141
  let v217 : BitVec 32 := Scalar.addi c0_i32_142 v216
  v217.toNat
def k0_dev20 : Nat :=
  let c0_i32_147 : BitVec 32 := 0#32
  let c0_i32_145 : BitVec 32 := 0#32
  let c1_i32_146 : BitVec 32 := 1#32
  let v222 : BitVec 32 := Scalar.muli c0_i32_145 c1_i32_146
  let v223 : BitVec 32 := Scalar.addi c0_i32_147 v222
  v223.toNat
def k0_dev21 : Nat :=
  let c0_i32_152 : BitVec 32 := 0#32
  let c0_i32_150 : BitVec 32 := 0#32
  let c1_i32_151 : BitVec 32 := 1#32
  let v228 : BitVec 32 := Scalar.muli c0_i32_150 c1_i32_151
  let v229 : BitVec 32 := Scalar.addi c0_i32_152 v228
  v229.toNat
def k0_dev22 : Nat :=
  let c0_i32_166 : BitVec 32 := 0#32
  let c2_i32_164 : BitVec 32 := 2#32
  let c1_i32_165 : BitVec 32 := 1#32
  let v240 : BitVec 32 := Scalar.muli c2_i32_164 c1_i32_165
  let v241 : BitVec 32 := Scalar.addi c0_i32_166 v240
  v241.toNat
def k0_dev23 : Nat :=
  let c0_i32_191 : BitVec 32 := 0#32
  let c2_i32_189 : BitVec 32 := 2#32
  let c1_i32_190 : BitVec 32 := 1#32
  let v259 : BitVec 32 := Scalar.muli c2_i32_189 c1_i32_190
  let v260 : BitVec 32 := Scalar.addi c0_i32_191 v259
  v260.toNat
def k0_dev24 : Nat :=
  let c0_i32_215 : BitVec 32 := 0#32
  let c2_i32_213 : BitVec 32 := 2#32
  let c1_i32_214 : BitVec 32 := 1#32
  let v278 : BitVec 32 := Scalar.muli c2_i32_213 c1_i32_214
  let v279 : BitVec 32 := Scalar.addi c0_i32_215 v278
  v279.toNat
def k0_dev25 : Nat :=
  let c0_i32_239 : BitVec 32 := 0#32
  let c2_i32_237 : BitVec 32 := 2#32
  let c1_i32_238 : BitVec 32 := 1#32
  let v297 : BitVec 32 := Scalar.muli c2_i32_237 c1_i32_238
  let v298 : BitVec 32 := Scalar.addi c0_i32_239 v297
  v298.toNat
def k0_dev26 : Nat :=
  let c0_i32_263 : BitVec 32 := 0#32
  let c2_i32_261 : BitVec 32 := 2#32
  let c1_i32_262 : BitVec 32 := 1#32
  let v316 : BitVec 32 := Scalar.muli c2_i32_261 c1_i32_262
  let v317 : BitVec 32 := Scalar.addi c0_i32_263 v316
  v317.toNat
def k0_dev27 : Nat :=
  let c0_i32_285 : BitVec 32 := 0#32
  let c2_i32_283 : BitVec 32 := 2#32
  let c1_i32_284 : BitVec 32 := 1#32
  let v335 : BitVec 32 := Scalar.muli c2_i32_283 c1_i32_284
  let v336 : BitVec 32 := Scalar.addi c0_i32_285 v335
  v336.toNat
def k0_dev28 : Nat :=
  let c0_i32_307 : BitVec 32 := 0#32
  let c2_i32_305 : BitVec 32 := 2#32
  let c1_i32_306 : BitVec 32 := 1#32
  let v354 : BitVec 32 := Scalar.muli c2_i32_305 c1_i32_306
  let v355 : BitVec 32 := Scalar.addi c0_i32_307 v354
  v355.toNat
def k0_dev29 : Nat :=
  let c0_i32_329 : BitVec 32 := 0#32
  let c2_i32_327 : BitVec 32 := 2#32
  let c1_i32_328 : BitVec 32 := 1#32
  let v373 : BitVec 32 := Scalar.muli c2_i32_327 c1_i32_328
  let v374 : BitVec 32 := Scalar.addi c0_i32_329 v373
  v374.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_14 : BitVec 32 := 2#32
  let v19 : BitVec 1 := Scalar.cmpi .eq v2 c2_i32_14
  let v20 : BitVec 32 := Scalar.extui v19
  let c0_i32_15 : BitVec 32 := 0#32
  let v21 : BitVec 1 := Scalar.cmpi .ne v20 c0_i32_15
  v21

def k0_dev30 : Nat :=
  let c0_i32_30 : BitVec 32 := 0#32
  let c3_i32_28 : BitVec 32 := 3#32
  let c1_i32_29 : BitVec 32 := 1#32
  let v31 : BitVec 32 := Scalar.muli c3_i32_28 c1_i32_29
  let v32 : BitVec 32 := Scalar.addi c0_i32_30 v31
  v32.toNat
def k0_dev31 : Nat :=
  let c0_i32_52 : BitVec 32 := 0#32
  let c1_i32_50 : BitVec 32 := 1#32
  let c1_i32_51 : BitVec 32 := 1#32
  let v50 : BitVec 32 := Scalar.muli c1_i32_50 c1_i32_51
  let v51 : BitVec 32 := Scalar.addi c0_i32_52 v50
  v51.toNat
def k0_dev32 : Nat :=
  let c0_i32_75 : BitVec 32 := 0#32
  let c3_i32_73 : BitVec 32 := 3#32
  let c1_i32_74 : BitVec 32 := 1#32
  let v69 : BitVec 32 := Scalar.muli c3_i32_73 c1_i32_74
  let v70 : BitVec 32 := Scalar.addi c0_i32_75 v69
  v70.toNat
def k0_dev33 : Nat :=
  let c0_i32_98 : BitVec 32 := 0#32
  let c1_i32_96 : BitVec 32 := 1#32
  let c1_i32_97 : BitVec 32 := 1#32
  let v88 : BitVec 32 := Scalar.muli c1_i32_96 c1_i32_97
  let v89 : BitVec 32 := Scalar.addi c0_i32_98 v88
  v89.toNat
def k0_dev34 : Nat :=
  let c0_i32_121 : BitVec 32 := 0#32
  let c3_i32_119 : BitVec 32 := 3#32
  let c1_i32_120 : BitVec 32 := 1#32
  let v107 : BitVec 32 := Scalar.muli c3_i32_119 c1_i32_120
  let v108 : BitVec 32 := Scalar.addi c0_i32_121 v107
  v108.toNat
def k0_dev35 : Nat :=
  let c0_i32_144 : BitVec 32 := 0#32
  let c1_i32_142 : BitVec 32 := 1#32
  let c1_i32_143 : BitVec 32 := 1#32
  let v126 : BitVec 32 := Scalar.muli c1_i32_142 c1_i32_143
  let v127 : BitVec 32 := Scalar.addi c0_i32_144 v126
  v127.toNat
def k0_dev36 : Nat :=
  let c0_i32_167 : BitVec 32 := 0#32
  let c3_i32_165 : BitVec 32 := 3#32
  let c1_i32_166 : BitVec 32 := 1#32
  let v145 : BitVec 32 := Scalar.muli c3_i32_165 c1_i32_166
  let v146 : BitVec 32 := Scalar.addi c0_i32_167 v145
  v146.toNat
def k0_dev37 : Nat :=
  let c0_i32_190 : BitVec 32 := 0#32
  let c1_i32_188 : BitVec 32 := 1#32
  let c1_i32_189 : BitVec 32 := 1#32
  let v164 : BitVec 32 := Scalar.muli c1_i32_188 c1_i32_189
  let v165 : BitVec 32 := Scalar.addi c0_i32_190 v164
  v165.toNat
def k0_dev38 : Nat :=
  let c0_i32_213 : BitVec 32 := 0#32
  let c3_i32_211 : BitVec 32 := 3#32
  let c1_i32_212 : BitVec 32 := 1#32
  let v183 : BitVec 32 := Scalar.muli c3_i32_211 c1_i32_212
  let v184 : BitVec 32 := Scalar.addi c0_i32_213 v183
  v184.toNat
def k0_dev39 : Nat :=
  let c0_i32_236 : BitVec 32 := 0#32
  let c1_i32_234 : BitVec 32 := 1#32
  let c1_i32_235 : BitVec 32 := 1#32
  let v202 : BitVec 32 := Scalar.muli c1_i32_234 c1_i32_235
  let v203 : BitVec 32 := Scalar.addi c0_i32_236 v202
  v203.toNat
def k0_dev40 : Nat :=
  let c0_i32_258 : BitVec 32 := 0#32
  let c3_i32_256 : BitVec 32 := 3#32
  let c1_i32_257 : BitVec 32 := 1#32
  let v221 : BitVec 32 := Scalar.muli c3_i32_256 c1_i32_257
  let v222 : BitVec 32 := Scalar.addi c0_i32_258 v221
  v222.toNat
def k0_dev41 : Nat :=
  let c0_i32_281 : BitVec 32 := 0#32
  let c1_i32_279 : BitVec 32 := 1#32
  let c1_i32_280 : BitVec 32 := 1#32
  let v240 : BitVec 32 := Scalar.muli c1_i32_279 c1_i32_280
  let v241 : BitVec 32 := Scalar.addi c0_i32_281 v240
  v241.toNat
def k0_dev42 : Nat :=
  let c0_i32_303 : BitVec 32 := 0#32
  let c3_i32_301 : BitVec 32 := 3#32
  let c1_i32_302 : BitVec 32 := 1#32
  let v259 : BitVec 32 := Scalar.muli c3_i32_301 c1_i32_302
  let v260 : BitVec 32 := Scalar.addi c0_i32_303 v259
  v260.toNat
def k0_dev43 : Nat :=
  let c0_i32_326 : BitVec 32 := 0#32
  let c1_i32_324 : BitVec 32 := 1#32
  let c1_i32_325 : BitVec 32 := 1#32
  let v278 : BitVec 32 := Scalar.muli c1_i32_324 c1_i32_325
  let v279 : BitVec 32 := Scalar.addi c0_i32_326 v278
  v279.toNat
def k0_dev44 : Nat :=
  let c0_i32_348 : BitVec 32 := 0#32
  let c3_i32_346 : BitVec 32 := 3#32
  let c1_i32_347 : BitVec 32 := 1#32
  let v297 : BitVec 32 := Scalar.muli c3_i32_346 c1_i32_347
  let v298 : BitVec 32 := Scalar.addi c0_i32_348 v297
  v298.toNat
def k0_dev45 : Nat :=
  let c0_i32_371 : BitVec 32 := 0#32
  let c1_i32_369 : BitVec 32 := 1#32
  let c1_i32_370 : BitVec 32 := 1#32
  let v316 : BitVec 32 := Scalar.muli c1_i32_369 c1_i32_370
  let v317 : BitVec 32 := Scalar.addi c0_i32_371 v316
  v317.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v22 : BitVec 1 := Scalar.cmpi .eq v2 c3_i32
  let v23 : BitVec 32 := Scalar.extui v22
  let c0_i32_16 : BitVec 32 := 0#32
  let v24 : BitVec 1 := Scalar.cmpi .ne v23 c0_i32_16
  v24

def k0_dev46 : Nat :=
  let c0_i32_29 : BitVec 32 := 0#32
  let c2_i32_27 : BitVec 32 := 2#32
  let c1_i32_28 : BitVec 32 := 1#32
  let v31 : BitVec 32 := Scalar.muli c2_i32_27 c1_i32_28
  let v32 : BitVec 32 := Scalar.addi c0_i32_29 v31
  v32.toNat
def k0_dev47 : Nat :=
  let c0_i32_50 : BitVec 32 := 0#32
  let c2_i32_48 : BitVec 32 := 2#32
  let c1_i32_49 : BitVec 32 := 1#32
  let v50 : BitVec 32 := Scalar.muli c2_i32_48 c1_i32_49
  let v51 : BitVec 32 := Scalar.addi c0_i32_50 v50
  v51.toNat
def k0_dev48 : Nat :=
  let c0_i32_73 : BitVec 32 := 0#32
  let c2_i32_71 : BitVec 32 := 2#32
  let c1_i32_72 : BitVec 32 := 1#32
  let v69 : BitVec 32 := Scalar.muli c2_i32_71 c1_i32_72
  let v70 : BitVec 32 := Scalar.addi c0_i32_73 v69
  v70.toNat
def k0_dev49 : Nat :=
  let c0_i32_96 : BitVec 32 := 0#32
  let c2_i32_94 : BitVec 32 := 2#32
  let c1_i32_95 : BitVec 32 := 1#32
  let v88 : BitVec 32 := Scalar.muli c2_i32_94 c1_i32_95
  let v89 : BitVec 32 := Scalar.addi c0_i32_96 v88
  v89.toNat
def k0_dev50 : Nat :=
  let c0_i32_119 : BitVec 32 := 0#32
  let c2_i32_117 : BitVec 32 := 2#32
  let c1_i32_118 : BitVec 32 := 1#32
  let v107 : BitVec 32 := Scalar.muli c2_i32_117 c1_i32_118
  let v108 : BitVec 32 := Scalar.addi c0_i32_119 v107
  v108.toNat
def k0_dev51 : Nat :=
  let c0_i32_141 : BitVec 32 := 0#32
  let c2_i32_139 : BitVec 32 := 2#32
  let c1_i32_140 : BitVec 32 := 1#32
  let v126 : BitVec 32 := Scalar.muli c2_i32_139 c1_i32_140
  let v127 : BitVec 32 := Scalar.addi c0_i32_141 v126
  v127.toNat
def k0_dev52 : Nat :=
  let c0_i32_163 : BitVec 32 := 0#32
  let c2_i32_161 : BitVec 32 := 2#32
  let c1_i32_162 : BitVec 32 := 1#32
  let v145 : BitVec 32 := Scalar.muli c2_i32_161 c1_i32_162
  let v146 : BitVec 32 := Scalar.addi c0_i32_163 v145
  v146.toNat
def k0_dev53 : Nat :=
  let c0_i32_185 : BitVec 32 := 0#32
  let c2_i32_183 : BitVec 32 := 2#32
  let c1_i32_184 : BitVec 32 := 1#32
  let v164 : BitVec 32 := Scalar.muli c2_i32_183 c1_i32_184
  let v165 : BitVec 32 := Scalar.addi c0_i32_185 v164
  v165.toNat
def k0_dev54 (d0 : Dev nD) : Nat :=
  let c0_i32_19_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_18_r0 : BitVec 32 := 1#32
  let v26_r0 : BitVec 32 := Scalar.muli v5 c1_i32_18_r0
  let v27_r0 : BitVec 32 := Scalar.addi c0_i32_19_r0 v26_r0
  v27_r0.toNat
def k0_dev55 (d0 : Dev nD) : Nat :=
  let c0_i32_22_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_21_r0 : BitVec 32 := 1#32
  let v28_r0 : BitVec 32 := Scalar.muli v7 c1_i32_21_r0
  let v29_r0 : BitVec 32 := Scalar.addi c0_i32_22_r0 v28_r0
  v29_r0.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x2048x1024 : Shape := ⟨3, ![1, 2048, 1024]⟩
abbrev S1024x1024 : Shape := ⟨2, ![1024, 1024]⟩
abbrev S1x8192x8x128 : Shape := ⟨4, ![1, 8192, 8, 128]⟩
abbrev S1x2048x8x128 : Shape := ⟨4, ![1, 2048, 8, 128]⟩
abbrev S2048 : Shape := ⟨1, ![2048]⟩
abbrev S2048x1 : Shape := ⟨2, ![2048, 1]⟩
abbrev S8192 : Shape := ⟨1, ![8192]⟩
abbrev S1x8192 : Shape := ⟨2, ![1, 8192]⟩
abbrev S2048x8192 : Shape := ⟨2, ![2048, 8192]⟩
abbrev S_ : Shape := ⟨0, ![]⟩
abbrev S1x8x2048x8192 : Shape := ⟨4, ![1, 8, 2048, 8192]⟩
abbrev S1x1x2048x8192 : Shape := ⟨4, ![1, 1, 2048, 8192]⟩
abbrev S1x8x2048 : Shape := ⟨3, ![1, 8, 2048]⟩
abbrev S1x8x2048x1 : Shape := ⟨4, ![1, 8, 2048, 1]⟩
abbrev S1x1x2048x1 : Shape := ⟨4, ![1, 1, 2048, 1]⟩
abbrev S1x8x128x2048 : Shape := ⟨4, ![1, 8, 128, 2048]⟩

abbrev nBuf : Space → Nat
  | .hbm => 57
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S1x8192x8x128, .f32⟩
  | .hbm, ⟨3, _⟩ => ⟨S1x8192x8x128, .f32⟩
  | .hbm, ⟨4, _⟩ => ⟨S1024x1024, .f32⟩
  | .hbm, ⟨5, _⟩ => ⟨S1x2048x1024, .f32⟩
  | .hbm, ⟨6, _⟩ => ⟨S1x2048x8x128, .f32⟩
  | .hbm, ⟨7, _⟩ => ⟨S2048, .i32⟩
  | .hbm, ⟨8, _⟩ => ⟨S2048x1, .i32⟩
  | .hbm, ⟨9, _⟩ => ⟨S8192, .i32⟩
  | .hbm, ⟨10, _⟩ => ⟨S1x8192, .i32⟩
  | .hbm, ⟨11, _⟩ => ⟨S2048x8192, .i32⟩
  | .hbm, ⟨12, _⟩ => ⟨S2048x8192, .i32⟩
  | .hbm, ⟨13, _⟩ => ⟨S2048x8192, .i32⟩
  | .hbm, ⟨14, _⟩ => ⟨S2048x8192, .i32⟩
  | .hbm, ⟨15, _⟩ => ⟨S_, .i32⟩
  | .hbm, ⟨16, _⟩ => ⟨S2048x8192, .i32⟩
  | .hbm, ⟨17, _⟩ => ⟨S2048x8192, .i1⟩
  | .hbm, ⟨18, _⟩ => ⟨S1x8x2048x8192, .f32⟩
  | .hbm, ⟨19, _⟩ => ⟨S_, .f32⟩
  | .hbm, ⟨20, _⟩ => ⟨S1x8x2048x8192, .f32⟩
  | .hbm, ⟨21, _⟩ => ⟨S1x8x2048x8192, .f32⟩
  | .hbm, ⟨22, _⟩ => ⟨S1x1x2048x8192, .i1⟩
  | .hbm, ⟨23, _⟩ => ⟨S_, .f32⟩
  | .hbm, ⟨24, _⟩ => ⟨S_, .f32⟩
  | .hbm, ⟨25, _⟩ => ⟨S1x8x2048x8192, .i1⟩
  | .hbm, ⟨26, _⟩ => ⟨S1x8x2048x8192, .f32⟩
  | .hbm, ⟨27, _⟩ => ⟨S1x8x2048x8192, .f32⟩
  | .hbm, ⟨28, _⟩ => ⟨S_, .f32⟩
  | .hbm, ⟨29, _⟩ => ⟨S1x8x2048, .f32⟩
  | .hbm, ⟨30, _⟩ => ⟨S1x8x2048x1, .f32⟩
  | .hbm, ⟨31, _⟩ => ⟨S1x8x2048x8192, .f32⟩
  | .hbm, ⟨32, _⟩ => ⟨S1x8x2048x8192, .f32⟩
  | .hbm, ⟨33, _⟩ => ⟨S1x8x2048x8192, .f32⟩
  | .hbm, ⟨34, _⟩ => ⟨S_, .i1⟩
  | .hbm, ⟨35, _⟩ => ⟨S2048, .i1⟩
  | .hbm, ⟨36, _⟩ => ⟨S1x1x2048x1, .i1⟩
  | .hbm, ⟨37, _⟩ => ⟨S_, .f32⟩
  | .hbm, ⟨38, _⟩ => ⟨S1x8x2048, .f32⟩
  | .hbm, ⟨39, _⟩ => ⟨S1x8x2048x1, .f32⟩
  | .hbm, ⟨40, _⟩ => ⟨S_, .f32⟩
  | .hbm, ⟨41, _⟩ => ⟨S_, .f32⟩
  | .hbm, ⟨42, _⟩ => ⟨S1x8x2048x1, .i1⟩
  | .hbm, ⟨43, _⟩ => ⟨S1x8x2048x1, .f32⟩
  | .hbm, ⟨44, _⟩ => ⟨S1x8x2048x1, .f32⟩
  | .hbm, ⟨45, _⟩ => ⟨S1x8x2048x8192, .f32⟩
  | .hbm, ⟨46, _⟩ => ⟨S1x8x2048x8192, .f32⟩
  | .hbm, ⟨47, _⟩ => ⟨S1x1x2048x1, .i1⟩
  | .hbm, ⟨48, _⟩ => ⟨S_, .f32⟩
  | .hbm, ⟨49, _⟩ => ⟨S_, .f32⟩
  | .hbm, ⟨50, _⟩ => ⟨S1x8x2048x8192, .i1⟩
  | .hbm, ⟨51, _⟩ => ⟨S1x8x2048x8192, .f32⟩
  | .hbm, ⟨52, _⟩ => ⟨S1x8x2048x8192, .f32⟩
  | .hbm, ⟨53, _⟩ => ⟨S1x8x128x2048, .f32⟩
  | .hbm, ⟨54, _⟩ => ⟨S1x2048x8x128, .f32⟩
  | .hbm, ⟨55, _⟩ => ⟨S1x2048x1024, .f32⟩
  | .hbm, ⟨56, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.KI.Proto.lean ====
/-
  The talk between the four devices: the counters it uses, what each payment on a counter hands over, who
  owes which payment, in which order the waits come, and one step lemma for every kind of remote operation.
-/
module

public import proofs.«01_k».proof.Proof.Gen.KernelIdeal.Frame
public import proofs.«01_k».proof.Proof.Gen.KernelIdeal.Skeleton
public import Idealize.ShloMosaic.Lib.Pipeline.Frame
public import Idealize.ShloMosaic.Lib.Rounds
public import Idealize.ShloMosaic.Lib.Tactic
public import Idealize.ShloMosaic.Lib.Transfers

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! ## The resource algebra -/

/-- The rounds of the talk; a duty is named by the device that pays it. -/
abbrev URd : Type := URounds (GSem nD τ sig) (Dev nD)
abbrev UU : Type := UR sig nD τ × (URd × Counters)

local notation "𝕄" => MT nD τ sig Unit (Elt F) ℕ UU ℕ

/-- The pipeline's rounds. -/
abbrev EP : Emb (UR sig nD τ) 𝕄 := embL
/-- The talk's rounds. -/
def ER : Emb URd 𝕄 :=
  ((Emb.inl : Emb URd (URd × Counters)).trans (Emb.inr : Emb (URd × Counters) UU)).trans
    (uEmb (nD := nD) (sig := sig) (Ix := Unit) (Val := Elt F) (Name := ℕ) (U := UU) (Lvl := ℕ)).toEmb
instance ER_landsIn : (ER (F := F)).LandsIn (upEmb : UEmb _ 𝕄) := by unfold ER; infer_instance

/-! ## Buffers -/

abbrev pt (c : Dev nD) {sp : Space} {S : Shape} {e : EltTy} (M : Memref sig .tc sp S e) (q : PosShare TreeShare)
    (f : Buf (Elt F) (M.view.loc (c : Thread nD τ))) : sProp 𝕄 := M.view.loc (c : Thread nD τ) ↦{q} f
abbrev ptR (c : Dev nD) {sp : Space} {S : Shape} {e : EltTy} (M : Memref sig .tc sp S e) (R : Rect S) (q : PosShare TreeShare)
    (f : Buf (Elt F) (M.view.loc (c : Thread nD τ))) : sProp 𝕄 := M.view.loc (c : Thread nD τ) ↦[M.view.setOn R.set]{q} f

abbrev mX : Memref sig .tc .vmem S2048x1024 .f32 := Memref.whole cc0_stg0_0
abbrev mWq : Memref sig .tc .vmem S1024x1024 .f32 := Memref.whole cc0_stg1_0
abbrev mWo : Memref sig .tc .vmem S1024x1024 .f32 := Memref.whole cc0_stg2_0
abbrev mOut : Memref sig .tc .vmem S2048x1024 .f32 := Memref.whole cc0_stg3_0
abbrev mK : Memref sig .tc .hbm S2048x1024 .f32 := Memref.whole main_v2
abbrev mV : Memref sig .tc .hbm S2048x1024 .f32 := Memref.whole main_v3
abbrev mKw : Memref sig .tc .vmem S2x512x1024 .f32 := Memref.whole cc0_scratch0
abbrev mVw : Memref sig .tc .vmem S2x512x1024 .f32 := Memref.whole cc0_scratch1
abbrev mCtx : Memref sig .tc .vmem S2048x1024 .f32 := Memref.whole cc0_scratch2
abbrev mSc : Memref sig .tc .vmem S128x1024 .f32 := Memref.whole cc0_scratch3
abbrev mSm : Memref sig .tc .vmem S128x8 .f32 := Memref.whole cc0_scratch4
abbrev mSl : Memref sig .tc .vmem S128x8 .f32 := Memref.whole cc0_scratch5

abbrev CtxT (F : FTy → Type) : Type := (cc0_scratch2 : Ref sig .tc).ty.Contents (Elt F)
abbrev ScT (F : FTy → Type) : Type := (cc0_scratch3 : Ref sig .tc).ty.Contents (Elt F)
abbrev SmT (F : FTy → Type) : Type := (cc0_scratch4 : Ref sig .tc).ty.Contents (Elt F)
abbrev SlT (F : FTy → Type) : Type := (cc0_scratch5 : Ref sig .tc).ty.Contents (Elt F)

/-- The two halves of full ownership. -/
abbrev lsh : PosShare TreeShare := PosShare.left fullShare
abbrev rsh : PosShare TreeShare := PosShare.right fullShare

/-- A buffer's piece is its two half shares. -/
theorem halves {ℓ : Loc nD τ sig} (I : Finset (Idx ℓ)) (f : Buf (Elt F) ℓ) :
    (ℓ ↦[I]{fullShare} f : sProp 𝕄) = iprop((ℓ ↦[I]{lsh} f) ∗ (ℓ ↦[I]{rsh} f)) :=
  BI.equiv_iff.mp ⟨(pointsTo_share (PosShare.mem_left_op_right fullShare)).1, (pointsTo_share (PosShare.mem_left_op_right fullShare)).2⟩

/-- Rows `n, …, n+127` of a 2048-row buffer. -/
theorem rowR_inb (n : ℕ) (h : n + 128 ≤ 2048) : ∀ a : Fin 2, (![n, 0] : Fin 2 → ℕ) a + S128x1024.size a ≤ S2048x1024.size a := by
  intro a; fin_cases a
  · exact h
  · show 0 + 1024 ≤ 1024; omega
abbrev rowR (n : ℕ) (h : n + 128 ≤ 2048) : Rect S2048x1024 := Rect.unit (s := S2048x1024) ![n, 0] S128x1024.size (rowR_inb n h)

/-- The first row of a 128-row chunk, by its number. -/
theorem chunk_inb (i : Fin 16) : 128 * i.val + 128 ≤ 2048 := by omega
abbrev chunkR (i : Fin 16) : Rect S2048x1024 := rowR (128 * i.val) (chunk_inb i)

/-! ## Devices and hops

Clockwise hops 0→1→2→3 land on counters 4–11, the counter-clockwise ones 0→3→2→1 on 12–19, and the sliver's three
buffers 1→0 on 20–22. The counter that says the source is free again has number +19. -/

abbrev nxt (c : Dev nD) : Dev nD := c + 1
abbrev prv (c : Dev nD) : Dev nD := c + 3

abbrev dm (k : Fin 46) : SemLoc sig := .dma k
abbrev bar : SemLoc sig := .reg (0 : Fin 2)
abbrev fin2 : SemLoc sig := .reg (1 : Fin 2)
abbrev gc (c : Dev nD) (s : SemLoc sig) : GSem nD τ sig := ((c : Thread nD τ), s)

/-- The chunk the hop on landing counter `k` carries. -/
def chunkOf (k : Fin 46) : Fin 16 :=
  if k.val < 12 then ⟨(4 * ((k.val - 4) / 2) + k.val % 2) % 16, Nat.mod_lt _ (by decide)⟩
  else ⟨(4 * ((k.val - 12) / 2) + 2 + k.val % 2) % 16, Nat.mod_lt _ (by decide)⟩

/-- The device a hop on counter `k` leaves from `c` for. -/
def tgt (c : Dev nD) (k : Fin 46) : Dev nD := if k.val < 12 then nxt c else prv c
/-- Whether device `c` sends on hop `k`, and whether it is landed on by it. -/
def actS (c : Dev nD) (k : Fin 46) : Bool :=
  if k.val < 4 then false else if k.val < 12 then c != 3 else if k.val < 20 then c != 1 else if k.val < 23 then c == 1 else false
def actR (c : Dev nD) (k : Fin 46) : Bool :=
  if k.val < 4 then false else if k.val < 20 then c != 0 else if k.val < 23 then c == 0 else false
/-- Whether counter `k` of device `c` is used by the talk. -/
def act (c : Dev nD) (k : Fin 46) : Bool :=
  if k.val < 23 then actR c k else if k.val < 42 then actS c (k - 19) else false
/-- The counters of the talk. -/
abbrev talk (k : Fin 46) : Prop := 4 ≤ k.val ∧ k.val < 42

/-- The units one hop pays. -/
def amt (k : Fin 46) : ℕ := if k = 21 ∨ k = 22 ∨ k = 40 ∨ k = 41 then mSm.view.dmaCredit else mSc.view.dmaCredit

theorem amt_pos (k : Fin 46) : 0 < amt k := by
  unfold amt; split
  · exact View.dmaCredit_pos _ (by decide)
  · exact View.dmaCredit_pos _ (by decide)

section Sched

variable (CT : CtxT F) (SC : ScT F) (SM : SmT F) (SL : SlT F)

/-- What hop `k` carries, on device `c` at share `q`, at its final contents. -/
def res (k : Fin 46) (c : Dev nD) (q : PosShare TreeShare) : sProp 𝕄 :=
  if k = 20 then pt c mSc q SC else if k = 21 then pt c mSm q SM else if k = 22 then pt c mSl q SL
  else ptR c mCtx (chunkR (chunkOf k)) q CT

/-- The place hop `k` lands at on device `c`, at any contents. -/
def resAny (k : Fin 46) (c : Dev nD) : sProp 𝕄 :=
  if k = 20 then iprop(∃ f, pt c mSc fullShare f) else if k = 21 then iprop(∃ f, pt c mSm fullShare f)
  else if k = 22 then iprop(∃ f, pt c mSl fullShare f)
  else iprop(∃ f, ptR c mCtx (chunkR (chunkOf k)) fullShare f)

/-- Handed to device `d` at its entry barrier by its neighbour `p`: the places where `d`'s hops land on `p`, that those
    counters of `p` are open, and that `p`'s exit counter is. -/
def barPay (d p : Dev nD) : sProp 𝕄 :=
  iprop(reached ER (gc p fin2) 0
    ∗ bigSep (Finset.univ.filter fun k : Fin 46 => actS d k = true ∧ tgt d k = p) (fun k => iprop(reached ER (gc p (dm k)) 0 ∗ resAny k p)))

def dmaPay (c : Dev nD) (k : Fin 46) : sProp 𝕄 :=
  if k.val < 23 then res CT SC SM SL k c fullShare else res CT SC SM SL (k - 19) c lsh

def nbrs (c : Dev nD) : Finset (Dev nD) := {nxt c, prv c}

/-- The schedule: one round on every counter of the talk. -/
def Rd : Schedule (GSem nD τ sig) (Dev nD) 𝕄 where
  duties g r := if r = 0 ∧ g.1.2 = .tc then
      match g.2 with
      | .reg _ => nbrs g.1.1
      | .dma k => if act g.1.1 k then {0} else ∅
    else ∅
  amount g _ _ := match g.2 with
    | .reg _ => 1
    | .dma k => amt k
  payload g _ p := match g.2 with
    | .reg i => if i = (0 : Fin 2) then barPay g.1.1 p else iprop(emp)
    | .dma k => dmaPay CT SC SM SL g.1.1 k
  amount_pos g _ _ _ := by
    rcases g with ⟨t, s⟩
    cases s with
    | reg i => exact Nat.one_pos
    | dma k => exact amt_pos k
  unitless _ := False

instance res_storable (k : Fin 46) (c : Dev nD) (q : PosShare TreeShare) : BI.Storable (upEmb : UEmb _ 𝕄) (res CT SC SM SL k c q) := by
  unfold res; (repeat' split) <;> infer_instance
instance resAny_storable (k : Fin 46) (c : Dev nD) : BI.Storable (upEmb : UEmb _ 𝕄) (resAny (F := F) k c) := by
  unfold resAny; (repeat' split) <;> infer_instance
instance barPay_storable (d p : Dev nD) : BI.Storable (upEmb : UEmb _ 𝕄) (barPay (F := F) d p) := by
  unfold barPay; infer_instance

instance Rd_storable (g : GSem nD τ sig) (r : ℕ) (d : Dev nD) : BI.Storable (upEmb : UEmb _ 𝕄) ((Rd CT SC SM SL).payload g r d) := by
  rcases g with ⟨t, s⟩
  cases s with
  | reg i =>
    show BI.Storable upEmb (if i = (0 : Fin 2) then barPay t.1 d else iprop(emp))
    split <;> infer_instance
  | dma k =>
    show BI.Storable upEmb (dmaPay CT SC SM SL t.1 k)
    unfold dmaPay; split <;> infer_instance

theorem duties_dma (c : Dev nD) (k : Fin 46) (h : act c k = true) : (Rd CT SC SM SL).duties (gc c (dm k)) 0 = {0} := by
  unfold Rd; dsimp only; rw [if_pos ⟨rfl, rfl⟩, if_pos h]
theorem duties_reg (c : Dev nD) (i : Fin 2) : (Rd CT SC SM SL).duties (gc c (.reg i)) 0 = nbrs c := by
  unfold Rd; dsimp only; rw [if_pos ⟨rfl, rfl⟩]
theorem duties_none (c : Dev nD) (k : Fin 46) (h : act c k = false) (r : ℕ) : (Rd CT SC SM SL).duties (gc c (dm k)) r = ∅ := by
  unfold Rd; dsimp only; rw [h]; split <;> rfl
theorem duties_later (g : GSem nD τ sig) (r : ℕ) (h : 1 ≤ r) : (Rd CT SC SM SL).duties g r = ∅ := by
  unfold Rd; dsimp only; rw [if_neg (by omega)]
theorem expect_dma (c : Dev nD) (k : Fin 46) (h : act c k = true) : (Rd CT SC SM SL).expect (gc c (dm k)) 0 = amt k := by
  unfold Schedule.expect Schedule.amountOf; rw [duties_dma _ _ _ _ c k h, Finset.sum_singleton]; rfl
theorem expect_reg (c : Dev nD) (i : Fin 2) : (Rd CT SC SM SL).expect (gc c (.reg i)) 0 = 2 := by
  unfold Schedule.expect Schedule.amountOf; rw [duties_reg]
  show ∑ d ∈ nbrs c, 1 = 2
  revert c; decide

/-! ## Debts and levels -/

/-- A payment owed: the counter and the units. -/
abbrev Debt : Type := GSem nD τ sig × ℕ

/-- What a list of payments owed, first to be paid first, amounts to. -/
def sumT : List Debt → CellTallies nD τ sig Unit
  | [] => 0
  | a :: l => sumT l + tallyAt a.1 () a.2

def hop (c : Dev nD) (k : Fin 46) : Debt := (gc (tgt c k) (dm k), amt k)

/-- The hops of a device in program order. -/
def hops (c : Dev nD) : List (Fin 46) :=
  if c = 0 then [4, 5, 12, 13, 6, 7, 14, 15, 8, 9, 16, 17, 10, 11, 18, 19]
  else if c = 1 then [20, 21, 22, 4, 5, 6, 7, 8, 9, 10, 11]
  else if c = 2 then [4, 12, 5, 13, 6, 14, 7, 15, 8, 16, 9, 17, 10, 18, 11, 19]
  else [12, 13, 14, 15, 16, 17, 18, 19]

def barDebts (c : Dev nD) : List Debt := [(gc (prv c) bar, 1), (gc (nxt c) bar, 1)]
def finDebts (c : Dev nD) : List Debt := [(gc (prv c) fin2, 1), (gc (nxt c) fin2, 1)]
/-- What remains owed after the entry barrier's signals when the hops `l` are still to be made. -/
def debts (c : Dev nD) (l : List (Fin 46)) : List Debt := l.map (hop c) ++ finDebts c

def L (g : GSem nD τ sig) : Finset Unit := if g.1.2 = .tc then {()} else ∅

/-- The order of the waits: local transfers first, the barrier, the sliver, the hops by distance from device 0, the
    source counters, the exit counter. -/
def lev (c : Dev nD) (s : SemLoc sig) : ℕ := match s with
  | .reg i => if i = (0 : Fin 2) then 1 else 8
  | .dma k => if k.val < 4 then 0 else if k.val < 12 then 2 + c.val else if k.val < 20 then 6 - c.val
      else if k.val < 23 then 2 else if k.val < 42 then 7 else 0
def lv (g : GSem nD τ sig) (_ : Unit) : ℕ := lev g.1.1 g.2

theorem L_tc (c : Dev nD) (sm : SemLoc sig) : L (gc c sm) = {()} := if_pos rfl

theorem sumT_pos : ∀ (l : List Debt) (g : GSem nD τ sig) (i : Unit), 0 < sumT l g i → ∃ a ∈ l, a.1 = g
  | [], _, _, h => absurd h (Nat.lt_irrefl 0)
  | a :: l, g, i, h => by
    by_cases e : a.1 = g
    · exact ⟨a, List.mem_cons_self, e⟩
    · have : tallyAt (Ix := Unit) a.1 () a.2 g i = 0 := by
        rw [tallyAt_apply, if_neg (fun x => e x.1.symm)]
      have h' : 0 < sumT l g i := by
        have : sumT (a :: l) g i = sumT l g i + tallyAt (Ix := Unit) a.1 () a.2 g i := rfl
        omega
      obtain ⟨b, hb, hb'⟩ := sumT_pos l g i h'
      exact ⟨b, List.mem_cons_of_mem _ hb, hb'⟩

/-- A device may wait on a counter when every payment it still owes is of a higher level. -/
theorem mayWait (c : Dev nD) (sm : SemLoc sig) (l : List Debt) (h : ∀ a ∈ l, a.1.1.2 = .tc ∧ lev c sm < lv a.1 ()) :
    (levAts L lv : sProp 𝕄) ⊢ MayWait (c : Thread nD τ) sm () (sumT l) :=
  MayOwe.of_cut (L := L) (lev := lv) (lev c sm) (fun p hp => by rw [Finset.mem_singleton.mp hp]; exact (L_tc c sm) ▸ Finset.mem_singleton_self _)
    (fun g u hg => by
      obtain ⟨a, ha, rfl⟩ := sumT_pos l g u hg
      unfold L; rw [if_pos (h a ha).1]; exact Finset.mem_singleton_self _)
    (fun p hp => by rw [Finset.mem_singleton.mp hp]; exact le_rfl)
    (fun g u hg => by
      obtain ⟨a, ha, rfl⟩ := sumT_pos l g u hg
      exact (h a ha).2)

/-! ## The state of a device's counters -/

/-- Everything the four devices share: the talk's invariants and the levels. -/
def talkCells : Finset (GSem nD τ sig) :=
  (Finset.univ.image fun c : Dev nD => gc c bar) ∪
    ((Finset.univ.image fun c : Dev nD => gc c fin2)
      ∪ (Finset.univ : Finset (Dev nD)).biUnion fun c => (Finset.univ.filter talk).image fun k : Fin 46 => gc c (dm k))

def recs (κ : GSem nD τ sig → ℕ) : sProp 𝕄 :=
  iprop(bigSep talkCells (fun g => cellInv ER (Rd CT SC SM SL) (κ g) g) ∗ levAts L lv)

instance recs_persistent (κ : GSem nD τ sig → ℕ) : Persistent (recs CT SC SM SL κ) := by unfold recs; infer_instance

theorem recs_inv (κ : GSem nD τ sig → ℕ) (g : GSem nD τ sig) (hg : g ∈ talkCells) :
    recs CT SC SM SL κ ⊢ cellInv ER (Rd CT SC SM SL) (κ g) g := by
  have h : bigSep talkCells (fun g => cellInv ER (Rd CT SC SM SL) (κ g) g) ⊢ cellInv ER (Rd CT SC SM SL) (κ g) g := bigSep_elim hg
  unfold recs
  iintro ⟨H, -⟩
  iapply h; iexact H
theorem recs_levs (κ : GSem nD τ sig → ℕ) : recs CT SC SM SL κ ⊢ levAts L lv := by
  unfold recs; iintro ⟨-, H⟩; iexact H

theorem mem_bar (c : Dev nD) : gc c bar ∈ talkCells :=
  Finset.mem_union_left _ (Finset.mem_image_of_mem _ (Finset.mem_univ c))
theorem mem_fin2 (c : Dev nD) : gc c fin2 ∈ talkCells :=
  Finset.mem_union_right _ (Finset.mem_union_left _ (Finset.mem_image_of_mem _ (Finset.mem_univ c)))
theorem mem_dm (c : Dev nD) (k : Fin 46) (h : talk k) : gc c (dm k) ∈ talkCells :=
  Finset.mem_union_right _ (Finset.mem_union_right _ (Finset.mem_biUnion.mpr ⟨c, Finset.mem_univ c,
    Finset.mem_image_of_mem _ (Finset.mem_filter.mpr ⟨Finset.mem_univ k, h⟩)⟩))

/-- What sending on hop `k` needs: both tokens, both counters open, and the place to land at. -/
def hopTok (c : Dev nD) (k : Fin 46) : sProp 𝕄 :=
  iprop(dutyTok ER (gc c (dm (k + 19))) 0 0 ∗ reached ER (gc c (dm (k + 19))) 0
    ∗ dutyTok ER (gc (tgt c k) (dm k)) 0 0 ∗ reached ER (gc (tgt c k) (dm k)) 0 ∗ resAny k (tgt c k))

/-- A counter's state: `0` a source counter before its send, `1` payment under way, `2` received; `3` not used; else
    not a counter of the talk. -/
def cst (c : Dev nD) (k : Fin 46) (s : ℕ) : sProp 𝕄 :=
  if s = 0 then iprop(atPos ER (gc c (dm k)) 0 ∅ 0 ∗ hopTok c (k - 19))
  else if s = 1 then iprop(atPos ER (gc c (dm k)) 0 ∅ 0 ∗ cred (tallyAt (gc c (dm k)) () (amt k)))
  else if s = 2 then atPos ER (gc c (dm k)) 1 ∅ 0
  else if s = 3 then atPos ER (gc c (dm k)) 0 ∅ 0
  else iprop(emp)

def st0 (c : Dev nD) (k : Fin 46) : ℕ :=
  if talk k then (if act c k then (if k.val < 23 then 1 else 0) else 3) else 4
def stEnd (c : Dev nD) (k : Fin 46) : ℕ :=
  if talk k then (if act c k then 2 else 3) else 4

/-- A device's counters at states `f`. -/
def St (c : Dev nD) (f : Fin 46 → ℕ) : sProp 𝕄 := bigSep Finset.univ fun k => cst c k (f k)

theorem St_turn (c : Dev nD) (f : Fin 46 → ℕ) (k : Fin 46) :
    St (F := F) c f ⊢ iprop(cst c k (f k) ∗ ∀ s, cst c k s -∗ St c (Function.update f k s)) :=
  bigSep_univ_turn (α := fun _ => ℕ) (fun k s => cst c k s) f k

end Sched

end Cert.KernelIdeal.Hand
-- ==== Proof.KI.Steps.lean ====
/-
  One step lemma for each kind of operation of the talk.
-/
module

public import proofs.«01_k».proof.Proof.KI.Proto

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

variable (CT : CtxT F) (SC : ScT F) (SM : SmT F) (SL : SlT F)

section

variable (κ : GSem nD τ sig → ℕ) (c : Dev nD) {f : Fin 46 → ℕ} {l : List Debt} {W : Waits sig Unit} {α : Type}

omit κ in
theorem cst_zero (k : Fin 46) : cst (F := F) c k 0 = iprop(atPos ER (gc c (dm k)) 0 ∅ 0 ∗ hopTok c (k - 19)) := by
  unfold cst; exact if_pos rfl
omit κ in
theorem cst_one (k : Fin 46) : cst (F := F) c k 1 = iprop(atPos ER (gc c (dm k)) 0 ∅ 0 ∗ cred (tallyAt (gc c (dm k)) () (amt k))) := by
  unfold cst; rw [if_neg (by decide), if_pos rfl]
omit κ in
theorem cst_two (k : Fin 46) : cst (F := F) c k 2 = atPos ER (gc c (dm k)) 1 ∅ 0 := by
  unfold cst; rw [if_neg (by decide), if_neg (by decide), if_pos rfl]
omit κ in
theorem cst_three (k : Fin 46) : cst (F := F) c k 3 = atPos ER (gc c (dm k)) 0 ∅ 0 := by
  unfold cst; rw [if_neg (by decide), if_neg (by decide), if_neg (by decide), if_pos rfl]

/-- Updating one counter's state, the others framed. -/
theorem St_set (k : Fin 46) {s : ℕ} (h : f k = s) :
    St (F := F) c f ⊢ iprop(cst c k s ∗ ∀ s', cst c k s' -∗ St c (Function.update f k s')) := by
  subst h; exact St_turn c f k

theorem St_one (k : Fin 46) (h : f k = 1) :
    St (F := F) c f ⊢ iprop((atPos ER (gc c (dm k)) 0 ∅ 0 ∗ cred (tallyAt (gc c (dm k)) () (amt k)))
      ∗ ∀ s', cst c k s' -∗ St c (Function.update f k s')) := by
  rw [← cst_one]; exact St_set c k h
theorem St_zero (k : Fin 46) (h : f k = 0) :
    St (F := F) c f ⊢ iprop((atPos ER (gc c (dm k)) 0 ∅ 0 ∗ hopTok c (k - 19)) ∗ ∀ s', cst c k s' -∗ St c (Function.update f k s')) := by
  rw [← cst_zero]; exact St_set c k h

/-- A wait on one of the device's own counters of the talk whose payment is under way: the wait returns what was paid. -/
theorem wait_step (k : Fin 46) (hk : talk k) (ha : act c k = true) (hf : f k = 1)
    {sem : DmaSem sig} (hs : sem = k)
    {sp sp' : Space} {s s' : Shape} {e e' : EltTy} {src : Memref sig .tc sp' s' e'} {dst : Memref sig .tc sp s e}
    {hsrc : src.view.WordExact} {hdst : dst.view.WordExact}
    (hN : dst.view.dmaCredit = amt k)
    (hl : ∀ a ∈ l, a.1.1.2 = .tc ∧ lev c (dm k) < lv a.1 ())
    {kk : PUnit → Prog (TpuEff nD τ sig (Elt F) Λ₀ .tc) α} {Q : α → sProp 𝕄} :
    iprop(recs CT SC SM SL κ ∗ St c f ∗ owes (c : Thread nD τ) (sumT l) W)
      ⊢ iprop(((St c (Function.update f k 2) ∗ (∃ W, owes (c : Thread nD τ) (sumT l) W) ∗ dmaPay CT SC SM SL c k)
            -∗ wp frame (wpE (defs₀ (F := F)) Variants.none c none) Set.univ (kk ⟨⟩) Q)
          -∗ wp frame (wpE (defs₀ (F := F)) Variants.none c none) Set.univ (.op (.waitDma2 sem src dst hsrc hdst) kk) Q) := by
  subst hs
  have hrest : bigSep ((Rd CT SC SM SL).duties (gc c (dm sem)) 0 \ ∅) (fun d => (Rd CT SC SM SL).payload (gc c (dm sem)) 0 d)
      = dmaPay CT SC SM SL c sem := by
    rw [Finset.sdiff_empty, duties_dma _ _ _ _ c sem ha, bigSep_singleton]; rfl
  iintro ⟨#HR, HS, HO⟩ Hk
  ihave HI := (recs_inv CT SC SM SL κ _ (mem_dm c sem hk)) $$ HR
  ihave HL := (recs_levs CT SC SM SL κ) $$ HR
  ihave HM := (mayWait c (dm sem) l hl) $$ HL
  ihave HS' := (St_one c sem hf) $$ HS
  icases HS' with ⟨Hc, Hset⟩
  icases Hc with ⟨Hat, Hcr⟩
  have hw : ∀ K : PUnit → sProp 𝕄, wpE (defs₀ (F := F)) Variants.none (c : Thread nD τ) none Set.univ (.waitDma2 sem src dst hsrc hdst) K
      = waitSpec (c : Thread nD τ) Set.univ (dm sem) (amt sem) K := fun K => by rw [wpE_waitDma2_eq, hN]
  have he : 0 + amt sem = (Rd CT SC SM SL).expect (gc c (dm sem)) 0 := by rw [expect_dma _ _ _ _ c sem ha, Nat.zero_add]
  iapply (Rounds.wp_wait_rest_token Variants.none ER (Rd CT SC SM SL) (c : Thread nD τ) none
    (κ := κ (gc c (dm sem))) (sm := dm sem) (k' := amt sem) (R := 0) (m := 0) (T := ∅) (O := sumT l) (W := W)
    hw (Set.mem_univ _) () he) $$ [HI Hcr HO HM Hat]
  · isplitl [HI]; · iexact HI
    isplitl [Hcr]; · iexact Hcr
    isplitl [HO]; · iexact HO
    isplitl [HM]; · iexact HM
    iexact Hat
  rw [hrest]
  iintro ⟨HO, Hat, -, Hpay⟩
  iapply Hk
  isplitl [Hset Hat]
  · iapply Hset; rw [cst_two]; iexact Hat
  isplitl [HO]; · iexists _; iexact HO
  iexact Hpay

/-- A hop's send: the source share is lent, the tokens and the landing place are spent, the debt is paid. -/
theorem send_step (k : Fin 46) (hk : talk k ∧ k.val < 23) (ha : actS c k = true) (hf : f (k + 19) = 0)
    {r : Dev nD} (hr : r = tgt c k) {sS sR : DmaSem sig} (hsS : sS = k + 19) (hsR : sR = k)
    {S : Shape} {src dst : Memref sig .tc .vmem S .f32} {hsc : dst.view.ref.isScScratch = false}
    {hsrc : src.view.WordExact} {hdst : dst.view.WordExact}
    {hsem : DmaTarget.Typed .vmem (.dma sR) (.remote (r : Thread nD τ) dst (.dma sS) hsc)}
    (hN : dst.view.dmaCredit = amt k) {fs : Buf (Elt F) (src.view.loc (c : Thread nD τ))}
    (hany : resAny (F := F) k r ⊢ iprop(∃ fd, dst.view.loc (r : Thread nD τ) ↦[dst.view.set]{fullShare} fd))
    (hpay₁ : (src.view.loc (c : Thread nD τ) ↦[src.view.set]{lsh} fs) ⊢ res CT SC SM SL k c lsh)
    (hpay₂ : ∀ fd, (dst.view.loc (r : Thread nD τ) ↦[dst.view.set]{fullShare}
        (dst.view.write (Elt F) fd (src.view.read (Elt F) fs) Finset.univ)) ⊢ res CT SC SM SL k r fullShare)
    {kk : PUnit → Prog (TpuEff nD τ sig (Elt F) Λ₀ .tc) α} {Q : α → sProp 𝕄} :
    iprop(recs CT SC SM SL κ ∗ St c f ∗ owes (c : Thread nD τ) (sumT (hop c k :: l)) W
        ∗ (src.view.loc (c : Thread nD τ) ↦[src.view.set]{lsh} fs))
      ⊢ iprop(((St c (Function.update f (k + 19) 1) ∗ owes (c : Thread nD τ) (sumT l) W)
            -∗ wp frame (wpE (defs₀ (F := F)) Variants.none c none) Set.univ (kk ⟨⟩) Q)
          -∗ wp frame (wpE (defs₀ (F := F)) Variants.none c none) Set.univ
            (.op (.enqueueDma src (.remote (r : Thread nD τ) dst (.dma sS) hsc) (.dma sR) hsrc hdst hsem) kk) Q) := by
  subst hr hsS hsR
  have hk1 : talk sR := hk.1
  have hk2 : talk (sR + 19) := by revert hk; clear * -; revert sR; decide
  have e19 : sR + 19 - 19 = sR := by clear * -; revert sR; decide
  have a1 : act c (sR + 19) = true := by
    revert ha hk; clear * -; revert c sR; decide
  have a2 : act (tgt c sR) sR = true := by
    revert ha hk; clear * -; revert c sR; decide
  have n1 : amt (sR + 19) = amt sR := by
    have h : ((sR + 19 = 21 ∨ sR + 19 = 22 ∨ sR + 19 = 40 ∨ sR + 19 = 41) ↔ (sR = 21 ∨ sR = 22 ∨ sR = 40 ∨ sR = 41)) := by
      revert hk; clear * -; revert sR; decide
    unfold amt; rw [if_congr h rfl rfl]
  have v1 : ¬ (sR + 19).val < 23 := by revert hk; clear * -; revert sR; decide
  have p1 : (Rd CT SC SM SL).payload (gc c (dm (sR + 19))) 0 0 = res CT SC SM SL sR c lsh := by
    show dmaPay CT SC SM SL c (sR + 19) = _
    unfold dmaPay; rw [if_neg v1, e19]
  have p2 : (Rd CT SC SM SL).payload (gc (tgt c sR) (dm sR)) 0 0 = res CT SC SM SL sR (tgt c sR) fullShare := by
    show dmaPay CT SC SM SL (tgt c sR) sR = _
    unfold dmaPay; rw [if_pos hk.2]
  iintro ⟨#HR, HS, HO, Hsrc⟩ Hk
  ihave HI := (recs_inv CT SC SM SL κ _ (mem_dm c (sR + 19) hk2)) $$ HR
  ihave HI' := (recs_inv CT SC SM SL κ _ (mem_dm (tgt c sR) sR hk1)) $$ HR
  ihave HS' := (St_zero c (sR + 19) hf) $$ HS
  icases HS' with ⟨Hc, Hset⟩
  unfold hopTok
  rw [e19]
  icases Hc with ⟨Hat, Ht1, Hr1, Ht2, Hr2, Hland⟩
  ihave Hland' := hany $$ Hland
  icases Hland' with ⟨%fd, Hland⟩
  have hd1 : (0 : Dev nD) ∈ (Rd CT SC SM SL).duties (gc c (dm (sR + 19))) 0 := by
    rw [duties_dma _ _ _ _ c _ a1]; exact Finset.mem_singleton_self _
  have hd2 : (0 : Dev nD) ∈ (Rd CT SC SM SL).duties (gc (tgt c sR) (dm sR)) 0 := by
    rw [duties_dma _ _ _ _ _ _ a2]; exact Finset.mem_singleton_self _
  iapply (Rounds.wp_send_pointsTo Variants.none ER (Rd CT SC SM SL) (c : Thread nD τ) none (c' := (tgt c sR : Thread nD τ))
    (src := src) (dst := dst) (sS := dm (sR + 19)) (sem := dm sR) (κ₁ := κ (gc c (dm (sR + 19)))) (κ₂ := κ (gc (tgt c sR) (dm sR)))
    (r₁ := 0) (r₂ := 0) (d₁ := 0) (d₂ := 0) (q := lsh) (fs := fs) (fd := fd)
    hd1 hd2
    () () (amt sR) hN n1 rfl (sumT l) rfl (W := W)
    (hpay₁.trans (Entails.of_eq p1.symm)) ((hpay₂ fd).trans (Entails.of_eq p2.symm))) $$ [HI HI' Hsrc Hland HO Ht1 Hr1 Ht2 Hr2]
  · isplitl [HI]; · iexact HI
    isplitl [HI']; · iexact HI'
    isplitl [Hsrc]; · iexact Hsrc
    isplitl [Hland]; · iexact Hland
    isplitl [HO]; · iexact HO
    isplitl [Ht1]; · iexact Ht1
    isplitl [Hr1]; · iexact Hr1
    isplitl [Ht2]; · iexact Ht2
    iexact Hr2
  iintro ⟨Hcr, HO⟩
  iapply Hk
  isplitl [Hset Hat Hcr]
  · iapply Hset
    rw [cst_one, n1]
    isplitl [Hat] <;> iassumption
  iexact HO

/-! ## The three kinds of hop -/

theorem res_chunk (k : Fin 46) (hk : k.val < 20) (c : Dev nD) (q : PosShare TreeShare) :
    res CT SC SM SL k c q = ptR c mCtx (chunkR (chunkOf k)) q CT := by
  have h1 : k ≠ 20 := fun h => by subst h; exact absurd hk (by decide)
  have h2 : k ≠ 21 := fun h => by subst h; exact absurd hk (by decide)
  have h3 : k ≠ 22 := fun h => by subst h; exact absurd hk (by decide)
  unfold res; rw [if_neg h1, if_neg h2, if_neg h3]
theorem resAny_chunk (k : Fin 46) (hk : k.val < 20) (c : Dev nD) :
    resAny (F := F) k c = iprop(∃ f, ptR c mCtx (chunkR (chunkOf k)) fullShare f) := by
  have h1 : k ≠ 20 := fun h => by subst h; exact absurd hk (by decide)
  have h2 : k ≠ 21 := fun h => by subst h; exact absurd hk (by decide)
  have h3 : k ≠ 22 := fun h => by subst h; exact absurd hk (by decide)
  unfold resAny; rw [if_neg h1, if_neg h2, if_neg h3]

theorem set_rect {sp : Space} {S : Shape} {e : EltTy} (M : Memref sig .tc sp S e) (R : Rect S) :
    (M.view.slice R).set = M.view.setOn R.set := View.set_slice _ _

theorem chunk_credit (k : Fin 46) (hk : k.val < 20 ∨ (23 ≤ k.val ∧ k.val < 39)) (n : ℕ)
    (hi : ∀ a : Fin 2, (![n, 0] : Fin 2 → ℕ) a + S128x1024.size a ≤ S2048x1024.size a)
    (h : ∀ a, (Rect.unit (s := S2048x1024) ![n, 0] S128x1024.size hi).stride a = 1) :
    (mCtx.slice (Rect.unit (s := S2048x1024) ![n, 0] S128x1024.size hi) h).view.dmaCredit = amt k := by
  have h' : ¬ (k = 21 ∨ k = 22 ∨ k = 40 ∨ k = 41) := by revert hk; clear * -; revert k; decide
  unfold amt; rw [if_neg h']
  rfl

/-- A chunk of the context rows, as a hop's source and as its landing place. -/
theorem chunk_src (c : Dev nD) (k : Fin 46) (hk : k.val < 20) {q : PosShare TreeShare} (n : ℕ) (hn : n = 128 * (chunkOf k).val)
    {hi : ∀ a : Fin 2, (![n, 0] : Fin 2 → ℕ) a + S128x1024.size a ≤ S2048x1024.size a}
    {h1 : ∀ a, (Rect.unit (s := S2048x1024) ![n, 0] S128x1024.size hi).stride a = 1} :
    ((mCtx.slice (Rect.unit (s := S2048x1024) ![n, 0] S128x1024.size hi) h1).view.loc (c : Thread nD τ)
      ↦[(mCtx.slice (Rect.unit (s := S2048x1024) ![n, 0] S128x1024.size hi) h1).view.set]{q} CT) = res CT SC SM SL k c q := by
  subst hn
  have e0 : (mCtx.slice (chunkR (chunkOf k)) h1).view.set = mCtx.view.setOn (chunkR (chunkOf k)).set := set_rect _ _
  rw [res_chunk CT SC SM SL k hk, e0]

theorem chunk_any (r : Dev nD) (k : Fin 46) (hk : k.val < 20) (n : ℕ) (hn : n = 128 * (chunkOf k).val)
    {hi : ∀ a : Fin 2, (![n, 0] : Fin 2 → ℕ) a + S128x1024.size a ≤ S2048x1024.size a}
    {h1 : ∀ a, (Rect.unit (s := S2048x1024) ![n, 0] S128x1024.size hi).stride a = 1} :
    resAny (F := F) k r ⊢ iprop(∃ fd, (mCtx.slice (Rect.unit (s := S2048x1024) ![n, 0] S128x1024.size hi) h1).view.loc (r : Thread nD τ)
      ↦[(mCtx.slice (Rect.unit (s := S2048x1024) ![n, 0] S128x1024.size hi) h1).view.set]{fullShare} fd) := by
  subst hn
  have e0 : (mCtx.slice (chunkR (chunkOf k)) h1).view.set = mCtx.view.setOn (chunkR (chunkOf k)).set := set_rect _ _
  have e1 : resAny (F := F) k r ⊢ iprop(∃ fd, (mCtx.slice (chunkR (chunkOf k)) h1).view.loc (r : Thread nD τ)
      ↦[(mCtx.slice (chunkR (chunkOf k)) h1).view.set]{fullShare} fd) := by
    rw [resAny_chunk k hk, e0]
  exact e1

theorem chunk_dst (r : Dev nD) (k : Fin 46) (hk : k.val < 20) (n : ℕ) (hn : n = 128 * (chunkOf k).val)
    {hi : ∀ a : Fin 2, (![n, 0] : Fin 2 → ℕ) a + S128x1024.size a ≤ S2048x1024.size a}
    {h1 h2 : ∀ a, (Rect.unit (s := S2048x1024) ![n, 0] S128x1024.size hi).stride a = 1}
    (fd : Buf (Elt F) (mCtx.view.loc (r : Thread nD τ))) :
    ((mCtx.slice (Rect.unit (s := S2048x1024) ![n, 0] S128x1024.size hi) h2).view.loc (r : Thread nD τ)
        ↦[(mCtx.slice (Rect.unit (s := S2048x1024) ![n, 0] S128x1024.size hi) h2).view.set]{fullShare}
        ((mCtx.slice (Rect.unit (s := S2048x1024) ![n, 0] S128x1024.size hi) h2).view.write (Elt F) fd
          ((mCtx.slice (Rect.unit (s := S2048x1024) ![n, 0] S128x1024.size hi) h1).view.read (Elt F) CT) Finset.univ))
      ⊢ res CT SC SM SL k r fullShare := by
  subst hn
  have e0 : (mCtx.slice (chunkR (chunkOf k)) h2).view.set = mCtx.view.setOn (chunkR (chunkOf k)).set := set_rect _ _
  have e : ((mCtx.slice (chunkR (chunkOf k)) h2).view.loc (r : Thread nD τ) ↦[(mCtx.slice (chunkR (chunkOf k)) h2).view.set]{fullShare}
      (((mCtx.slice (chunkR (chunkOf k)) h2).view.setOn Finset.univ).piecewise CT fd) : sProp 𝕄)
      = ((mCtx.slice (chunkR (chunkOf k)) h2).view.loc (r : Thread nD τ) ↦[(mCtx.slice (chunkR (chunkOf k)) h2).view.set]{fullShare} CT) :=
    pointsTo_congr fun i hi => Finset.piecewise_eq_of_mem _ _ _ hi
  rw [res_chunk CT SC SM SL k hk, View.write_read_eq_piecewise, e, e0]

end

end Cert.KernelIdeal.Hand
-- ==== Proof.KI.At.lean ====
/-
  A device's whole talk as one line of moves: what it holds after each of them, and what each move does to it.
-/
module

public import proofs.«01_k».proof.Proof.KI.Steps

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

/-! ## The moves -/

/-- A hop's arrival, its send, its source free again; a chunk (or a block of two) projected to the output; a landing
    place (or two) filled by the device itself. The second component of a move is its hop, the first of the two. -/
inductive Mv | arr | send | sent | proj | proj2 | fill | fill2
  deriving DecidableEq

abbrev Move : Type := Mv × Fin 46

/-- The counters' states, the states of the places hops carry, the states of the output's chunks. -/
structure Sta where
  f : Fin 46 → ℕ
  g : Fin 46 → ℕ
  o : Fin 46 → ℕ

def Sta.step (s : Sta) : Move → Sta
  | (.arr, k) => ⟨Function.update s.f k 2, Function.update s.g k 2, s.o⟩
  | (.send, k) => ⟨Function.update s.f (k + 19) 1, Function.update s.g k 1, s.o⟩
  | (.sent, k) => ⟨Function.update s.f (k + 19) 2, Function.update s.g k 2, s.o⟩
  | (.proj, k) => ⟨s.f, s.g, Function.update s.o k 2⟩
  | (.proj2, k) => ⟨s.f, s.g, Function.update (Function.update s.o k 2) (k + 1) 2⟩
  | (.fill, k) => ⟨s.f, Function.update s.g k 2, s.o⟩
  | (.fill2, k) => ⟨s.f, Function.update (Function.update s.g k 2) (k + 1) 2, s.o⟩

def Sta.init (c : Dev nD) : Sta :=
  ⟨st0 c, fun k => if 4 ≤ k.val ∧ k.val < 23 then (if actR c k then 0 else 3) else 0, fun k => if 4 ≤ k.val ∧ k.val < 20 then 1 else 0⟩

/-- The hop of the first chunk of device 0's block `b`. -/
def blkHop (b : ℕ) : Fin 46 := if b % 2 = 0 then Fin.ofNat 46 (4 + b) else Fin.ofNat 46 (11 + b)

/-- A device's moves in program order. -/
def tr (c : Dev nD) : List Move :=
  if c = 0 then
    (List.range 7).flatMap (fun b => [(.fill2, blkHop b), (.send, blkHop b), (.send, blkHop b + 1)])
      ++ [(.arr, 20), (.arr, 21), (.arr, 22), (.fill2, 18), (.send, 18), (.send, 19)]
      ++ (List.range 8).map (fun b => (.proj2, blkHop b)) ++ (hops 0).map (fun k => (.sent, k))
  else if c = 1 then
    [(.fill, 20), (.fill, 21), (.fill, 22), (.send, 20), (.send, 21), (.send, 22)]
      ++ [4, 5, 6, 7, 8, 9, 10, 11].flatMap (fun k => [(.arr, k), (.send, k), (.proj, k)])
      ++ [12, 13, 14, 15, 16, 17, 18, 19].flatMap (fun k => [(.arr, k), (.proj, k)]) ++ (hops 1).map (fun k => (.sent, k))
  else if c = 2 then
    (hops 2).flatMap (fun k => [(.arr, k), (.send, k), (.proj, k)]) ++ (hops 2).map (fun k => (.sent, k))
  else
    (hops 3).flatMap (fun k => [(.arr, k), (.send, k), (.proj, k)])
      ++ [4, 5, 6, 7, 8, 9, 10, 11].flatMap (fun k => [(.arr, k), (.proj, k)]) ++ (hops 3).map (fun k => (.sent, k))

/-- The state after the first `n` moves, and the hops still to be made then. -/
def sta (c : Dev nD) (n : ℕ) : Sta := ((tr c).take n).foldl Sta.step (Sta.init c)
def left (c : Dev nD) (n : ℕ) : List (Fin 46) := ((tr c).drop n).filterMap fun m => if m.1 = .send then some m.2 else none

theorem sta_succ {c : Dev nD} {n : ℕ} {m : Move} (h : (tr c)[n]? = some m) : sta c (n + 1) = (sta c n).step m := by
  unfold sta; rw [List.take_add_one, h, List.foldl_append]; rfl

/-! ## What a device holds -/

variable (CT : CtxT F) (SC : ScT F) (SM : SmT F) (SL : SlT F) (OC : (cc0_stg3_0 : Ref sig .tc).ty.Contents (Elt F))

/-- A place hops carry: not here, its right half, both halves, or at any contents. -/
def pc (c : Dev nD) (k : Fin 46) (s : ℕ) : sProp 𝕄 :=
  if s = 0 then iprop(emp) else if s = 1 then res CT SC SM SL k c rsh
  else if s = 2 then iprop(res CT SC SM SL k c lsh ∗ res CT SC SM SL k c rsh) else resAny k c

/-- A chunk of the output: before and after it is written. -/
def oc (c : Dev nD) (k : Fin 46) (s : ℕ) : sProp 𝕄 :=
  if s = 0 then iprop(emp) else if s = 1 then iprop(∃ f, ptR c mOut (chunkR (chunkOf k)) fullShare f)
  else ptR c mOut (chunkR (chunkOf k)) fullShare OC

def Pcs (c : Dev nD) (g : Fin 46 → ℕ) : sProp 𝕄 := bigSep Finset.univ fun k => pc CT SC SM SL c k (g k)
def Ocs (c : Dev nD) (o : Fin 46 → ℕ) : sProp 𝕄 := bigSep Finset.univ fun k => oc OC c k (o k)

theorem Pcs_turn (c : Dev nD) {g : Fin 46 → ℕ} (k : Fin 46) {s : ℕ} (h : g k = s) :
    Pcs CT SC SM SL c g ⊢ iprop(pc CT SC SM SL c k s ∗ ∀ s', pc CT SC SM SL c k s' -∗ Pcs CT SC SM SL c (Function.update g k s')) := by
  subst h; exact bigSep_univ_turn (α := fun _ => ℕ) (fun k s => pc CT SC SM SL c k s) g k
theorem Ocs_turn (c : Dev nD) {o : Fin 46 → ℕ} (k : Fin 46) {s : ℕ} (h : o k = s) :
    Ocs OC c o ⊢ iprop(oc OC c k s ∗ ∀ s', oc OC c k s' -∗ Ocs OC c (Function.update o k s')) := by
  subst h; exact bigSep_univ_turn (α := fun _ => ℕ) (fun k s => oc OC c k s) o k

variable (κ : GSem nD τ sig → ℕ) (c : Dev nD) (n : ℕ)

/-- What a device owes after `n` of its moves, and all else it holds of the talk. -/
def Owe : sProp 𝕄 := iprop(∃ W : Waits sig Unit, owes (c : Thread nD τ) (sumT (debts c (left c n))) W)
def At : sProp 𝕄 :=
  iprop(recs CT SC SM SL κ ∗ St c (sta c n).f ∗ Pcs CT SC SM SL c (sta c n).g ∗ Ocs OC c (sta c n).o)

variable {n} {α : Type}

theorem Owe_left {n m : ℕ} (h : left c m = left c n) : Owe (F := F) c n ⊢ Owe c m := by unfold Owe; rw [h]

/-- A hop arrives. -/
theorem at_arr (k : Fin 46)
    (h : (tr c)[n]? = some (.arr, k) ∧ (talk k ∧ k.val < 23) ∧ act c k = true ∧ (sta c n).f k = 1 ∧ (sta c n).g k = 0
      ∧ (∀ a ∈ debts c (left c n), a.1.1.2 = .tc ∧ lev c (dm k) < lv a.1 ()) ∧ left c (n + 1) = left c n)
    {sem : DmaSem sig} (hs : sem = k)
    {sp sp' : Space} {s s' : Shape} {e e' : EltTy} {src : Memref sig .tc sp' s' e'} {dst : Memref sig .tc sp s e}
    {hsrc : src.view.WordExact} {hdst : dst.view.WordExact} (hN : dst.view.dmaCredit = amt k)
    {kk : PUnit → Prog (TpuEff nD τ sig (Elt F) Λ₀ .tc) α} {Q : α → sProp 𝕄} :
    iprop(At CT SC SM SL OC κ c n ∗ Owe c n)
      ⊢ iprop(((At CT SC SM SL OC κ c (n + 1) ∗ Owe c (n + 1)) -∗ wp frame (wpE (defs₀ (F := F)) Variants.none c none) Set.univ (kk ⟨⟩) Q)
          -∗ wp frame (wpE (defs₀ (F := F)) Variants.none c none) Set.univ (.op (.waitDma2 sem src dst hsrc hdst) kk) Q) := by
  obtain ⟨h1, h2, h3, h4, h5, h6, h7⟩ := h
  have e0 : pc CT SC SM SL c k 0 = iprop(emp) := if_pos rfl
  have e2 : pc CT SC SM SL c k 2 = iprop(res CT SC SM SL k c lsh ∗ res CT SC SM SL k c rsh) := by
    unfold pc; rw [if_neg (by decide), if_neg (by decide), if_pos rfl]
  have e3 : dmaPay CT SC SM SL c k ⊢ pc CT SC SM SL c k 2 := by
    rw [e2]; unfold dmaPay; rw [if_pos h2.2]
    unfold res
    split; · exact Entails.of_eq (halves _ _)
    split; · exact Entails.of_eq (halves _ _)
    split; · exact Entails.of_eq (halves _ _)
    exact Entails.of_eq (halves _ _)
  have hu : At CT SC SM SL OC κ c (n + 1) = iprop(recs CT SC SM SL κ ∗ St c (Function.update (sta c n).f k 2)
      ∗ Pcs CT SC SM SL c (Function.update (sta c n).g k 2) ∗ Ocs OC c (sta c n).o) := by
    unfold At; rw [sta_succ h1]; rfl
  rw [hu]
  unfold At Owe
  rw [h7]
  iintro ⟨⟨#HR, HS, HP, HOc⟩, ⟨%W, HO⟩⟩ Hk
  ihave HP' := (Pcs_turn CT SC SM SL c k h5) $$ HP
  icases HP' with ⟨-, Hset⟩
  iapply (wait_step CT SC SM SL κ c k h2.1 h3 h4 hs hN h6 (src := src) (hsrc := hsrc) (hdst := hdst)) $$ [HS HO]
  · isplitr; · iexact HR
    isplitl [HS] <;> iassumption
  iintro ⟨HS, HO, Hpay⟩
  iapply Hk
  isplitr [HO]
  · isplitr; · iexact HR
    isplitl [HS]; · iexact HS
    isplitl [Hset Hpay]; · iapply Hset; iapply e3; iexact Hpay
    iexact HOc
  iexact HO

/-- A hop's source is free again. -/
theorem at_sent (k : Fin 46)
    (h : (tr c)[n]? = some (.sent, k) ∧ (talk (k + 19) ∧ ¬ (k + 19).val < 23) ∧ act c (k + 19) = true ∧ (sta c n).f (k + 19) = 1 ∧ (sta c n).g k = 1
      ∧ (∀ a ∈ debts c (left c n), a.1.1.2 = .tc ∧ lev c (dm (k + 19)) < lv a.1 ()) ∧ left c (n + 1) = left c n)
    {sem : DmaSem sig} (hs : sem = k + 19)
    {sp sp' : Space} {s s' : Shape} {e e' : EltTy} {src : Memref sig .tc sp' s' e'} {dst : Memref sig .tc sp s e}
    {hsrc : src.view.WordExact} {hdst : dst.view.WordExact} (hN : dst.view.dmaCredit = amt (k + 19))
    {kk : PUnit → Prog (TpuEff nD τ sig (Elt F) Λ₀ .tc) α} {Q : α → sProp 𝕄} :
    iprop(At CT SC SM SL OC κ c n ∗ Owe c n)
      ⊢ iprop(((At CT SC SM SL OC κ c (n + 1) ∗ Owe c (n + 1)) -∗ wp frame (wpE (defs₀ (F := F)) Variants.none c none) Set.univ (kk ⟨⟩) Q)
          -∗ wp frame (wpE (defs₀ (F := F)) Variants.none c none) Set.univ (.op (.waitDma2 sem src dst hsrc hdst) kk) Q) := by
  obtain ⟨h1, h2, h3, h4, h5, h6, h7⟩ := h
  have e1 : pc CT SC SM SL c k 1 = res CT SC SM SL k c rsh := by
    unfold pc; rw [if_neg (by decide), if_pos rfl]
  have e2 : pc CT SC SM SL c k 2 = iprop(res CT SC SM SL k c lsh ∗ res CT SC SM SL k c rsh) := by
    unfold pc; rw [if_neg (by decide), if_neg (by decide), if_pos rfl]
  have e3 : dmaPay CT SC SM SL c (k + 19) = res CT SC SM SL k c lsh := by
    unfold dmaPay; rw [if_neg h2.2, add_sub_cancel_right]
  have hu : At CT SC SM SL OC κ c (n + 1) = iprop(recs CT SC SM SL κ ∗ St c (Function.update (sta c n).f (k + 19) 2)
      ∗ Pcs CT SC SM SL c (Function.update (sta c n).g k 2) ∗ Ocs OC c (sta c n).o) := by
    unfold At; rw [sta_succ h1]; rfl
  have e4 : iprop(res CT SC SM SL k c lsh ∗ pc CT SC SM SL c k 1) ⊢ pc CT SC SM SL c k 2 := by rw [e1, e2]
  rw [hu]
  unfold At Owe
  rw [h7]
  iintro ⟨⟨#HR, HS, HP, HOc⟩, ⟨%W, HO⟩⟩ Hk
  ihave HP' := (Pcs_turn CT SC SM SL c k h5) $$ HP
  icases HP' with ⟨Hr, Hset⟩
  iapply (wait_step CT SC SM SL κ c (k + 19) h2.1 h3 h4 hs hN h6 (src := src) (hsrc := hsrc) (hdst := hdst)) $$ [HS HO]
  · isplitr; · iexact HR
    isplitl [HS] <;> iassumption
  rw [e3]
  iintro ⟨HS, HO, Hpay⟩
  iapply Hk
  isplitr [HO]
  · isplitr; · iexact HR
    isplitl [HS]; · iexact HS
    isplitl [Hset Hpay Hr]
    · iapply Hset; iapply e4
      isplitl [Hpay] <;> iassumption
    iexact HOc
  iexact HO

/-- A hop is sent. -/
theorem at_send (k : Fin 46)
    (h : (tr c)[n]? = some (.send, k) ∧ (talk k ∧ k.val < 23) ∧ actS c k = true ∧ (sta c n).f (k + 19) = 0 ∧ (sta c n).g k = 2
      ∧ left c n = k :: left c (n + 1))
    {r : Dev nD} (hr : r = tgt c k) {sS sR : DmaSem sig} (hsS : sS = k + 19) (hsR : sR = k)
    {S : Shape} {src dst : Memref sig .tc .vmem S .f32} {hsc : dst.view.ref.isScScratch = false}
    {hsrc : src.view.WordExact} {hdst : dst.view.WordExact}
    {hsem : DmaTarget.Typed .vmem (.dma sR) (.remote (r : Thread nD τ) dst (.dma sS) hsc)}
    (hN : dst.view.dmaCredit = amt k) (fs : Buf (Elt F) (src.view.loc (c : Thread nD τ)))
    (hany : resAny (F := F) k r ⊢ iprop(∃ fd, dst.view.loc (r : Thread nD τ) ↦[dst.view.set]{fullShare} fd))
    (hpay₁ : (src.view.loc (c : Thread nD τ) ↦[src.view.set]{lsh} fs) = res CT SC SM SL k c lsh)
    (hpay₂ : ∀ fd, (dst.view.loc (r : Thread nD τ) ↦[dst.view.set]{fullShare}
        (dst.view.write (Elt F) fd (src.view.read (Elt F) fs) Finset.univ)) ⊢ res CT SC SM SL k r fullShare)
    {kk : PUnit → Prog (TpuEff nD τ sig (Elt F) Λ₀ .tc) α} {Q : α → sProp 𝕄} :
    iprop(At CT SC SM SL OC κ c n ∗ Owe c n)
      ⊢ iprop(((At CT SC SM SL OC κ c (n + 1) ∗ Owe c (n + 1)) -∗ wp frame (wpE (defs₀ (F := F)) Variants.none c none) Set.univ (kk ⟨⟩) Q)
          -∗ wp frame (wpE (defs₀ (F := F)) Variants.none c none) Set.univ
            (.op (.enqueueDma src (.remote (r : Thread nD τ) dst (.dma sS) hsc) (.dma sR) hsrc hdst hsem) kk) Q) := by
  obtain ⟨h1, h2, h3, h4, h5, h6⟩ := h
  have e1 : pc CT SC SM SL c k 1 = res CT SC SM SL k c rsh := by
    unfold pc; rw [if_neg (by decide), if_pos rfl]
  have e2 : pc CT SC SM SL c k 2 = iprop(res CT SC SM SL k c lsh ∗ res CT SC SM SL k c rsh) := by
    unfold pc; rw [if_neg (by decide), if_neg (by decide), if_pos rfl]
  have hu : At CT SC SM SL OC κ c (n + 1) = iprop(recs CT SC SM SL κ ∗ St c (Function.update (sta c n).f (k + 19) 1)
      ∗ Pcs CT SC SM SL c (Function.update (sta c n).g k 1) ∗ Ocs OC c (sta c n).o) := by
    unfold At; rw [sta_succ h1]; rfl
  have e4 : pc CT SC SM SL c k 2 ⊢ iprop((src.view.loc (c : Thread nD τ) ↦[src.view.set]{lsh} fs) ∗ pc CT SC SM SL c k 1) := by
    rw [e1, e2, hpay₁]
  have e5 : debts c (left c n) = hop c k :: debts c (left c (n + 1)) := by rw [h6]; rfl
  rw [hu]
  unfold At Owe
  rw [e5]
  iintro ⟨⟨#HR, HS, HP, HOc⟩, ⟨%W, HO⟩⟩ Hk
  ihave HP' := (Pcs_turn CT SC SM SL c k h5) $$ HP
  icases HP' with ⟨Hr, Hset⟩
  ihave Hr' := e4 $$ Hr
  icases Hr' with ⟨Hl, Hr⟩
  iapply (send_step CT SC SM SL κ c k h2 h3 h4 hr hsS hsR hN hany (Entails.of_eq hpay₁) hpay₂ (hsrc := hsrc) (hsem := hsem)) $$ [HS HO Hl]
  · isplitr; · iexact HR
    isplitl [HS]; · iexact HS
    isplitl [HO] <;> iassumption
  iintro ⟨HS, HO⟩
  iapply Hk
  isplitr [HO]
  · isplitr; · iexact HR
    isplitl [HS]; · iexact HS
    isplitl [Hset Hr]; · iapply Hset; iexact Hr
    iexact HOc
  iexists _; iexact HO

end Cert.KernelIdeal.Hand
-- ==== Proof.KI.Moves.lean ====
/-
  The moves at the places the kernel makes them: chunks of 128 rows, blocks of 256, the three sliver buffers.
-/
module

public import proofs.«01_k».proof.Proof.KI.At

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

/-! ## Pieces of a 2048-row buffer -/

theorem blkR_inb (n : ℕ) (h : n + 256 ≤ 2048) : ∀ a : Fin 2, (![n, 0] : Fin 2 → ℕ) a + S256x1024.size a ≤ S2048x1024.size a := by
  intro a; fin_cases a
  · exact h
  · show 0 + 1024 ≤ 1024; omega
abbrev blkR (n : ℕ) (h : n + 256 ≤ 2048) : Rect S2048x1024 := Rect.unit (s := S2048x1024) ![n, 0] S256x1024.size (blkR_inb n h)

theorem mem_rows (n m : ℕ) (size : Fin 2 → ℕ) (h0 : size 0 = m) (h1 : size 1 = 1024)
    (hi : ∀ a : Fin 2, (![n, 0] : Fin 2 → ℕ) a + size a ≤ S2048x1024.size a) (i : S2048x1024.Idx) :
    i ∈ (Rect.unit (s := S2048x1024) ![n, 0] size hi).set ↔ n ≤ (i 0).val ∧ (i 0).val < n + m := by
  rw [Rect.mem_set_unit]
  constructor
  · intro h
    have := h 0
    rw [h0] at this
    exact this
  · rintro ⟨ha, hb⟩ a
    fin_cases a
    · exact ⟨ha, by show _ < n + size 0; rw [h0]; exact hb⟩
    · refine ⟨Nat.zero_le _, ?_⟩
      show (i 1).val < 0 + size 1
      rw [h1, Nat.zero_add]; exact (i 1).isLt

theorem blk_union (n : ℕ) (h : n + 256 ≤ 2048) :
    (blkR n h).set = (rowR n (by omega)).set ∪ (rowR (n + 128) (by omega)).set := by
  ext i
  rw [Finset.mem_union, mem_rows n 256 _ rfl rfl, mem_rows n 128 _ rfl rfl, mem_rows (n + 128) 128 _ rfl rfl]
  omega
theorem row_disjoint (n m : ℕ) (hn : n + 128 ≤ 2048) (hm : m + 128 ≤ 2048) (h : n + 128 ≤ m ∨ m + 128 ≤ n) :
    Disjoint (rowR n hn).set (rowR m hm).set := by
  rw [Finset.disjoint_left]
  intro i h1 h2
  rw [mem_rows n 128 _ rfl rfl] at h1
  rw [mem_rows m 128 _ rfl rfl] at h2
  omega

theorem row_congr {a b : ℕ} {ha : a + 128 ≤ 2048} {hb : b + 128 ≤ 2048} (h : a = b) : rowR a ha = rowR b hb := by
  subst h; rfl

variable (c : Dev nD)

/-- A block of 256 rows is its two chunks. -/
theorem two_chunks (M : Memref sig .tc .vmem S2048x1024 .f32) (n : ℕ) (h : n + 256 ≤ 2048) (q : PosShare TreeShare)
    (f : Buf (Elt F) (M.view.loc (c : Thread nD τ))) :
    ptR c M (blkR n h) q f = iprop(ptR c M (rowR n (by omega)) q f ∗ ptR c M (rowR (n + 128) (by omega)) q f) := by
  have hd : Disjoint (M.view.setOn (rowR n (by omega)).set) (M.view.setOn (rowR (n + 128) (by omega)).set) :=
    (Finset.disjoint_map _).mpr (row_disjoint _ _ _ _ (.inl le_rfl))
  have hu : M.view.setOn (blkR n h).set = M.view.setOn (rowR n (by omega)).set ∪ M.view.setOn (rowR (n + 128) (by omega)).set := by
    rw [blk_union n h]; exact Finset.map_union _ _
  unfold ptR
  rw [hu]
  exact BI.equiv_iff.mp ⟨(pointsTo_union hd).1, (pointsTo_union hd).2⟩

theorem two_chunks_any (M : Memref sig .tc .vmem S2048x1024 .f32) (n : ℕ) (h : n + 256 ≤ 2048) (q : PosShare TreeShare) :
    iprop((∃ f, ptR (F := F) c M (rowR n (by omega)) q f) ∗ ∃ f, ptR (F := F) c M (rowR (n + 128) (by omega)) q f)
      ⊢ iprop(∃ f, ptR (F := F) c M (blkR n h) q f) := by
  have hd : Disjoint (M.view.setOn (rowR n (by omega)).set) (M.view.setOn (rowR (n + 128) (by omega)).set) :=
    (Finset.disjoint_map _).mpr (row_disjoint _ _ _ _ (.inl le_rfl))
  have hu : M.view.setOn (blkR n h).set = M.view.setOn (rowR n (by omega)).set ∪ M.view.setOn (rowR (n + 128) (by omega)).set := by
    rw [blk_union n h]; exact Finset.map_union _ _
  unfold ptR
  rw [hu]
  iintro ⟨⟨%f, H⟩, ⟨%g, H'⟩⟩
  iexists _
  iapply (pointsTo_join hd) $$ [H H']
  isplitl [H] <;> iassumption

/-- A piece after a store that covers it: any contents that read there as what was stored. -/
theorem stored {sp : Space} {S : Shape} {e : EltTy} (M : Memref sig .tc sp S e) (R : Rect S) (q : PosShare TreeShare)
    (f g : Buf (Elt F) (M.view.loc (c : Thread nD τ))) (v : R.shape.Idx → Elt F e)
    (h : M.view.readAt (Elt F) R.toLoadRect g = v) :
    ptR c M R q (M.view.writes (Elt F) f [⟨R, v⟩]) = ptR c M R q g := by
  subst h
  show ptR c M R q ((M.view.slice R).write (Elt F) f ((M.view.slice R).read (Elt F) g) Finset.univ) = _
  rw [View.write_read_eq_piecewise]
  exact pointsTo_congr fun i hi => Finset.piecewise_eq_of_mem _ _ _ (by rw [View.setOn_univ, set_rect]; exact hi)

variable (CT : CtxT F) (SC : ScT F) (SM : SmT F) (SL : SlT F) (OC : (cc0_stg3_0 : Ref sig .tc).ty.Contents (Elt F))
variable (κ : GSem nD τ sig → ℕ) {n : ℕ} {α : Type}

abbrev woR : Rect S1024x1024 := Rect.unit (s := S1024x1024) ![0, 0] S1024x1024.size inb_S1024x1024_S1024x1024_0_0

/-- The output is right when every chunk of it is the chunk of context rows projected. -/
def OutOk (CT : CtxT F) (wo : (cc0_stg2_0 : Ref sig .tc).ty.Contents (Elt F)) (OC : (cc0_stg3_0 : Ref sig .tc).ty.Contents (Elt F)) : Prop :=
  ∀ i : Fin 16, mOut.view.readAt (Elt F) (chunkR i).toLoadRect OC
    = k0_pay237 (mCtx.view.readAt (Elt F) (chunkR i).toLoadRect CT) (mWo.view.readAt (Elt F) woR.toLoadRect wo)
/-- The same by blocks. -/
def OutOk2 (CT : CtxT F) (wo : (cc0_stg2_0 : Ref sig .tc).ty.Contents (Elt F)) (OC : (cc0_stg3_0 : Ref sig .tc).ty.Contents (Elt F)) : Prop :=
  ∀ (m : ℕ) (h : m + 256 ≤ 2048), 256 ∣ m → mOut.view.readAt (Elt F) (blkR m h).toLoadRect OC
    = k0_pay182 (mCtx.view.readAt (Elt F) (blkR m h).toLoadRect CT) (mWo.view.readAt (Elt F) woR.toLoadRect wo)

/-- A chunk's arrival. -/
theorem arr_chunk {k : Fin 46} (h1 : (tr c)[n]? = some (.arr, k)) (hk : k.val < 20)
    (h : (talk k ∧ k.val < 23) ∧ act c k = true ∧ (sta c n).f k = 1 ∧ (sta c n).g k = 0
      ∧ (∀ a ∈ debts c (left c n), a.1.1.2 = .tc ∧ lev c (dm k) < lv a.1 ()) ∧ left c (n + 1) = left c n)
    {sem : DmaSem sig} (hs : sem = k) {m : ℕ}
    {hi : ∀ a : Fin 2, (![m, 0] : Fin 2 → ℕ) a + S128x1024.size a ≤ S2048x1024.size a}
    {g1 g2 : ∀ a, (Rect.unit (s := S2048x1024) ![m, 0] S128x1024.size hi).stride a = 1}
    {hsrc : (mCtx.slice (Rect.unit (s := S2048x1024) ![m, 0] S128x1024.size hi) g1).view.WordExact}
    {hdst : (mCtx.slice (Rect.unit (s := S2048x1024) ![m, 0] S128x1024.size hi) g2).view.WordExact}
    {kk : PUnit → Prog (TpuEff nD τ sig (Elt F) Λ₀ .tc) α} {Q : α → sProp 𝕄} :
    iprop(At CT SC SM SL OC κ c n ∗ Owe c n)
      ⊢ iprop(((At CT SC SM SL OC κ c (n + 1) ∗ Owe c (n + 1)) -∗ wp frame (wpE (defs₀ (F := F)) Variants.none c none) Set.univ (kk ⟨⟩) Q)
          -∗ wp frame (wpE (defs₀ (F := F)) Variants.none c none) Set.univ (.op (.waitDma2 sem
              (mCtx.slice (Rect.unit (s := S2048x1024) ![m, 0] S128x1024.size hi) g1)
              (mCtx.slice (Rect.unit (s := S2048x1024) ![m, 0] S128x1024.size hi) g2) hsrc hdst) kk) Q) :=
  at_arr CT SC SM SL OC κ c k ⟨h1, h⟩ hs (chunk_credit k (.inl hk) _ _ _)

/-- A chunk's source is free again. -/
theorem sent_chunk {k : Fin 46} (h1 : (tr c)[n]? = some (.sent, k)) (hk : 23 ≤ (k + 19).val ∧ (k + 19).val < 39)
    (h : (talk (k + 19) ∧ ¬ (k + 19).val < 23) ∧ act c (k + 19) = true ∧ (sta c n).f (k + 19) = 1 ∧ (sta c n).g k = 1
      ∧ (∀ a ∈ debts c (left c n), a.1.1.2 = .tc ∧ lev c (dm (k + 19)) < lv a.1 ()) ∧ left c (n + 1) = left c n)
    {sem : DmaSem sig} (hs : sem = k + 19) {m : ℕ}
    {hi : ∀ a : Fin 2, (![m, 0] : Fin 2 → ℕ) a + S128x1024.size a ≤ S2048x1024.size a}
    {g1 g2 : ∀ a, (Rect.unit (s := S2048x1024) ![m, 0] S128x1024.size hi).stride a = 1}
    {hsrc : (mCtx.slice (Rect.unit (s := S2048x1024) ![m, 0] S128x1024.size hi) g1).view.WordExact}
    {hdst : (mCtx.slice (Rect.unit (s := S2048x1024) ![m, 0] S128x1024.size hi) g2).view.WordExact}
    {kk : PUnit → Prog (TpuEff nD τ sig (Elt F) Λ₀ .tc) α} {Q : α → sProp 𝕄} :
    iprop(At CT SC SM SL OC κ c n ∗ Owe c n)
      ⊢ iprop(((At CT SC SM SL OC κ c (n + 1) ∗ Owe c (n + 1)) -∗ wp frame (wpE (defs₀ (F := F)) Variants.none c none) Set.univ (kk ⟨⟩) Q)
          -∗ wp frame (wpE (defs₀ (F := F)) Variants.none c none) Set.univ (.op (.waitDma2 sem
              (mCtx.slice (Rect.unit (s := S2048x1024) ![m, 0] S128x1024.size hi) g1)
              (mCtx.slice (Rect.unit (s := S2048x1024) ![m, 0] S128x1024.size hi) g2) hsrc hdst) kk) Q) :=
  at_sent CT SC SM SL OC κ c k ⟨h1, h⟩ hs (chunk_credit (k + 19) (.inr hk) _ _ _)

/-- A chunk's send. -/
theorem send_chunk {k : Fin 46} (h1 : (tr c)[n]? = some (.send, k)) (hk : k.val < 20)
    (h : (talk k ∧ k.val < 23) ∧ actS c k = true ∧ (sta c n).f (k + 19) = 0 ∧ (sta c n).g k = 2
      ∧ left c n = k :: left c (n + 1))
    (m : ℕ) (hm : m = 128 * (chunkOf k).val)
    {r : Dev nD} (hr : r = tgt c k) {sS sR : DmaSem sig} (hsS : sS = k + 19) (hsR : sR = k)
    {hi : ∀ a : Fin 2, (![m, 0] : Fin 2 → ℕ) a + S128x1024.size a ≤ S2048x1024.size a}
    {g1 g2 : ∀ a, (Rect.unit (s := S2048x1024) ![m, 0] S128x1024.size hi).stride a = 1}
    {hsc : (mCtx.slice (Rect.unit (s := S2048x1024) ![m, 0] S128x1024.size hi) g2).view.ref.isScScratch = false}
    {hsrc : (mCtx.slice (Rect.unit (s := S2048x1024) ![m, 0] S128x1024.size hi) g1).view.WordExact}
    {hdst : (mCtx.slice (Rect.unit (s := S2048x1024) ![m, 0] S128x1024.size hi) g2).view.WordExact}
    {hsem : DmaTarget.Typed .vmem (.dma sR) (.remote (r : Thread nD τ) (mCtx.slice (Rect.unit (s := S2048x1024) ![m, 0] S128x1024.size hi) g2) (.dma sS) hsc)}
    {kk : PUnit → Prog (TpuEff nD τ sig (Elt F) Λ₀ .tc) α} {Q : α → sProp 𝕄} :
    iprop(At CT SC SM SL OC κ c n ∗ Owe c n)
      ⊢ iprop(((At CT SC SM SL OC κ c (n + 1) ∗ Owe c (n + 1)) -∗ wp frame (wpE (defs₀ (F := F)) Variants.none c none) Set.univ (kk ⟨⟩) Q)
          -∗ wp frame (wpE (defs₀ (F := F)) Variants.none c none) Set.univ
            (.op (.enqueueDma (mCtx.slice (Rect.unit (s := S2048x1024) ![m, 0] S128x1024.size hi) g1)
              (.remote (r : Thread nD τ) (mCtx.slice (Rect.unit (s := S2048x1024) ![m, 0] S128x1024.size hi) g2) (.dma sS) hsc) (.dma sR) hsrc hdst hsem) kk) Q) :=
  at_send CT SC SM SL OC κ c (n := n) k ⟨h1, h⟩ hr hsS hsR (src := mCtx.slice (Rect.unit (s := S2048x1024) ![m, 0] S128x1024.size hi) g1)
    (dst := mCtx.slice (Rect.unit (s := S2048x1024) ![m, 0] S128x1024.size hi) g2) (chunk_credit k (.inl hk) _ _ _) CT (chunk_any r k hk m hm)
    (chunk_src CT SC SM SL c k hk m hm) (chunk_dst CT SC SM SL r k hk m hm)

/-! ## Projecting and filling -/

theorem oc_one (k : Fin 46) : oc OC c k 1 = iprop(∃ f, ptR c mOut (chunkR (chunkOf k)) fullShare f) := by
  unfold oc; rw [if_neg (by decide), if_pos rfl]
theorem oc_two (k : Fin 46) : oc OC c k 2 = ptR c mOut (chunkR (chunkOf k)) fullShare OC := by
  unfold oc; rw [if_neg (by decide), if_neg (by decide)]
theorem pc_two (k : Fin 46) : pc CT SC SM SL c k 2 = res CT SC SM SL k c fullShare := by
  unfold pc; rw [if_neg (by decide), if_neg (by decide), if_pos rfl]
  unfold res
  split; · exact (halves _ _).symm
  split; · exact (halves _ _).symm
  split; · exact (halves _ _).symm
  exact (halves _ _).symm
theorem pc_three (k : Fin 46) : pc CT SC SM SL c k 3 = resAny k c := by
  unfold pc; rw [if_neg (by decide), if_neg (by decide), if_neg (by decide)]

/-- A place's right half can be borrowed whenever the place is here. -/
theorem pc_read (k : Fin 46) (s : ℕ) (h : s = 1 ∨ s = 2) :
    pc CT SC SM SL c k s ⊢ iprop(res CT SC SM SL k c rsh ∗ (res CT SC SM SL k c rsh -∗ pc CT SC SM SL c k s)) := by
  rcases h with h | h <;> rw [h]
  · unfold pc; rw [if_neg (by decide), if_pos rfl]
    iintro H; isplitl; · iexact H
    iintro H; iexact H
  · unfold pc; rw [if_neg (by decide), if_neg (by decide), if_pos rfl]
    iintro ⟨H, H'⟩; isplitl [H']; · iexact H'
    iintro H'; isplitl [H] <;> iassumption

theorem Pcs_read {g : Fin 46 → ℕ} (k : Fin 46) (h : g k = 1 ∨ g k = 2) :
    Pcs CT SC SM SL c g ⊢ iprop(res CT SC SM SL k c rsh ∗ (res CT SC SM SL k c rsh -∗ Pcs CT SC SM SL c g)) := by
  have split : Pcs CT SC SM SL c g = iprop(pc CT SC SM SL c k (g k) ∗ bigSep (Finset.univ.erase k) fun j => pc CT SC SM SL c j (g j)) :=
    bigSep_univ_split k
  rw [split]
  iintro ⟨H, Hr⟩
  ihave H := (pc_read c CT SC SM SL k _ h) $$ H
  icases H with ⟨H, Hb⟩
  isplitl [H]; · iexact H
  iintro H
  isplitl [H Hb]; · iapply Hb; iexact H
  iexact Hr

theorem Pcs_read2 {g : Fin 46 → ℕ} (k k' : Fin 46) (hne : k' ≠ k) (h : g k = 1 ∨ g k = 2) (h' : g k' = 1 ∨ g k' = 2) :
    Pcs CT SC SM SL c g ⊢ iprop((res CT SC SM SL k c rsh ∗ res CT SC SM SL k' c rsh)
      ∗ ((res CT SC SM SL k c rsh ∗ res CT SC SM SL k' c rsh) -∗ Pcs CT SC SM SL c g)) := by
  have hm : k' ∈ Finset.univ.erase k := Finset.mem_erase.mpr ⟨hne, Finset.mem_univ _⟩
  have split : Pcs CT SC SM SL c g
      = iprop(pc CT SC SM SL c k (g k) ∗ pc CT SC SM SL c k' (g k') ∗ bigSep ((Finset.univ.erase k).erase k') fun j => pc CT SC SM SL c j (g j)) := by
    refine (bigSep_univ_split k).trans ?_
    exact congrArg (BI.sep (pc CT SC SM SL c k (g k))) (bigSep_erase hm)
  rw [split]
  iintro ⟨H, H', Hr⟩
  ihave H := (pc_read c CT SC SM SL k _ h) $$ H
  ihave H' := (pc_read c CT SC SM SL k' _ h') $$ H'
  icases H with ⟨H, Hb⟩
  icases H' with ⟨H', Hb'⟩
  isplitl [H H']; · isplitl [H] <;> iassumption
  iintro ⟨H, H'⟩
  isplitl [H Hb]; · iapply Hb; iexact H
  isplitl [H' Hb']; · iapply Hb'; iexact H'
  iexact Hr

/-- Projecting a chunk. -/
theorem at_proj (k : Fin 46) (hk : k.val < 20)
    (h : (tr c)[n]? = some (.proj, k) ∧ ((sta c n).g k = 1 ∨ (sta c n).g k = 2) ∧ (sta c n).o k = 1 ∧ left c (n + 1) = left c n)
    (m : ℕ) (hm : m = 128 * (chunkOf k).val) (hi : ∀ a : Fin 2, (![m, 0] : Fin 2 → ℕ) a + S128x1024.size a ≤ S2048x1024.size a)
    {wo : (cc0_stg2_0 : Ref sig .tc).ty.Contents (Elt F)} (hOC : OutOk CT wo OC) :
    iprop(At CT SC SM SL OC κ c n ∗ Owe c n) ⊢ iprop(Owe c (n + 1) ∗ ∃ f, ptR c mCtx (Rect.unit (s := S2048x1024) ![m, 0] S128x1024.size hi) rsh CT
      ∗ ptR c mOut (Rect.unit (s := S2048x1024) ![m, 0] S128x1024.size hi) fullShare f
      ∗ (ptR c mCtx (Rect.unit (s := S2048x1024) ![m, 0] S128x1024.size hi) rsh CT
          -∗ ptR c mOut (Rect.unit (s := S2048x1024) ![m, 0] S128x1024.size hi) fullShare (mOut.view.writes (Elt F) f
              [⟨Rect.unit (s := S2048x1024) ![m, 0] S128x1024.size hi, k0_pay237
                (mCtx.view.readAt (Elt F) (Rect.unit (s := S2048x1024) ![m, 0] S128x1024.size hi).toLoadRect CT)
                (mWo.view.readAt (Elt F) woR.toLoadRect wo)⟩])
          -∗ At CT SC SM SL OC κ c (n + 1))) := by
  subst hm
  obtain ⟨h1, h2, h3, h4⟩ := h
  have hu : At CT SC SM SL OC κ c (n + 1) = iprop(recs CT SC SM SL κ ∗ St c (sta c n).f
      ∗ Pcs CT SC SM SL c (sta c n).g ∗ Ocs OC c (Function.update (sta c n).o k 2)) := by
    unfold At; rw [sta_succ h1]; rfl
  have e1 := oc_one c OC k
  have e2 : ∀ f, ptR c mOut (chunkR (chunkOf k)) fullShare (mOut.view.writes (Elt F) f
              [⟨chunkR (chunkOf k), k0_pay237
                (mCtx.view.readAt (Elt F) (chunkR (chunkOf k)).toLoadRect CT)
                (mWo.view.readAt (Elt F) woR.toLoadRect wo)⟩]) ⊢ oc OC c k 2 := fun f => by
    rw [oc_two, stored c mOut (chunkR (chunkOf k)) fullShare f OC _ (hOC (chunkOf k))]
  have e3 := res_chunk CT SC SM SL k hk c rsh
  have e4 : oc OC c k 1 ⊢ iprop(∃ f, ptR c mOut (chunkR (chunkOf k)) fullShare f) := Entails.of_eq e1
  rw [hu]
  unfold At
  iintro ⟨⟨#HR, HS, HP, HOc⟩, HO⟩
  isplitl [HO]; · iapply (Owe_left c h4); iexact HO
  ihave HP' := (Pcs_read c CT SC SM SL k h2) $$ HP
  icases HP' with ⟨Hr, Hback⟩
  ihave HOc' := (Ocs_turn OC c k h3) $$ HOc
  icases HOc' with ⟨Ho, Hset⟩
  ihave Ho' := e4 $$ Ho
  icases Ho' with ⟨%f, Ho⟩
  iexists f
  isplitl [Hr]; · rw [← e3]; iexact Hr
  isplitl [Ho]; · iexact Ho
  iintro Hr Ho
  isplitr; · iexact HR
  isplitl [HS]; · iexact HS
  isplitl [Hback Hr]; · iapply Hback; rw [e3]; iexact Hr
  iapply Hset
  iapply (e2 f); iexact Ho

/-- Before the load of a chunk to be projected, its pieces are taken out. -/
theorem proj_chunk {k : Fin 46} {m : ℕ} {hi : ∀ a : Fin 2, (![m, 0] : Fin 2 → ℕ) a + S128x1024.size a ≤ S2048x1024.size a}
    {wo : (cc0_stg2_0 : Ref sig .tc).ty.Contents (Elt F)} (hOC : OutOk CT wo OC) (h1 : (tr c)[n]? = some (.proj, k))
    (h : ((sta c n).g k = 1 ∨ (sta c n).g k = 2) ∧ (sta c n).o k = 1 ∧ left c (n + 1) = left c n)
    (hm : m = 128 * (chunkOf k).val ∧ k.val < 20)
    {hl : mCtx.view.LoadsAt (Rect.unit (s := S2048x1024) ![m, 0] S128x1024.size hi).toLoadRect}
    {kk : Vec F S128x1024 .f32 → Prog (TpuEff nD τ sig (Elt F) Λ₀ .tc) α} {Q : α → sProp 𝕄} :
    iprop(At CT SC SM SL OC κ c n ∗ Owe c n) ⊢ iprop((∀ f, (Owe c (n + 1) ∗ ptR c mCtx (Rect.unit (s := S2048x1024) ![m, 0] S128x1024.size hi) rsh CT
        ∗ ptR c mOut (Rect.unit (s := S2048x1024) ![m, 0] S128x1024.size hi) fullShare f
        ∗ (ptR c mCtx (Rect.unit (s := S2048x1024) ![m, 0] S128x1024.size hi) rsh CT
          -∗ ptR c mOut (Rect.unit (s := S2048x1024) ![m, 0] S128x1024.size hi) fullShare (mOut.view.writes (Elt F) f
              [⟨Rect.unit (s := S2048x1024) ![m, 0] S128x1024.size hi, k0_pay237
                (mCtx.view.readAt (Elt F) (Rect.unit (s := S2048x1024) ![m, 0] S128x1024.size hi).toLoadRect CT)
                (mWo.view.readAt (Elt F) woR.toLoadRect wo)⟩])
          -∗ At CT SC SM SL OC κ c (n + 1)))
        -∗ wp frame (wpE (defs₀ (F := F)) Variants.none c none) Set.univ
          (.op (.load mCtx (Rect.unit (s := S2048x1024) ![m, 0] S128x1024.size hi).toLoadRect hl) kk) Q)
      -∗ wp frame (wpE (defs₀ (F := F)) Variants.none c none) Set.univ
          (.op (.load mCtx (Rect.unit (s := S2048x1024) ![m, 0] S128x1024.size hi).toLoadRect hl) kk) Q) := by
  iintro HA Hk
  ihave H := (at_proj c CT SC SM SL OC κ k hm.2 ⟨h1, h⟩ m hm.1 hi hOC) $$ HA
  icases H with ⟨HO, ⟨%f, H⟩⟩
  iapply Hk $$ %f
  isplitl [HO] <;> iassumption

/-- Two members of a family change at once. -/
theorem turn2 (P : Fin 46 → ℕ → sProp 𝕄) (f : Fin 46 → ℕ) (k k' : Fin 46) (hne : k' ≠ k) (a s s' : ℕ) (h : f k = a) (h' : (Function.update f k s) k' = a) :
    bigSep Finset.univ (fun j => P j (f j)) ⊢ iprop((P k a ∗ P k' a)
      ∗ ((P k s ∗ P k' s') -∗ bigSep Finset.univ fun j => P j (Function.update (Function.update f k s) k' s' j))) := by
  have hm : k' ∈ Finset.univ.erase k := Finset.mem_erase.mpr ⟨hne, Finset.mem_univ _⟩
  have split : ∀ g : Fin 46 → ℕ, bigSep Finset.univ (fun j => P j (g j))
      = iprop(P k (g k) ∗ P k' (g k') ∗ bigSep ((Finset.univ.erase k).erase k') fun j => P j (g j)) := fun g => by
    refine (bigSep_univ_split k).trans ?_
    exact congrArg (BI.sep (P k (g k))) (bigSep_erase hm)
  have hrest : bigSep ((Finset.univ.erase k).erase k') (fun j => P j (Function.update (Function.update f k s) k' s' j))
      = bigSep ((Finset.univ.erase k).erase k') fun j => P j (f j) := bigSep_congr fun j hj => by
    rw [Function.update_of_ne (Finset.ne_of_mem_erase hj), Function.update_of_ne (Finset.ne_of_mem_erase (Finset.mem_of_mem_erase hj))]
  rw [Function.update_of_ne hne] at h'
  rw [split f, split (Function.update (Function.update f k s) k' s'), hrest, Function.update_self, Function.update_of_ne hne.symm,
    Function.update_self, h, h']
  iintro ⟨H, H', Hr⟩
  isplitl [H H']; · isplitl [H] <;> iassumption
  iintro ⟨H, H'⟩
  isplitl [H]; · iexact H
  isplitl [H'] <;> iassumption

/-- Projecting a block. -/
theorem at_proj2 (k : Fin 46)
    (h : (tr c)[n]? = some (.proj2, k) ∧ ((sta c n).g k = 1 ∨ (sta c n).g k = 2) ∧ ((sta c n).g (k + 1) = 1 ∨ (sta c n).g (k + 1) = 2)
      ∧ (sta c n).o k = 1 ∧ (Function.update (sta c n).o k 2) (k + 1) = 1 ∧ left c (n + 1) = left c n)
    (m : ℕ) (hm : m = 128 * (chunkOf k).val ∧ m + 128 = 128 * (chunkOf (k + 1)).val ∧ 256 ∣ m ∧ k.val < 20 ∧ (k + 1).val < 20)
    (hi : ∀ a : Fin 2, (![m, 0] : Fin 2 → ℕ) a + S256x1024.size a ≤ S2048x1024.size a)
    {wo : (cc0_stg2_0 : Ref sig .tc).ty.Contents (Elt F)} (hOC : OutOk2 CT wo OC) :
    iprop(At CT SC SM SL OC κ c n ∗ Owe c n) ⊢ iprop(Owe c (n + 1) ∗ ∃ f, ptR c mCtx (Rect.unit (s := S2048x1024) ![m, 0] S256x1024.size hi) rsh CT
      ∗ ptR c mOut (Rect.unit (s := S2048x1024) ![m, 0] S256x1024.size hi) fullShare f
      ∗ (ptR c mCtx (Rect.unit (s := S2048x1024) ![m, 0] S256x1024.size hi) rsh CT
          -∗ ptR c mOut (Rect.unit (s := S2048x1024) ![m, 0] S256x1024.size hi) fullShare (mOut.view.writes (Elt F) f
              [⟨Rect.unit (s := S2048x1024) ![m, 0] S256x1024.size hi, k0_pay182
                (mCtx.view.readAt (Elt F) (Rect.unit (s := S2048x1024) ![m, 0] S256x1024.size hi).toLoadRect CT)
                (mWo.view.readAt (Elt F) woR.toLoadRect wo)⟩])
          -∗ At CT SC SM SL OC κ c (n + 1))) := by
  obtain ⟨h1, h2, h2', h3, h3', h4⟩ := h
  obtain ⟨hm1, hm2, hm3, hk1, hk2⟩ := hm
  have hb : m + 256 ≤ 2048 := hi 0
  have hu : At CT SC SM SL OC κ c (n + 1) = iprop(recs CT SC SM SL κ ∗ St c (sta c n).f
      ∗ Pcs CT SC SM SL c (sta c n).g ∗ Ocs OC c (Function.update (Function.update (sta c n).o k 2) (k + 1) 2)) := by
    unfold At; rw [sta_succ h1]; rfl
  have c1 : chunkR (chunkOf k) = rowR m (by omega) := row_congr hm1.symm
  have c2 : chunkR (chunkOf (k + 1)) = rowR (m + 128) (by omega) := row_congr hm2.symm
  have e1 : iprop(oc OC c k 1 ∗ oc OC c (k + 1) 1) ⊢ iprop(∃ f, ptR c mOut (blkR m hb) fullShare f) := by
    rw [oc_one, oc_one, c1, c2]; exact two_chunks_any c mOut m hb fullShare
  have e2 : ∀ f, ptR c mOut (blkR m hb) fullShare (mOut.view.writes (Elt F) f
              [⟨blkR m hb, k0_pay182
                (mCtx.view.readAt (Elt F) (blkR m hb).toLoadRect CT)
                (mWo.view.readAt (Elt F) woR.toLoadRect wo)⟩]) ⊢ iprop(oc OC c k 2 ∗ oc OC c (k + 1) 2) := fun f => by
    rw [oc_two, oc_two, stored c mOut (blkR m hb) fullShare f OC _ (hOC m hb hm3), c1, c2, two_chunks c mOut m hb]
  have e3 : iprop(res CT SC SM SL k c rsh ∗ res CT SC SM SL (k + 1) c rsh) = ptR c mCtx (blkR m hb) rsh CT := by
    rw [res_chunk CT SC SM SL k hk1, res_chunk CT SC SM SL (k + 1) hk2, c1, c2, two_chunks c mCtx m hb]
  rw [hu]
  unfold At
  iintro ⟨⟨#HR, HS, HP, HOc⟩, HO⟩
  isplitl [HO]; · iapply (Owe_left c h4); iexact HO
  ihave HP' := (Pcs_read2 c CT SC SM SL k (k + 1) (by omega) h2 h2') $$ HP
  icases HP' with ⟨Hr, Hback⟩
  have e6 : Ocs OC c (sta c n).o ⊢ _ := turn2 (fun k s => oc OC c k s) (sta c n).o k (k + 1) (by omega) 1 2 2 h3 h3'
  ihave HOc' := e6 $$ HOc
  icases HOc' with ⟨Ho, Hset⟩
  ihave Ho' := e1 $$ Ho
  icases Ho' with ⟨%f, Ho⟩
  iexists f
  isplitl [Hr]; · rw [← e3]; iexact Hr
  isplitl [Ho]; · iexact Ho
  iintro Hr Ho
  isplitr; · iexact HR
  isplitl [HS]; · iexact HS
  isplitl [Hback Hr]; · iapply Hback; rw [e3]; iexact Hr
  unfold Ocs
  iapply Hset
  iapply (e2 f); iexact Ho

/-- A block of context rows is stored. -/
theorem at_fill2 (k : Fin 46)
    (h : (tr c)[n]? = some (.fill2, k) ∧ (sta c n).g k = 3 ∧ (Function.update (sta c n).g k 2) (k + 1) = 3 ∧ left c (n + 1) = left c n)
    (m : ℕ) (hm : m = 128 * (chunkOf k).val ∧ m + 128 = 128 * (chunkOf (k + 1)).val ∧ k.val < 20 ∧ (k + 1).val < 20)
    (hi : ∀ a : Fin 2, (![m, 0] : Fin 2 → ℕ) a + S256x1024.size a ≤ S2048x1024.size a) :
    At CT SC SM SL OC κ c n ⊢ iprop(∃ f, ptR c mCtx (Rect.unit (s := S2048x1024) ![m, 0] S256x1024.size hi) fullShare f
      ∗ (ptR c mCtx (Rect.unit (s := S2048x1024) ![m, 0] S256x1024.size hi) fullShare CT
          -∗ At CT SC SM SL OC κ c (n + 1))) := by
  obtain ⟨h1, h2, h3, h4⟩ := h
  obtain ⟨hm1, hm2, hk1, hk2⟩ := hm
  have hb : m + 256 ≤ 2048 := hi 0
  have hu : At CT SC SM SL OC κ c (n + 1) = iprop(recs CT SC SM SL κ ∗ St c (sta c n).f
      ∗ Pcs CT SC SM SL c (Function.update (Function.update (sta c n).g k 2) (k + 1) 2) ∗ Ocs OC c (sta c n).o) := by
    unfold At; rw [sta_succ h1]; rfl
  have c1 : chunkR (chunkOf k) = rowR m (by omega) := row_congr hm1.symm
  have c2 : chunkR (chunkOf (k + 1)) = rowR (m + 128) (by omega) := row_congr hm2.symm
  have e1 : iprop(pc CT SC SM SL c k 3 ∗ pc CT SC SM SL c (k + 1) 3) ⊢ iprop(∃ f, ptR c mCtx (blkR m hb) fullShare f) := by
    rw [pc_three, pc_three, resAny_chunk k hk1, resAny_chunk (k + 1) hk2, c1, c2]; exact two_chunks_any c mCtx m hb fullShare
  have e2 : ptR c mCtx (blkR m hb) fullShare CT ⊢ iprop(pc CT SC SM SL c k 2 ∗ pc CT SC SM SL c (k + 1) 2) := by
    rw [pc_two, pc_two, res_chunk CT SC SM SL k hk1, res_chunk CT SC SM SL (k + 1) hk2, c1, c2, two_chunks c mCtx m hb]
  rw [hu]
  unfold At
  iintro ⟨#HR, HS, HP, HOc⟩
  have e6 : Pcs CT SC SM SL c (sta c n).g ⊢ _ := turn2 (fun k s => pc CT SC SM SL c k s) (sta c n).g k (k + 1) (by omega) 3 2 2 h2 h3
  ihave HP' := e6 $$ HP
  icases HP' with ⟨Ho, Hset⟩
  ihave Ho' := e1 $$ Ho
  icases Ho' with ⟨%f, Ho⟩
  iexists f
  isplitl [Ho]; · iexact Ho
  iintro Ho
  isplitr; · iexact HR
  isplitl [HS]; · iexact HS
  isplitr [HOc]
  · unfold Pcs
    iapply Hset
    iapply e2; iexact Ho
  iexact HOc

/-- A sliver buffer is stored. -/
theorem at_fill (k : Fin 46)
    (h : (tr c)[n]? = some (.fill, k) ∧ (sta c n).g k = 3) :
    At CT SC SM SL OC κ c n ⊢ iprop(resAny k c ∗ (res CT SC SM SL k c fullShare -∗ At CT SC SM SL OC κ c (n + 1))) := by
  obtain ⟨h1, h2⟩ := h
  have hu : At CT SC SM SL OC κ c (n + 1) = iprop(recs CT SC SM SL κ ∗ St c (sta c n).f
      ∗ Pcs CT SC SM SL c (Function.update (sta c n).g k 2) ∗ Ocs OC c (sta c n).o) := by
    unfold At; rw [sta_succ h1]; rfl
  rw [hu, ← pc_three c CT SC SM SL, ← pc_two]
  unfold At
  iintro ⟨#HR, HS, HP, HOc⟩
  ihave HP' := (Pcs_turn CT SC SM SL c k h2) $$ HP
  icases HP' with ⟨Ho, Hset⟩
  isplitl [Ho]; · iexact Ho
  iintro Ho
  isplitr; · iexact HR
  isplitl [HS]; · iexact HS
  isplitr [HOc]
  · iapply Hset; iexact Ho
  iexact HOc

end Cert.KernelIdeal.Hand
-- ==== Proof.KI.Ends.lean ====
/-
  The two ends of a device's run: the entry barrier, at which the landing places change hands, and the exit
  barrier; and what is left of the talk afterwards.
-/
module

public import proofs.«01_k».proof.Proof.KI.Moves
public import Idealize.ShloMosaic.Lib.Ring

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

variable (CT : CtxT F) (SC : ScT F) (SM : SmT F) (SL : SlT F) (OC : (cc0_stg3_0 : Ref sig .tc).ty.Contents (Elt F))
variable (κ : GSem nD τ sig → ℕ) (c : Dev nD) {α : Type}

theorem mem_reg (d : Dev nD) (i : Fin 2) : gc d (.reg i) ∈ talkCells := by
  fin_cases i
  · exact mem_bar d
  · exact mem_fin2 d

theorem nxt_ne_prv : ∀ c : Dev nD, nxt c ≠ prv c := by decide

/-- A signal to a neighbour. -/
theorem sig_step (i : Fin 2) (d : Dev nD) (hd : c ∈ nbrs d) {s : Sem sig} (hs : s = i) {r : Dev nD} (hr : r = d) {a : ℤ} (ha : a = ((1 : ℕ) : ℤ))
    (l : List Debt) (W : Waits sig Unit)
    {kk : PUnit → Prog (TpuEff nD τ sig (Elt F) Λ₀ .tc) α} {Q : α → sProp 𝕄} :
    iprop(recs CT SC SM SL κ ∗ owes (c : Thread nD τ) (sumT ((gc d (.reg i), 1) :: l)) W ∗ dutyTok ER (gc d (.reg i)) 0 c
        ∗ (Rd CT SC SM SL).payload (gc d (.reg i)) 0 c ∗ reached ER (gc d (.reg i)) 0)
      ⊢ iprop((owes (c : Thread nD τ) (sumT l) W -∗ wp frame (wpE (defs₀ (F := F)) Variants.none c none) Set.univ (kk ⟨⟩) Q)
          -∗ wp frame (wpE (defs₀ (F := F)) Variants.none c none) Set.univ (.op (.semSignal (r : Thread nD τ) s a) kk) Q) := by
  subst hs hr ha
  iintro ⟨#HR, HO, Ht, Hp, Hr⟩ Hk
  ihave HI := (recs_inv CT SC SM SL κ _ (mem_reg r s)) $$ HR
  iapply (Rounds.wp_signal Variants.none ER (Rd CT SC SM SL) (c : Thread nD τ) none (dst := (r : Thread nD τ)) (sem := s) (r := 0) (d := c)
    (k' := 1) (κ := κ (gc r (.reg s))) (by rw [duties_reg]; exact hd) rfl () (O₀ := sumT ((gc r (.reg s), 1) :: l)) (sumT l) rfl (W := W)) $$ [HI HO Ht Hp Hr]
  · isplitl [HI]; · iexact HI
    isplitl [HO]; · iexact HO
    isplitl [Ht]; · iexact Ht
    isplitl [Hp] <;> iassumption
  iexact Hk

/-- The wait for both neighbours. -/
theorem reg_step (i : Fin 2) {s : Sem sig} (hs : s = i) {a : ℤ} (ha : a = ((2 : ℕ) : ℤ)) (l : List Debt) (W : Waits sig Unit)
    (hl : ∀ a ∈ l, a.1.1.2 = .tc ∧ lev c (.reg i) < lv a.1 ())
    {kk : PUnit → Prog (TpuEff nD τ sig (Elt F) Λ₀ .tc) α} {Q : α → sProp 𝕄} :
    iprop(recs CT SC SM SL κ ∗ owes (c : Thread nD τ) (sumT l) W ∗ atPos ER (gc c (.reg i)) 0 ∅ 0 ∗ cred (tallyAt (gc c (.reg i)) () 2))
      ⊢ iprop((((∃ W, owes (c : Thread nD τ) (sumT l) W) ∗ atPos ER (gc c (.reg i)) 1 ∅ 0
            ∗ (Rd CT SC SM SL).payload (gc c (.reg i)) 0 (nxt c) ∗ (Rd CT SC SM SL).payload (gc c (.reg i)) 0 (prv c))
          -∗ wp frame (wpE (defs₀ (F := F)) Variants.none c none) Set.univ (kk ⟨⟩) Q)
        -∗ wp frame (wpE (defs₀ (F := F)) Variants.none c none) Set.univ (.op (.semWait s a) kk) Q) := by
  subst hs ha
  have hrest : bigSep ((Rd CT SC SM SL).duties (gc c (.reg s)) 0 \ ∅) (fun d => (Rd CT SC SM SL).payload (gc c (.reg s)) 0 d)
      = iprop((Rd CT SC SM SL).payload (gc c (.reg s)) 0 (nxt c) ∗ (Rd CT SC SM SL).payload (gc c (.reg s)) 0 (prv c)) := by
    rw [Finset.sdiff_empty, duties_reg]
    unfold nbrs
    rw [bigSep_insert (by rw [Finset.mem_singleton]; exact nxt_ne_prv c), bigSep_singleton]
    rfl
  have he : 0 + 2 = (Rd CT SC SM SL).expect (gc c (.reg s)) 0 := by rw [expect_reg]
  iintro ⟨#HR, HO, Hat, Hcr⟩ Hk
  ihave HI := (recs_inv CT SC SM SL κ _ (mem_reg c s)) $$ HR
  ihave HL := (recs_levs CT SC SM SL κ) $$ HR
  ihave HM := (mayWait c (.reg s) l hl) $$ HL
  iapply (Rounds.wp_wait_rest_token Variants.none ER (Rd CT SC SM SL) (c : Thread nD τ) none (κ := κ (gc c (.reg s))) (sm := .reg s) (k' := 2)
    (wpE_semWait_eq Variants.none (c : Thread nD τ) none Set.univ) (Set.mem_univ _) () (O := sumT l) (W := W) (R := 0) (m := 0) (T := ∅) he) $$ [HI Hcr HO HM Hat]
  · isplitl [HI]; · iexact HI
    isplitl [Hcr]; · iexact Hcr
    isplitl [HO]; · iexact HO
    isplitl [HM] <;> iassumption
  rw [hrest]
  iintro ⟨HO, Hat, -, Hp⟩
  iapply Hk
  isplitl [HO]; · iexists _; iexact HO
  isplitl [Hat] <;> iassumption

/-! ## Before the barrier -/

/-- The places hops carry, all of them here: those that are landed on together with the fact that their counter is open. -/
def place (k : Fin 46) : sProp 𝕄 :=
  if actR c k = true then iprop(reached ER (gc c (dm k)) 0 ∗ resAny k c)
  else if 4 ≤ k.val ∧ k.val < 23 then resAny k c else iprop(emp)

/-- A counter of the talk before the barrier. -/
def ctr0 (k : Fin 46) : sProp 𝕄 :=
  if talk k then (if act c k = true then
      (if k.val < 23 then iprop(atPos ER (gc c (dm k)) 0 ∅ 0 ∗ cred (tallyAt (gc c (dm k)) () (amt k)))
        else iprop(atPos ER (gc c (dm k)) 0 ∅ 0 ∗ dutyTok ER (gc c (dm k)) 0 0 ∗ reached ER (gc c (dm k)) 0
          ∗ dutyTok ER (gc (tgt c (k - 19)) (dm (k - 19))) 0 0))
      else atPos ER (gc c (dm k)) 0 ∅ 0)
    else iprop(emp)

/-- The exit barrier's part. -/
def FinT : sProp 𝕄 :=
  iprop(atPos ER (gc c fin2) 0 ∅ 0 ∗ cred (tallyAt (gc c fin2) () 2) ∗ dutyTok ER (gc (prv c) fin2) 0 c ∗ dutyTok ER (gc (nxt c) fin2) 0 c)

/-- All a device enters its run with, of the talk. -/
def Pre : sProp 𝕄 :=
  iprop(recs CT SC SM SL κ ∗ (∃ W : Waits sig Unit, owes (c : Thread nD τ) (sumT (barDebts c ++ debts c (hops c))) W)
    ∗ (atPos ER (gc c bar) 0 ∅ 0 ∗ cred (tallyAt (gc c bar) () 2))
    ∗ (dutyTok ER (gc (prv c) bar) 0 c ∗ dutyTok ER (gc (nxt c) bar) 0 c)
    ∗ (reached ER (gc (prv c) bar) 0 ∗ reached ER (gc (nxt c) bar) 0 ∗ reached ER (gc c fin2) 0)
    ∗ FinT c ∗ bigSep Finset.univ (fun k => ctr0 c k) ∗ bigSep Finset.univ (fun k => place c k) ∗ Ocs OC c (sta c 0).o)

/-- What is kept through the run for the exit. -/
def Mid : sProp 𝕄 :=
  iprop(FinT c ∗ (reached ER (gc (prv c) fin2) 0 ∗ reached ER (gc (nxt c) fin2) 0) ∗ atPos ER (gc c bar) 1 ∅ 0)

/-- The landing places a device's neighbour sends to. -/
def given (d p : Dev nD) (k : Fin 46) : sProp 𝕄 :=
  if actS d k = true ∧ tgt d k = p then iprop(reached ER (gc p (dm k)) 0 ∗ resAny k p) else iprop(emp)

theorem barPay_eq (d p : Dev nD) : barPay (F := F) d p = iprop(reached ER (gc p fin2) 0 ∗ bigSep Finset.univ fun k => given d p k) := by
  unfold barPay given; rw [bigSep_filter]; rfl

theorem who : ∀ (c : Dev nD) (k : Fin 46),
    (actR c k = true → ((actS (prv c) k = true ∧ tgt (prv c) k = c) ∧ ¬(actS (nxt c) k = true ∧ tgt (nxt c) k = c)
        ∨ ¬(actS (prv c) k = true ∧ tgt (prv c) k = c) ∧ (actS (nxt c) k = true ∧ tgt (nxt c) k = c)) ∧ 4 ≤ k.val ∧ k.val < 23)
      ∧ (actR c k = false → ¬(actS (prv c) k = true ∧ tgt (prv c) k = c) ∧ ¬(actS (nxt c) k = true ∧ tgt (nxt c) k = c)) := by decide

theorem place_split (k : Fin 46) : place (F := F) c k ⊢ iprop(given (prv c) c k ∗ given (nxt c) c k ∗ pc CT SC SM SL c k ((sta c 0).g k)) := by
  have hg : (sta c 0).g k = if 4 ≤ k.val ∧ k.val < 23 then (if actR c k then 0 else 3) else 0 := rfl
  have h3 : pc CT SC SM SL c k 3 = resAny k c := pc_three c CT SC SM SL k
  have h0 : pc CT SC SM SL c k 0 = iprop(emp) := if_pos rfl
  rw [hg]
  unfold place given
  cases h : actR c k with
  | true =>
    obtain ⟨h1, h2⟩ := (who c k).1 h
    rw [if_pos rfl, if_pos h2, if_pos rfl, h0]
    rcases h1 with ⟨h1, h1'⟩ | ⟨h1, h1'⟩
    · rw [if_pos h1, if_neg h1']
      iintro H; isplitl; · iexact H
      isplitr <;> iempintro
    · rw [if_neg h1, if_pos h1']
      iintro H; isplitr; · iempintro
      isplitl; · iexact H
      iempintro
  | false =>
    obtain ⟨h1, h1'⟩ := (who c k).2 h
    rw [if_neg (by decide), if_neg h1, if_neg h1']
    split
    · rw [if_neg (by decide), h3]
      iintro H; isplitr; · iempintro
      isplitr; · iempintro
      iexact H
    · rw [h0]
      iintro H; isplitr; · iempintro
      isplitr; · iempintro
      iexact H

theorem places_split : bigSep Finset.univ (fun k => place (F := F) c k)
    ⊢ iprop(bigSep Finset.univ (fun k => given (prv c) c k) ∗ bigSep Finset.univ (fun k => given (nxt c) c k) ∗ Pcs CT SC SM SL c (sta c 0).g) := by
  unfold Pcs
  rw [← bigSep_sep', ← bigSep_sep']
  exact bigSep_mono fun k _ => place_split CT SC SM SL c k

/-- What came from the neighbours, counted by the source counters. -/
theorem whom : ∀ (c : Dev nD) (k : Fin 46),
    (talk k ∧ act c k = true ∧ ¬ k.val < 23 → actS c (k - 19) = true
      ∧ (tgt c (k - 19) = nxt c ∧ ¬ tgt c (k - 19) = prv c ∨ ¬ tgt c (k - 19) = nxt c ∧ tgt c (k - 19) = prv c))
    ∧ (¬(talk k ∧ act c k = true ∧ ¬ k.val < 23) → ¬ actS c (k - 19) = true) := by decide

theorem ctr_join (k : Fin 46) : iprop(ctr0 (F := F) c k ∗ given c (nxt c) (k - 19) ∗ given c (prv c) (k - 19)) ⊢ cst c k (st0 c k) := by
  unfold ctr0 st0 given
  by_cases ht : talk k
  swap
  · have h := (whom c k).2 (fun x => ht x.1)
    rw [if_neg ht, if_neg ht, if_neg (fun x => h x.1), if_neg (fun x => h x.1)]
    unfold cst; rw [if_neg (by decide), if_neg (by decide), if_neg (by decide), if_neg (by decide)]
    iintro -; iempintro
  by_cases ha : act c k = true
  swap
  · have h := (whom c k).2 (fun x => ha x.2.1)
    rw [if_pos ht, if_pos ht, if_neg ha, if_neg ha, if_neg (fun x => h x.1), if_neg (fun x => h x.1), cst_three]
    iintro ⟨H, -⟩; iexact H
  by_cases hk : k.val < 23
  · have h := (whom c k).2 (fun x => x.2.2 hk)
    rw [if_pos ht, if_pos ht, if_pos ha, if_pos ha, if_pos hk, if_pos hk, if_neg (fun x => h x.1), if_neg (fun x => h x.1), cst_one]
    iintro ⟨H, -⟩; iexact H
  obtain ⟨h, h'⟩ := (whom c k).1 ⟨ht, ha, hk⟩
  rw [if_pos ht, if_pos ht, if_pos ha, if_pos ha, if_neg hk, if_neg hk, cst_zero]
  unfold hopTok
  rw [sub_add_cancel]
  rcases h' with ⟨h1, h2⟩ | ⟨h1, h2⟩
  · have hA : actS c (k - 19) = true ∧ tgt c (k - 19) = nxt c := ⟨h, h1⟩
    have hB : ¬(actS c (k - 19) = true ∧ tgt c (k - 19) = prv c) := fun x => h2 x.2
    rw [if_pos hA, if_neg hB, ← h1]
    iintro ⟨⟨H1, H2, H3, H4⟩, ⟨H5, H6⟩, -⟩
    isplitl [H1]; · iexact H1
    isplitl [H2]; · iexact H2
    isplitl [H3]; · iexact H3
    isplitl [H4]; · iexact H4
    isplitl [H5] <;> iassumption
  · have hA : actS c (k - 19) = true ∧ tgt c (k - 19) = prv c := ⟨h, h2⟩
    have hB : ¬(actS c (k - 19) = true ∧ tgt c (k - 19) = nxt c) := fun x => h1 x.2
    rw [if_pos hA, if_neg hB, ← h2]
    iintro ⟨⟨H1, H2, H3, H4⟩, -, ⟨H5, H6⟩⟩
    isplitl [H1]; · iexact H1
    isplitl [H2]; · iexact H2
    isplitl [H3]; · iexact H3
    isplitl [H4]; · iexact H4
    isplitl [H5] <;> iassumption

theorem ctrs_join : iprop(bigSep Finset.univ (fun k => ctr0 (F := F) c k) ∗ bigSep Finset.univ (fun k => given c (nxt c) k)
    ∗ bigSep Finset.univ (fun k => given c (prv c) k)) ⊢ St c (sta c 0).f := by
  have e : ∀ p, bigSep Finset.univ (fun k => given (F := F) c p k) = bigSep Finset.univ fun k => given c p (k - 19) := fun p =>
    bigSep_univ_equiv (Equiv.subRight (19 : Fin 46)) _
  unfold St
  rw [e, e, ← bigSep_sep', ← bigSep_sep']
  exact bigSep_mono fun k _ => ctr_join c k

theorem nbr_mem : ∀ c : Dev nD, c ∈ nbrs (prv c) ∧ c ∈ nbrs (nxt c) := by decide
theorem bar_levels : ∀ c : Dev nD, ∀ a ∈ debts c (hops c), a.1.1.2 = .tc ∧ lev c bar < lv a.1 () := by decide
theorem left_zero : ∀ c : Dev nD, left c 0 = hops c := by decide

/-- After the entry barrier's first signal, and after its second. -/
def Pre1 : sProp 𝕄 :=
  iprop(recs CT SC SM SL κ ∗ (∃ W : Waits sig Unit, owes (c : Thread nD τ) (sumT ((gc (nxt c) bar, 1) :: debts c (hops c))) W)
    ∗ (atPos ER (gc c bar) 0 ∅ 0 ∗ cred (tallyAt (gc c bar) () 2))
    ∗ dutyTok ER (gc (nxt c) bar) 0 c ∗ (reached ER (gc (nxt c) bar) 0 ∗ reached ER (gc c fin2) 0)
    ∗ FinT c ∗ bigSep Finset.univ (fun k => ctr0 c k) ∗ (bigSep Finset.univ (fun k => given (nxt c) c k) ∗ Pcs CT SC SM SL c (sta c 0).g)
    ∗ Ocs OC c (sta c 0).o)
def Pre2 : sProp 𝕄 :=
  iprop(recs CT SC SM SL κ ∗ (∃ W : Waits sig Unit, owes (c : Thread nD τ) (sumT (debts c (hops c))) W)
    ∗ (atPos ER (gc c bar) 0 ∅ 0 ∗ cred (tallyAt (gc c bar) () 2))
    ∗ FinT c ∗ bigSep Finset.univ (fun k => ctr0 c k) ∗ Pcs CT SC SM SL c (sta c 0).g ∗ Ocs OC c (sta c 0).o)

/-- The entry barrier's signals. -/
theorem bar_sig1 {s : Sem sig} (hs : s = (0 : Fin 2)) {r : Dev nD} (hr : r = prv c) {a : ℤ} (ha : a = ((1 : ℕ) : ℤ))
    {kk : PUnit → Prog (TpuEff nD τ sig (Elt F) Λ₀ .tc) α} {Q : α → sProp 𝕄} :
    Pre CT SC SM SL OC κ c
      ⊢ iprop((Pre1 CT SC SM SL OC κ c -∗ wp frame (wpE (defs₀ (F := F)) Variants.none c none) Set.univ (kk ⟨⟩) Q)
        -∗ wp frame (wpE (defs₀ (F := F)) Variants.none c none) Set.univ (.op (.semSignal (r : Thread nD τ) s a) kk) Q) := by
  have p1 : (Rd CT SC SM SL).payload (gc (prv c) bar) 0 c = barPay (prv c) c := rfl
  unfold Pre Pre1
  iintro ⟨#HR, ⟨%W, HO⟩, Hat, ⟨Ht1, Ht2⟩, ⟨Hr1, Hr2, #Hrf⟩, HF, Hc, Hp, Ho⟩ Hk
  ihave Hp' := (places_split CT SC SM SL c) $$ Hp
  icases Hp' with ⟨Hg1, Hg2, HP⟩
  iapply (sig_step CT SC SM SL κ c 0 (prv c) (nbr_mem c).1 hs hr ha ((gc (nxt c) bar, 1) :: debts c (hops c)) W) $$ [HO Ht1 Hr1 Hg1]
  · isplitr; · iexact HR
    isplitl [HO]; · iexact HO
    isplitl [Ht1]; · iexact Ht1
    isplitl [Hg1]
    · rw [p1, barPay_eq]
      isplitr; · iexact Hrf
      iexact Hg1
    iexact Hr1
  iintro HO
  iapply Hk
  isplitr; · iexact HR
  isplitl [HO]; · iexists W; iexact HO
  isplitl [Hat]; · iexact Hat
  isplitl [Ht2]; · iexact Ht2
  isplitl [Hr2]
  · isplitl [Hr2]; · iexact Hr2
    iexact Hrf
  isplitl [HF]; · iexact HF
  isplitl [Hc]; · iexact Hc
  isplitl [Hg2 HP]; · isplitl [Hg2] <;> iassumption
  iexact Ho

theorem bar_sig2 {s : Sem sig} (hs : s = (0 : Fin 2)) {r : Dev nD} (hr : r = nxt c) {a : ℤ} (ha : a = ((1 : ℕ) : ℤ))
    {kk : PUnit → Prog (TpuEff nD τ sig (Elt F) Λ₀ .tc) α} {Q : α → sProp 𝕄} :
    Pre1 CT SC SM SL OC κ c
      ⊢ iprop((Pre2 CT SC SM SL OC κ c -∗ wp frame (wpE (defs₀ (F := F)) Variants.none c none) Set.univ (kk ⟨⟩) Q)
        -∗ wp frame (wpE (defs₀ (F := F)) Variants.none c none) Set.univ (.op (.semSignal (r : Thread nD τ) s a) kk) Q) := by
  have p2 : (Rd CT SC SM SL).payload (gc (nxt c) bar) 0 c = barPay (nxt c) c := rfl
  unfold Pre1 Pre2
  iintro ⟨#HR, ⟨%W, HO⟩, Hat, Ht2, ⟨Hr2, #Hrf⟩, HF, Hc, ⟨Hg2, HP⟩, Ho⟩ Hk
  iapply (sig_step CT SC SM SL κ c 0 (nxt c) (nbr_mem c).2 hs hr ha (debts c (hops c)) W) $$ [HO Ht2 Hr2 Hg2]
  · isplitr; · iexact HR
    isplitl [HO]; · iexact HO
    isplitl [Ht2]; · iexact Ht2
    isplitl [Hg2]
    · rw [p2, barPay_eq]
      isplitr; · iexact Hrf
      iexact Hg2
    iexact Hr2
  iintro HO
  iapply Hk
  isplitr; · iexact HR
  isplitl [HO]; · iexists W; iexact HO
  isplitl [Hat]; · iexact Hat
  isplitl [HF]; · iexact HF
  isplitl [Hc]; · iexact Hc
  isplitl [HP]; · iexact HP
  iexact Ho

/-- The entry barrier's wait: the landing places of the neighbours are here. -/
theorem bar_wait {s : Sem sig} (hs : s = (0 : Fin 2)) {a : ℤ} (ha : a = ((2 : ℕ) : ℤ))
    {kk : PUnit → Prog (TpuEff nD τ sig (Elt F) Λ₀ .tc) α} {Q : α → sProp 𝕄} :
    Pre2 CT SC SM SL OC κ c
      ⊢ iprop(((At CT SC SM SL OC κ c 0 ∗ Owe c 0 ∗ Mid c) -∗ wp frame (wpE (defs₀ (F := F)) Variants.none c none) Set.univ (kk ⟨⟩) Q)
        -∗ wp frame (wpE (defs₀ (F := F)) Variants.none c none) Set.univ (.op (.semWait s a) kk) Q) := by
  have p3 : (Rd CT SC SM SL).payload (gc c bar) 0 (prv c) = barPay c (prv c) := rfl
  have p4 : (Rd CT SC SM SL).payload (gc c bar) 0 (nxt c) = barPay c (nxt c) := rfl
  unfold Pre2
  iintro ⟨#HR, ⟨%W, HO⟩, ⟨Hat, Hcr⟩, HF, Hc, HP, Ho⟩ Hk
  iapply (reg_step CT SC SM SL κ c 0 hs ha (debts c (hops c)) W (bar_levels c)) $$ [HO Hat Hcr]
  · isplitr; · iexact HR
    isplitl [HO]; · iexact HO
    isplitl [Hat] <;> iassumption
  rw [p3, p4, barPay_eq, barPay_eq]
  iintro ⟨HO, Hat, ⟨Hf2, Hg2⟩, ⟨Hf1, Hg1⟩⟩
  iapply Hk
  isplitl [Hc Hg2 Hg1 HP Ho]
  · unfold At
    isplitr; · iexact HR
    isplitl [Hc Hg2 Hg1]
    · iapply (ctrs_join c)
      isplitl [Hc]; · iexact Hc
      isplitl [Hg2] <;> iassumption
    isplitl [HP] <;> iassumption
  isplitl [HO]
  · unfold Owe; rw [left_zero c]; iexact HO
  unfold Mid
  isplitl [HF]; · iexact HF
  isplitl [Hf1 Hf2]; · isplitl [Hf1] <;> iassumption
  iexact Hat

/-- After the exit barrier. -/
def Out : sProp 𝕄 :=
  iprop((∃ W : Waits sig Unit, owes (c : Thread nD τ) (0 : CellTallies nD τ sig Unit) W)
    ∗ atPos ER (gc c bar) 1 ∅ 0 ∗ atPos ER (gc c fin2) 1 ∅ 0)

theorem At_recs (n : ℕ) : At CT SC SM SL OC κ c n ⊢ iprop(recs CT SC SM SL κ ∗ At CT SC SM SL OC κ c n) := by
  unfold At
  iintro ⟨#HR, H⟩
  isplitr; · iexact HR
  isplitr; · iexact HR
  iexact H

/-- During the exit barrier: after its first signal, and after its second. -/
def Fin1 : sProp 𝕄 :=
  iprop((∃ W : Waits sig Unit, owes (c : Thread nD τ) (sumT [(gc (nxt c) fin2, 1)]) W) ∗ atPos ER (gc c fin2) 0 ∅ 0
    ∗ cred (tallyAt (gc c fin2) () 2) ∗ dutyTok ER (gc (nxt c) fin2) 0 c ∗ reached ER (gc (nxt c) fin2) 0 ∗ atPos ER (gc c bar) 1 ∅ 0)
def Fin2 : sProp 𝕄 :=
  iprop((∃ W : Waits sig Unit, owes (c : Thread nD τ) (sumT []) W) ∗ atPos ER (gc c fin2) 0 ∅ 0
    ∗ cred (tallyAt (gc c fin2) () 2) ∗ atPos ER (gc c bar) 1 ∅ 0)

/-- The exit barrier. -/
theorem fin_sig1 {n : ℕ} (hn : left c n = []) {s : Sem sig} (hs : s = (1 : Fin 2)) {r : Dev nD} (hr : r = prv c) {a : ℤ} (ha : a = ((1 : ℕ) : ℤ))
    {kk : PUnit → Prog (TpuEff nD τ sig (Elt F) Λ₀ .tc) α} {Q : α → sProp 𝕄} :
    iprop(At CT SC SM SL OC κ c n ∗ Owe c n ∗ Mid c)
      ⊢ iprop(((At CT SC SM SL OC κ c n ∗ Fin1 c) -∗ wp frame (wpE (defs₀ (F := F)) Variants.none c none) Set.univ (kk ⟨⟩) Q)
        -∗ wp frame (wpE (defs₀ (F := F)) Variants.none c none) Set.univ (.op (.semSignal (r : Thread nD τ) s a) kk) Q) := by
  have p : ∀ d e, (Rd CT SC SM SL).payload (gc d fin2) 0 e = iprop(emp) := fun d e => rfl
  unfold Owe Mid FinT Fin1
  rw [hn]
  iintro ⟨HA, ⟨%W, HO⟩, ⟨Hat, Hcr, Ht1, Ht2⟩, ⟨Hr1, Hr2⟩, Hb⟩ Hk
  ihave HA' := (At_recs CT SC SM SL OC κ c n) $$ HA
  icases HA' with ⟨HR, HA⟩
  iapply (sig_step CT SC SM SL κ c 1 (prv c) (nbr_mem c).1 hs hr ha [(gc (nxt c) fin2, 1)] W) $$ [HR HO Ht1 Hr1]
  · isplitl [HR]; · iexact HR
    isplitl [HO]; · iexact HO
    isplitl [Ht1]; · iexact Ht1
    isplitr; · rw [p]; iempintro
    iexact Hr1
  iintro HO
  iapply Hk
  isplitl [HA]; · iexact HA
  isplitl [HO]; · iexists W; iexact HO
  isplitl [Hat]; · iexact Hat
  isplitl [Hcr]; · iexact Hcr
  isplitl [Ht2]; · iexact Ht2
  isplitl [Hr2] <;> iassumption

theorem fin_sig2 {n : ℕ} {s : Sem sig} (hs : s = (1 : Fin 2)) {r : Dev nD} (hr : r = nxt c) {a : ℤ} (ha : a = ((1 : ℕ) : ℤ))
    {kk : PUnit → Prog (TpuEff nD τ sig (Elt F) Λ₀ .tc) α} {Q : α → sProp 𝕄} :
    iprop(At CT SC SM SL OC κ c n ∗ Fin1 c)
      ⊢ iprop(((At CT SC SM SL OC κ c n ∗ Fin2 c) -∗ wp frame (wpE (defs₀ (F := F)) Variants.none c none) Set.univ (kk ⟨⟩) Q)
        -∗ wp frame (wpE (defs₀ (F := F)) Variants.none c none) Set.univ (.op (.semSignal (r : Thread nD τ) s a) kk) Q) := by
  have p : ∀ d e, (Rd CT SC SM SL).payload (gc d fin2) 0 e = iprop(emp) := fun d e => rfl
  unfold Fin1 Fin2
  iintro ⟨HA, ⟨%W, HO⟩, Hat, Hcr, Ht2, Hr2, Hb⟩ Hk
  ihave HA' := (At_recs CT SC SM SL OC κ c n) $$ HA
  icases HA' with ⟨HR, HA⟩
  iapply (sig_step CT SC SM SL κ c 1 (nxt c) (nbr_mem c).2 hs hr ha [] W) $$ [HR HO Ht2 Hr2]
  · isplitl [HR]; · iexact HR
    isplitl [HO]; · iexact HO
    isplitl [Ht2]; · iexact Ht2
    isplitr; · rw [p]; iempintro
    iexact Hr2
  iintro HO
  iapply Hk
  isplitl [HA]; · iexact HA
  isplitl [HO]; · iexists W; iexact HO
  isplitl [Hat]; · iexact Hat
  isplitl [Hcr] <;> iassumption

theorem fin_wait {n : ℕ} {s : Sem sig} (hs : s = (1 : Fin 2)) {a : ℤ} (ha : a = ((2 : ℕ) : ℤ))
    {kk : PUnit → Prog (TpuEff nD τ sig (Elt F) Λ₀ .tc) α} {Q : α → sProp 𝕄} :
    iprop(At CT SC SM SL OC κ c n ∗ Fin2 c)
      ⊢ iprop(((At CT SC SM SL OC κ c n ∗ Out c) -∗ wp frame (wpE (defs₀ (F := F)) Variants.none c none) Set.univ (kk ⟨⟩) Q)
        -∗ wp frame (wpE (defs₀ (F := F)) Variants.none c none) Set.univ (.op (.semWait s a) kk) Q) := by
  have hl : ∀ a ∈ ([] : List Debt), a.1.1.2 = .tc ∧ lev c fin2 < lv a.1 () := fun a ha => absurd ha (List.not_mem_nil)
  unfold Fin2 Out
  iintro ⟨HA, ⟨%W, HO⟩, Hat, Hcr, Hb⟩ Hk
  ihave HA' := (At_recs CT SC SM SL OC κ c n) $$ HA
  icases HA' with ⟨HR, HA⟩
  iapply (reg_step CT SC SM SL κ c 1 hs ha [] W hl) $$ [HR HO Hat Hcr]
  · isplitl [HR]; · iexact HR
    isplitl [HO]; · iexact HO
    isplitl [Hat] <;> iassumption
  iintro ⟨HO, Hat, -⟩
  iapply Hk
  isplitl [HA]; · iexact HA
  isplitl [HO]; · iexact HO
  isplitl [Hb] <;> iassumption

/-! ## After the run -/

theorem close_cell (g : GSem nD τ sig) (hg : g ∈ talkCells) (R : ℕ) (hR : ∀ r, R ≤ r → (Rd CT SC SM SL).duties g r = ∅) :
    iprop(recs CT SC SM SL κ ∗ atPos ER g R ∅ 0) ⊢ (|={Set.univ}=> semVal g 0 : sProp 𝕄) := by
  iintro ⟨HR, Hat⟩
  ihave HI := (recs_inv CT SC SM SL κ g hg) $$ HR
  iapply (Rounds.cell_close ER (Rd CT SC SM SL) (Set.mem_univ (κ g)) id hR)
  isplitl [HI] <;> iassumption

theorem close_reg (i : Fin 2) : iprop(recs CT SC SM SL κ ∗ atPos ER (gc c (.reg i)) 1 ∅ 0) ⊢ (|={Set.univ}=> semVal (gc c (.reg i)) 0 : sProp 𝕄) :=
  close_cell CT SC SM SL κ _ (mem_reg c i) 1 fun r hr => duties_later CT SC SM SL _ r hr

/-- A counter of the talk, back at zero. -/
def shut (k : Fin 46) : sProp 𝕄 := if talk k then semVal (gc c (dm k)) 0 else iprop(emp)

theorem close_ctr (k : Fin 46) : iprop(recs CT SC SM SL κ ∗ cst c k (stEnd c k)) ⊢ (|={Set.univ}=> shut c k : sProp 𝕄) := by
  unfold stEnd shut
  by_cases ht : talk k
  swap
  · rw [if_neg ht, if_neg ht]
    iintro -; imodintro; iempintro
  rw [if_pos ht, if_pos ht]
  by_cases ha : act c k = true
  · rw [if_pos ha, cst_two]
    exact close_cell CT SC SM SL κ _ (mem_dm c k ht) 1 fun r hr => duties_later CT SC SM SL _ r hr
  · rw [if_neg ha, cst_three]
    exact close_cell CT SC SM SL κ _ (mem_dm c k ht) 0 fun r hr => duties_none CT SC SM SL c k (by simpa using ha) r

theorem close_all : iprop(recs CT SC SM SL κ ∗ St c (stEnd c)) ⊢ (|={Set.univ}=> bigSep Finset.univ (fun k => shut c k) : sProp 𝕄) := by
  unfold St
  exact (bigSep_with_persistent (R := recs CT SC SM SL κ) (Φ := fun k => cst c k (stEnd c k)) (Ψ := fun k => iprop(|={Set.univ}=> shut c k))
    fun k _ => close_ctr CT SC SM SL κ c k).trans (bigSep_fupd _ _)

end Cert.KernelIdeal.Hand
-- ==== Proof.KI.Vals.lean ====
/-
  The values of the run: what device 1 sends of the sliver, and what device 0 stores of the context.
-/
module

public import proofs.«01_k».proof.Proof.KI.Moves
public import Idealize.ShloMosaic.Lib.ValueLayout
public import Idealize.ShloMosaic.Lib.ViewIndex

@[expose] public section

noncomputable section

namespace Cert.KernelIdeal.Hand

open Cert.KernelIdeal Cert.KernelIdeal.Gen
open Idealize.SL Idealize.SL.RA Idealize.SL.BI
open Idealize.ShloMosaic Idealize.ShloMosaic.ValueIdx Idealize.ShloMosaic.TcCoe Idealize.ShloMosaic.Tactic

variable {F : FTy → Type} [FloatOps F] [Named F]

abbrev Sh1 (a : ℕ) : Shape := ⟨1, ![a]⟩
abbrev Sh2 (a b : ℕ) : Shape := ⟨2, ![a, b]⟩
abbrev Sh3 (a b c : ℕ) : Shape := ⟨3, ![a, b, c]⟩

/-- The shape facts of attention of `R` query rows to `N` keys in one head. -/
structure Sz (R N : ℕ) where
  dS : DotDims (Sh2 R 128) (Sh2 N 128) (Sh2 R N)
  dO : DotDims (Sh2 R N) (Sh2 N 128) (Sh2 R 128)
  red : (Sh2 R N).Reduces [1] (Sh1 R)
  col : (Sh1 R).ShapeCasts (Sh2 R 1)
  bc : (Sh2 R 1).Broadcasts (Sh2 R N)
  key : (Sh3 1 N 128).ShapeCasts (Sh2 N 128)
  io0 : (Sh2 R N).Iotas .tc 32 [0]
  io1 : (Sh2 R N).Iotas .tc 32 [1]
  sl : ∀ h : Fin 8, (Sh2 R 1024).Slices ![0, 128 * h.val] (Sh2 R 128)

theorem sl256 : ∀ h : Fin 8, (Sh2 256 1024).Slices ![0, 128 * h.val] (Sh2 256 128) := by decide
theorem sl128 : ∀ h : Fin 8, (Sh2 128 1024).Slices ![0, 128 * h.val] (Sh2 128 128) := by decide

def z3 : Sz 256 384 := ⟨dot_S256x128_S384x128_S256x384_1_1_0_0_n_n, dot_S256x384_S384x128_S256x128_1_0_0_1_n_n, reduces_S256x384_S256,
  shapeCasts_S256_S256x1, broadcasts_S256x1_S256x384, shapeCasts_S1x384x128_S384x128, iota_S256x384_d0_w32, iota_S256x384_d1_w32, sl256⟩
def z5 : Sz 256 512 := ⟨dot_S256x128_S512x128_S256x512_1_1_0_0_n_n, dot_S256x512_S512x128_S256x128_1_0_0_1_n_n, reduces_S256x512_S256,
  shapeCasts_S256_S256x1, broadcasts_S256x1_S256x512, shapeCasts_S1x512x128_S512x128, iota_S256x512_d0_w32, iota_S256x512_d1_w32, sl256⟩
def z1 : Sz 128 128 := ⟨dot_S128x128_S128x128_S128x128_1_1_0_0_n_n, dot_S128x128_S128x128_S128x128_1_0_0_1_n_n, reduces_S128x128_S128,
  shapeCasts_S128_S128x1, broadcasts_S128x1_S128x128, shapeCasts_S1x128x128_S128x128, iota_S128x128_d0_w32, iota_S128x128_d1_w32, sl128⟩

section
variable {R N : ℕ} (z : Sz R N)

/-- Which keys `k0, k0+1, …` rows `q0, q0+1, …` attend to. -/
def maskG (q0 k0 : BitVec 32) : IVec (Sh2 R N) 1 :=
  cmpi .sle (absi (subi (addi (broadcast (Sh2 R N) q0) (iota .tc (Sh2 R N) 32 [0] z.io0))
    (addi (broadcast (Sh2 R N) k0) (iota .tc (Sh2 R N) 32 [1] z.io1)))) (broadcast (Sh2 R N) 128#32)

/-- One head's scores, their row maxima, the exponentials, their row sums, and their sum over the values. -/
def scoreG (mk : IVec (Sh2 R N) 1) (q : FVec F (Sh2 R 1024) .f32) (h : Fin 8) (kh : Vec F (Sh3 1 N 128) .f32) : FVec F (Sh2 R N) .f32 :=
  select mk (mulf (matmul z.dS none (extractStridedSlice (Sh2 R 128) ![0, 128 * h.val] q (z.sl h)) (shapeCast (Sh2 N 128) kh z.key)
    (constant (Sh2 R N) .f32 0x00000000#32)) (broadcast (Sh2 R N) (Scalar.ofBits .f32 0x3DB504F3#32)))
    (broadcast (Sh2 R N) (Named.named κ "mask" 0xCE6E6B28#32))
def maxG (s : FVec F (Sh2 R N) .f32) : FVec F (Sh2 R 1) .f32 :=
  shapeCast (Sh2 R 1) (multiReduction .maximumf [1] (Sh1 R) s 0xFF800000#32 z.red (.inl rfl) rfl) z.col
def expG (s : FVec F (Sh2 R N) .f32) : FVec F (Sh2 R N) .f32 := exp (subf s (broadcastTo (Sh2 R N) (maxG z s) z.bc))
def sumG (s : FVec F (Sh2 R N) .f32) : FVec F (Sh2 R 1) .f32 :=
  shapeCast (Sh2 R 1) (multiReduction .add [1] (Sh1 R) (expG z s) 0x00000000#32 z.red (.inl rfl) rfl) z.col
def accG (s : FVec F (Sh2 R N) .f32) (vh : Vec F (Sh3 1 N 128) .f32) : FVec F (Sh2 R 128) .f32 :=
  matmul z.dO none (expG z s) (shapeCast (Sh2 N 128) vh z.key) (constant (Sh2 R 128) .f32 0x00000000#32)

end

/-- One head of a block that has all its keys. -/
def headG {N : ℕ} (z : Sz 256 N) (s : FVec F (Sh2 256 N) .f32) (vh : Vec F (Sh3 1 N 128) .f32) : FVec F S256x128 .f32 :=
  divf (accG z s vh) (broadcastTo S256x128 (sumG z s) broadcasts_S256x1_S256x128)

/-- One head of the last block: its lower half also attends to the sliver, whose part comes as maxima, sums and values. -/
def mergeG (s : FVec F S256x384 .f32) (vh : Vec F S1x384x128 .f32) (m2 l2 : FVec F S128x1 .f32) (a2 : FVec F S128x128 .f32) :
    FVec F S256x128 .f32 :=
  have m1 : FVec F S128x1 .f32 := extractStridedSlice S128x1 ![128, 0] (maxG z3 s) slices_S256x1_o128_0_S128x1
  have m : FVec F S128x1 .f32 := maximumf m1 m2
  have c1 : FVec F S128x1 .f32 := exp (subf m1 m)
  have c2 : FVec F S128x1 .f32 := exp (subf m2 m)
  have l : FVec F S128x1 .f32 := addf (mulf (extractStridedSlice S128x1 ![128, 0] (sumG z3 s) slices_S256x1_o128_0_S128x1) c1) (mulf l2 c2)
  have a : FVec F S128x128 .f32 := addf
    (mulf (extractStridedSlice S128x128 ![128, 0] (accG z3 s vh) slices_S256x128_o128_0_S128x128) (broadcastTo S128x128 c1 broadcasts_S128x1_S128x128))
    (mulf a2 (broadcastTo S128x128 c2 broadcasts_S128x1_S128x128))
  concatenate S256x128 0 [⟨S128x128, divf (extractStridedSlice S128x128 ![0, 0] (accG z3 s vh) slices_S256x128_o0_0_S128x128)
      (broadcastTo S128x128 (extractStridedSlice S128x1 ![0, 0] (sumG z3 s) slices_S256x1_o0_0_S128x1) broadcasts_S128x1_S128x128)⟩,
    ⟨S128x128, divf a (broadcastTo S128x128 l broadcasts_S128x1_S128x128)⟩] concatenates_S128x128_S128x128_S256x128_d0

/-- Eight heads side by side. -/
def cat256 (v : Fin 8 → FVec F S256x128 .f32) : FVec F S256x1024 .f32 :=
  shapeCast S256x1024 (concatenate S256x1024 1 [⟨S256x128, v 0⟩, ⟨S256x128, v 1⟩, ⟨S256x128, v 2⟩, ⟨S256x128, v 3⟩, ⟨S256x128, v 4⟩,
    ⟨S256x128, v 5⟩, ⟨S256x128, v 6⟩, ⟨S256x128, v 7⟩]
    concatenates_S256x128_S256x128_S256x128_S256x128_S256x128_S256x128_S256x128_S256x128_S256x1024_d1) shapeCasts_S256x1024_S256x1024
def cat128 (v : Fin 8 → FVec F S128x128 .f32) : FVec F S128x1024 .f32 :=
  shapeCast S128x1024 (concatenate S128x1024 1 [⟨S128x128, v 0⟩, ⟨S128x128, v 1⟩, ⟨S128x128, v 2⟩, ⟨S128x128, v 3⟩, ⟨S128x128, v 4⟩,
    ⟨S128x128, v 5⟩, ⟨S128x128, v 6⟩, ⟨S128x128, v 7⟩]
    concatenates_S128x128_S128x128_S128x128_S128x128_S128x128_S128x128_S128x128_S128x128_S128x1024_d1) shapeCasts_S128x1024_S128x1024
def cat8 (v : Fin 8 → FVec F S128x1 .f32) : FVec F S128x8 .f32 :=
  shapeCast S128x8 (concatenate S128x8 1 [⟨S128x1, v 0⟩, ⟨S128x1, v 1⟩, ⟨S128x1, v 2⟩, ⟨S128x1, v 3⟩, ⟨S128x1, v 4⟩,
    ⟨S128x1, v 5⟩, ⟨S128x1, v 6⟩, ⟨S128x1, v 7⟩]
    concatenates_S128x1_S128x1_S128x1_S128x1_S128x1_S128x1_S128x1_S128x1_S128x8_d1) shapeCasts_S128x8_S128x8

/-- The projected queries of 256 and of 128 rows. -/
def q256 (x : Vec F S256x1024 .f32) (wq : Vec F S1024x1024 .f32) : FVec F S256x1024 .f32 :=
  matmul dot_S256x1024_S1024x1024_S256x1024_1_0_0_1_n_n none (shapeCast S256x1024 x shapeCasts_S256x1024_S256x1024)
    (shapeCast S1024x1024 wq shapeCasts_S1024x1024_S1024x1024) (constant S256x1024 .f32 0x00000000#32)
def q128 (x : Vec F S128x1024 .f32) (wq : Vec F S1024x1024 .f32) : FVec F S128x1024 .f32 :=
  matmul dot_S128x1024_S1024x1024_S128x1024_1_0_0_1_n_n none (shapeCast S128x1024 x shapeCasts_S128x1024_S128x1024)
    (shapeCast S1024x1024 wq shapeCasts_S1024x1024_S1024x1024) (constant S128x1024 .f32 0x00000000#32)

/-- `N` keys (or values) of a shard from row `w`, 128 columns from column `o`. -/
def kwin (N : ℕ) (f : (main_v2 : Ref sig .tc).ty.Contents (Elt F)) (w o : ℕ) : Vec F (Sh3 1 N 128) .f32 :=
  fun i => f (fun a => match a with | 0 => Fin.ofNat 2048 (w + (i 1).val) | 1 => Fin.ofNat 1024 (o + (i 2).val))

/-- A head read from the slot its keys (or values) were copied to. -/
theorem slot_read (M : Memref sig .tc .vmem S2x512x1024 .f32) (N s w o : ℕ)
    (i1 : ∀ a : Fin 3, (![s, 0, o] : Fin 3 → ℕ) a + (Sh3 1 N 128).size a ≤ S2x512x1024.size a)
    (i2 : ∀ a : Fin 3, (![s, 0, 0] : Fin 3 → ℕ) a + (Sh3 1 N 1024).size a ≤ S2x512x1024.size a)
    (i3 : ∀ a : Fin 2, (![w, 0] : Fin 2 → ℕ) a + (Sh2 N 1024).size a ≤ S2048x1024.size a)
    (hs hs' hq) (f : M.view.ty.Contents (Elt F)) (fk : (main_v2 : Ref sig .tc).ty.Contents (Elt F)) :
    View.readAt (Elt F) M.view (Rect.unit (s := S2x512x1024) ![s, 0, o] (Sh3 1 N 128).size i1).toLoadRect
      (View.write (Elt F) ((M.slice (Rect.unit (s := S2x512x1024) ![s, 0, 0] (Sh3 1 N 1024).size i2) hs).squeeze (Sh2 N 1024) hq).view f
        (ReadAs.same.apply (View.read (Elt F) (mK.slice (Rect.unit (s := S2048x1024) ![w, 0] (Sh2 N 1024).size i3) hs').view fk)) Finset.univ)
      = kwin N fk w o := by
  funext x
  have hx1 : (x 1).val < N := (x 1).isLt
  have hx2 : (x 2).val < 128 := (x 2).isLt
  have hx0 : (x 0).val < 1 := (x 0).isLt
  have ho : o + 128 ≤ 1024 := i1 2
  have hw : w + N ≤ 2048 := i3 0
  have e : (M.view.readAt (Elt F) (Rect.unit (s := S2x512x1024) ![s, 0, o] (Sh3 1 N 128).size i1).toLoadRect · x)
      = (((M.slice (Rect.unit (s := S2x512x1024) ![s, 0, 0] (Sh3 1 N 1024).size i2) hs).squeeze (Sh2 N 1024) hq).view.read (Elt F) ·
          (ix2 (⟨(x 1).val, hx1⟩ : Fin N) (⟨o + (x 2).val, by omega⟩ : Fin 1024))) := by
    funext g
    show M.view.read (Elt F) g _ = M.view.read (Elt F) g ((Rect.unit (s := S2x512x1024) ![s, 0, 0] (Sh3 1 N 1024).size i2).emb
      (Shape.reshapeEquiv _ (ix2 (⟨(x 1).val, hx1⟩ : Fin N) (⟨o + (x 2).val, by omega⟩ : Fin 1024))))
    rw [reshapeEquiv_ix2_1ab]
    congr 1
    refine Shape.idx3_ext ?_ ?_ ?_
    · show s + 1 * (x 0).val = s + 1 * 0
      omega
    · rfl
    · show o + 1 * (x 2).val = 0 + 1 * (o + (x 2).val)
      omega
  refine (congrFun e _).trans ?_
  rw [View.read_write_univ]
  show fk _ = fk _
  congr 1
  refine funext fun a => ?_
  fin_cases a <;> refine Fin.ext ?_
  · show w + 1 * (x 1).val = (w + (x 1).val) % 2048
    rw [Nat.mod_eq_of_lt (by omega)]; omega
  · show 0 + 1 * (o + (x 2).val) = (o + (x 2).val) % 1024
    rw [Nat.mod_eq_of_lt (by omega)]; omega

/-- The bounds of a window of `N` keys from row `w`, staged in slot `s`. -/
structure Wn (N s w : ℕ) : Prop where
  head : ∀ (h : Fin 8) (a : Fin 3), (![s, 0, 128 * h.val] : Fin 3 → ℕ) a + (Sh3 1 N 128).size a ≤ S2x512x1024.size a
  slot : ∀ a : Fin 3, (![s, 0, 0] : Fin 3 → ℕ) a + (Sh3 1 N 1024).size a ≤ S2x512x1024.size a
  rows : ∀ a : Fin 2, (![w, 0] : Fin 2 → ℕ) a + (Sh2 N 1024).size a ≤ S2048x1024.size a
  sq : (Sh3 1 N 1024).Squeezes (Sh2 N 1024)

/-- Head `h` of a window, as the kernel reads it. -/
def slotV (M : Memref sig .tc .vmem S2x512x1024 .f32) {N s w : ℕ} (W : Wn N s w)
    (f : M.view.ty.Contents (Elt F)) (fk : (main_v2 : Ref sig .tc).ty.Contents (Elt F)) (h : Fin 8) : Vec F (Sh3 1 N 128) .f32 :=
  View.readAt (Elt F) M.view (Rect.unit (s := S2x512x1024) ![s, 0, 128 * h.val] (Sh3 1 N 128).size (W.head h)).toLoadRect
    (View.write (Elt F) ((M.slice (Rect.unit (s := S2x512x1024) ![s, 0, 0] (Sh3 1 N 1024).size W.slot) (fun _ => rfl)).squeeze (Sh2 N 1024) W.sq).view f
      (ReadAs.same.apply (View.read (Elt F) (mK.slice (Rect.unit (s := S2048x1024) ![w, 0] (Sh2 N 1024).size W.rows) (fun _ => rfl)).view fk)) Finset.univ)

theorem slotV_eq (M : Memref sig .tc .vmem S2x512x1024 .f32) {N s w : ℕ} (W : Wn N s w) (f) (fk) :
    slotV (F := F) M W f fk = fun h => kwin N fk w (128 * h.val) :=
  funext fun h => slot_read M N s w (128 * h.val) (W.head h) W.slot W.rows _ _ W.sq f fk

theorem wn1 : Wn 128 0 0 := ⟨by decide, by decide, by decide, by decide⟩
theorem wn0 : Wn 384 0 0 := ⟨by decide, by decide, by decide, by decide⟩
theorem wn7 : Wn 384 1 1664 := ⟨by decide, by decide, by decide, by decide⟩
theorem wnM (m : ℕ) (hm : m ∈ [256, 512, 768, 1024, 1280, 1536]) : Wn 512 (m / 256 % 2) (m - 128) := by
  simp only [List.mem_cons, List.not_mem_nil, or_false] at hm
  rcases hm with h | h | h | h | h | h <;> subst h <;> exact ⟨by decide, by decide, by decide, by decide⟩
theorem mid_inb {m : ℕ} (hm : m ∈ [256, 512, 768, 1024, 1280, 1536]) : m + 256 ≤ 2048 := by
  simp only [List.mem_cons, List.not_mem_nil, or_false] at hm
  omega

/-- The rectangle that is all of a matrix. -/
theorem full_emb {a b : ℕ} (inb : ∀ i : Fin 2, (![0, 0] : Fin 2 → ℕ) i + (Sh2 a b).size i ≤ (Sh2 a b).size i) (x : (Sh2 a b).Idx) :
    (Rect.unit (s := Sh2 a b) ![0, 0] (Sh2 a b).size inb).emb x = x := by
  refine funext fun i => Fin.ext ?_
  fin_cases i
  · show 0 + 1 * (x 0).val = (x 0).val
    omega
  · show 0 + 1 * (x 1).val = (x 1).val
    omega

theorem full_write {a b : ℕ} (M : Memref sig .tc .vmem (Sh2 a b) .f32) (inb : ∀ i : Fin 2, (![0, 0] : Fin 2 → ℕ) i + (Sh2 a b).size i ≤ (Sh2 a b).size i)
    (f : M.view.ty.Contents (Elt F)) (v : (Sh2 a b).Idx → Elt F .f32) (x : (Sh2 a b).Idx) :
    M.view.read (Elt F) (M.view.writes (Elt F) f [⟨Rect.unit (s := Sh2 a b) ![0, 0] (Sh2 a b).size inb, v⟩]) x = v x := by
  have h := congrFun (View.read_write_univ (v := M.view.slice (Rect.unit (s := Sh2 a b) ![0, 0] (Sh2 a b).size inb)) f v) x
  refine Eq.trans ?_ h
  show M.view.read (Elt F) _ x = M.view.read (Elt F) _ ((Rect.unit (s := Sh2 a b) ![0, 0] (Sh2 a b).size inb).emb x)
  rw [full_emb]; rfl

theorem pt_full {a b : ℕ} (c : Dev nD) (M : Memref sig .tc .vmem (Sh2 a b) .f32) (hM : M.view.set = Finset.univ)
    (inb : ∀ i : Fin 2, (![0, 0] : Fin 2 → ℕ) i + (Sh2 a b).size i ≤ (Sh2 a b).size i) (q : PosShare TreeShare)
    (f : Buf (Elt F) (M.view.loc (c : Thread nD τ))) :
    pt c M q f = ptR c M (Rect.unit (s := Sh2 a b) ![0, 0] (Sh2 a b).size inb) q f := by
  have h : M.view.setOn (Rect.unit (s := Sh2 a b) ![0, 0] (Sh2 a b).size inb).set = Finset.univ := by
    rw [← hM, ← View.setOn_univ]
    congr 1
    refine Finset.eq_univ_of_forall fun x => ?_
    refine (Rect.unit (s := Sh2 a b) ![0, 0] (Sh2 a b).size inb).mem_set.mpr fun i => ⟨(x i).val, (x i).isLt, ?_⟩
    fin_cases i <;> exact (Nat.zero_add _ ▸ Nat.one_mul _ ▸ rfl)
  unfold ptR; rw [h]

abbrev xblk (fx : (cc0_stg0_0 : Ref sig .tc).ty.Contents (Elt F)) (m : ℕ) (h : m + 256 ≤ 2048) : Vec F S256x1024 .f32 :=
  mX.view.readAt (Elt F) (blkR m h).toLoadRect fx
abbrev wqv (fwq : (cc0_stg1_0 : Ref sig .tc).ty.Contents (Elt F)) : Vec F S1024x1024 .f32 := mWq.view.readAt (Elt F) woR.toLoadRect fwq

variable (fx : (cc0_stg0_0 : Ref sig .tc).ty.Contents (Elt F)) (fwq : (cc0_stg1_0 : Ref sig .tc).ty.Contents (Elt F))
  (fk : (main_v2 : Ref sig .tc).ty.Contents (Elt F)) (fv : (main_v2 : Ref sig .tc).ty.Contents (Elt F))

/-- The sliver: device 1's first 128 keys for the last 128 rows. -/
def qSl : FVec F S128x1024 .f32 := q128 (mX.view.readAt (Elt F) (rowR 1920 (by decide)).toLoadRect fx) (wqv fwq)
def sSl (kh : Fin 8 → Vec F (Sh3 1 128 128) .f32) (h : Fin 8) : FVec F S128x128 .f32 :=
  scoreG z1 (maskG z1 1920#32 2048#32) (qSl fx fwq) h (kh h)
def scG (kh vh : Fin 8 → Vec F (Sh3 1 128 128) .f32) : FVec F S128x1024 .f32 := cat128 fun h => accG z1 (sSl fx fwq kh h) (vh h)
def smG (kh : Fin 8 → Vec F (Sh3 1 128 128) .f32) : FVec F S128x8 .f32 := cat8 fun h => maxG z1 (sSl fx fwq kh h)
def slG (kh : Fin 8 → Vec F (Sh3 1 128 128) .f32) : FVec F S128x8 .f32 := cat8 fun h => sumG z1 (sSl fx fwq kh h)

/-- All heads of `N` keys from row `w`. -/
abbrev wins (N w : ℕ) (fk : (main_v2 : Ref sig .tc).ty.Contents (Elt F)) (h : Fin 8) : Vec F (Sh3 1 N 128) .f32 := kwin N fk w (128 * h.val)

/-- The blocks of context rows. -/
def blk0 (kh vh : Fin 8 → Vec F (Sh3 1 384 128) .f32) : FVec F S256x1024 .f32 :=
  cat256 fun h => headG z3 (scoreG z3 (maskG z3 0#32 0#32) (q256 (xblk fx 0 (by decide)) (wqv fwq)) h (kh h)) (vh h)
def blkM (m : ℕ) (hb : m + 256 ≤ 2048) (kh vh : Fin 8 → Vec F (Sh3 1 512 128) .f32) : FVec F S256x1024 .f32 :=
  cat256 fun h => headG z5 (scoreG z5 (maskG z5 (BitVec.ofNat 32 m) (BitVec.ofNat 32 (m - 128))) (q256 (xblk fx m hb) (wqv fwq)) h
    (kh h)) (vh h)

theorem colM_inb : ∀ (h : Fin 8) (a : Fin 2), (![0, h.val] : Fin 2 → ℕ) a + S128x1.size a ≤ S128x8.size a := by decide
theorem colC_inb : ∀ (h : Fin 8) (a : Fin 2), (![0, 128 * h.val] : Fin 2 → ℕ) a + S128x128.size a ≤ S128x1024.size a := by decide
abbrev colM (h : Fin 8) : Rect S128x8 := Rect.unit (s := S128x8) ![0, h.val] S128x1.size (colM_inb h)
abbrev colC (h : Fin 8) : Rect S128x1024 := Rect.unit (s := S128x1024) ![0, 128 * h.val] S128x128.size (colC_inb h)

def blk7 (SC : ScT F) (SM : SmT F) (SL : SlT F) (kh vh : Fin 8 → Vec F (Sh3 1 384 128) .f32) : FVec F S256x1024 .f32 :=
  cat256 fun h => mergeG (scoreG z3 (maskG z3 1792#32 1664#32) (q256 (xblk fx 1792 (by decide)) (wqv fwq)) h (kh h)) (vh h)
    (mSm.view.readAt (Elt F) (colM h).toLoadRect SM) (mSl.view.readAt (Elt F) (colM h).toLoadRect SL) (mSc.view.readAt (Elt F) (colC h).toLoadRect SC)

abbrev scR : Rect S128x1024 := Rect.unit (s := S128x1024) ![0, 0] S128x1024.size inb_S128x1024_S128x1024_0_0
abbrev smR : Rect S128x8 := Rect.unit (s := S128x8) ![0, 0] S128x8.size inb_S128x8_S128x8_0_0

/-- The sliver buffers hold the sliver's values. -/
def SlOk (fk fv : (main_v2 : Ref sig .tc).ty.Contents (Elt F)) (SC : ScT F) (SM : SmT F) (SL : SlT F) : Prop :=
  mSc.view.readAt (Elt F) scR.toLoadRect SC = scG fx fwq (wins 128 0 fk) (wins 128 0 fv)
    ∧ mSm.view.readAt (Elt F) smR.toLoadRect SM = smG fx fwq (wins 128 0 fk) ∧ mSl.view.readAt (Elt F) smR.toLoadRect SL = slG fx fwq (wins 128 0 fk)

/-- The context buffer holds the context's values. -/
def CtxOk (SC : ScT F) (SM : SmT F) (SL : SlT F) (CT : CtxT F) : Prop :=
  mCtx.view.readAt (Elt F) (blkR 0 (by decide)).toLoadRect CT = blk0 fx fwq (wins 384 0 fk) (wins 384 0 fv)
    ∧ (∀ m (hm : m ∈ [256, 512, 768, 1024, 1280, 1536]), mCtx.view.readAt (Elt F) (blkR m (mid_inb hm)).toLoadRect CT
        = blkM fx fwq m (mid_inb hm) (wins 512 (m - 128) fk) (wins 512 (m - 128) fv))
    ∧ mCtx.view.readAt (Elt F) (blkR 1792 (by decide)).toLoadRect CT = blk7 fx fwq SC SM SL (wins 384 1664 fk) (wins 384 1664 fv)

/-- The same values, through the slots. -/
theorem blk0_slot (f g) : blk0 fx fwq (wins 384 0 fk) (wins 384 0 fv) = blk0 fx fwq (slotV mKw wn0 f fk) (slotV mVw wn0 g fv) := by
  rw [slotV_eq, slotV_eq]
theorem blkM_slot (m : ℕ) (hm : m ∈ [256, 512, 768, 1024, 1280, 1536]) (f g) :
    blkM fx fwq m (mid_inb hm) (wins 512 (m - 128) fk) (wins 512 (m - 128) fv)
      = blkM fx fwq m (mid_inb hm) (slotV mKw (wnM m hm) f fk) (slotV mVw (wnM m hm) g fv) := by
  rw [slotV_eq, slotV_eq]
theorem blk7_slot (SC : ScT F) (SM : SmT F) (SL : SlT F) (f g) :
    blk7 fx fwq SC SM SL (wins 384 1664 fk) (wins 384 1664 fv) = blk7 fx fwq SC SM SL (slotV mKw wn7 f fk) (slotV mVw wn7 g fv) := by
  rw [slotV_eq, slotV_eq]

end Cert.KernelIdeal.Hand
-- ==== Proof.KI.Dev1.lean ====
/-
  Device 1's run.
-/
module

public import proofs.«01_k».proof.Proof.KI.Ends
public import proofs.«01_k».proof.Proof.KI.Vals

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ UU ℕ
variable (CT : CtxT F) (SC : ScT F) (SM : SmT F) (SL : SlT F) (OC : (cc0_stg3_0 : Ref sig .tc).ty.Contents (Elt F))

theorem resAny_20 (c : Dev nD) : resAny (F := F) 20 c = iprop(∃ f, pt c mSc fullShare f) := if_pos rfl
theorem resAny_21 (c : Dev nD) : resAny (F := F) 21 c = iprop(∃ f, pt c mSm fullShare f) := by
  unfold resAny; rw [if_neg (by decide), if_pos rfl]
theorem resAny_22 (c : Dev nD) : resAny (F := F) 22 c = iprop(∃ f, pt c mSl fullShare f) := by
  unfold resAny; rw [if_neg (by decide), if_neg (by decide), if_pos rfl]
theorem res_20 (c : Dev nD) (q) : res CT SC SM SL 20 c q = pt c mSc q SC := if_pos rfl
theorem res_21 (c : Dev nD) (q) : res CT SC SM SL 21 c q = pt c mSm q SM := by
  unfold res; rw [if_neg (by decide), if_pos rfl]
theorem res_22 (c : Dev nD) (q) : res CT SC SM SL 22 c q = pt c mSl q SL := by
  unfold res; rw [if_neg (by decide), if_neg (by decide), if_pos rfl]

/-- The send of a whole buffer. -/
theorem send_whole {n : ℕ} {α : Type} (κ : GSem nD τ sig → ℕ) (c : Dev nD) {k : Fin 46} (h1 : (tr c)[n]? = some (.send, k)) {S : Shape}
    (M : Memref sig .tc .vmem S .f32) (hM : M.view.set = Finset.univ) (g : ∀ d : Dev nD, Buf (Elt F) (M.view.loc (d : Thread nD τ)))
    (hg : ∀ d d' : Dev nD, M.view.read (Elt F) (g d) = M.view.read (Elt F) (g d'))
    (hany : ∀ d, resAny (F := F) k d = iprop(∃ f, pt d M fullShare f)) (hres : ∀ d q, res CT SC SM SL k d q = pt d M q (g d))
    (h : (talk k ∧ k.val < 23) ∧ actS c k = true ∧ (sta c n).f (k + 19) = 0 ∧ (sta c n).g k = 2
      ∧ left c n = k :: left c (n + 1)) (hN : M.view.dmaCredit = amt k)
    {r : Dev nD} (hr : r = tgt c k) {sS sR : DmaSem sig} (hsS : sS = k + 19) (hsR : sR = k)
    {hsc : M.view.ref.isScScratch = false} {hsrc hdst : M.view.WordExact}
    {hsem : DmaTarget.Typed .vmem (.dma sR) (.remote (r : Thread nD τ) M (.dma sS) hsc)}
    {kk : PUnit → Prog (TpuEff nD τ sig (Elt F) Λ₀ .tc) α} {Q : α → sProp 𝕄} :
    iprop(At CT SC SM SL OC κ c n ∗ Owe c n)
      ⊢ iprop(((At CT SC SM SL OC κ c (n + 1) ∗ Owe c (n + 1)) -∗ wp frame (wpE (defs₀ (F := F)) Variants.none c none) Set.univ (kk ⟨⟩) Q)
          -∗ wp frame (wpE (defs₀ (F := F)) Variants.none c none) Set.univ
            (.op (.enqueueDma M (.remote (r : Thread nD τ) M (.dma sS) hsc) (.dma sR) hsrc hdst hsem) kk) Q) :=
  at_send CT SC SM SL OC κ c (n := n) k ⟨h1, h⟩ hr hsS hsR (src := M) (dst := M) hN (g c)
    (by rw [hany, hM]) (by rw [hres, hM])
    (fun fd => by
      rw [hres, hg c r, View.write_read_eq_piecewise]
      have e : (M.view.loc (r : Thread nD τ) ↦[M.view.set]{fullShare} ((M.view.setOn Finset.univ).piecewise (g r) fd) : sProp 𝕄)
          = (M.view.loc (r : Thread nD τ) ↦[M.view.set]{fullShare} g r) :=
        pointsTo_congr fun i hi => Finset.piecewise_eq_of_mem _ _ _ (by rw [View.setOn_univ]; exact hi)
      exact (Entails.of_eq e).trans (by rw [hM]))

/-- A device may always wait on its local transfers. -/
theorem tr_talk : ∀ c : Dev nD, ∀ m ∈ tr c, 4 ≤ m.2.val ∧ (m.1 = .send → m.2.val < 23) := by decide

theorem mayWait_loc (c : Dev nD) (k : Fin 46) (hk : lev c (dm k) = 0) (n : ℕ) :
    (levAts L lv : sProp 𝕄) ⊢ MayWait (c : Thread nD τ) (SemLoc.dma k) () (sumT (debts c (left c n))) := by
  refine mayWait c (dm k) _ fun a ha => ?_
  rw [hk]
  unfold debts at ha
  rcases List.mem_append.mp ha with ha | ha
  · obtain ⟨j, hj, rfl⟩ := List.mem_map.mp ha
    refine ⟨rfl, ?_⟩
    obtain ⟨m, hm, hmj⟩ := List.mem_filterMap.mp hj
    have ht := tr_talk c m (List.mem_of_mem_drop hm)
    split at hmj
    · rename_i he
      cases hmj
      have h1 := ht.1; have h2 := ht.2 he
      show 0 < lev (tgt c m.2) (dm m.2)
      have key : ∀ (d : Dev nD) (j : Fin 46), 4 ≤ j.val → j.val < 23 → 0 < lev d (dm j) := by decide
      exact key _ _ h1 h2
    · cases hmj
  · exact (show ∀ (c : Dev nD), ∀ a ∈ finDebts c, a.1.1.2 = .tc ∧ 0 < lv a.1 () by decide) c a ha

set_option sl_exec.squeezeSlice true in
set_option maxHeartbeats 0 in
theorem run1 (κ : GSem nD τ sig → ℕ) (fwo) (hOC : OutOk CT fwo OC) fx fwq fk fv fkw fvw (hSl : SlOk fx fwq fk fv SC SM SL) (Q : PUnit → sProp 𝕄) :
    iprop(Pre CT SC SM SL OC κ 1 ∗ pt 1 mWo fullShare fwo
        ∗ pt 1 mX fullShare fx ∗ pt 1 mWq fullShare fwq ∗ pt 1 mK fullShare fk ∗ pt 1 mV fullShare fv
        ∗ pt 1 mKw fullShare fkw ∗ pt 1 mVw fullShare fvw ∗ semVal (gc 1 (dm 42)) 0 ∗ semVal (gc 1 (dm 43)) 0
        ∗ (iprop(At CT SC SM SL OC κ 1 57 ∗ Out 1 ∗ pt 1 mWo fullShare fwo
            ∗ pt 1 mX fullShare fx ∗ pt 1 mWq fullShare fwq ∗ pt 1 mK fullShare fk ∗ pt 1 mV fullShare fv
            ∗ (∃ f, pt 1 mKw fullShare f) ∗ (∃ f, pt 1 mVw fullShare f) ∗ semVal (gc 1 (dm 42)) 0 ∗ semVal (gc 1 (dm 43)) 0) -∗ Q ⟨⟩))
      ⊢ wp frame (wpE (defs₀ (F := F)) Variants.none ((1 : Dev nD)) none) Set.univ
          (cc0_body mX (Memref.isWhole_whole _) mWq (Memref.isWhole_whole _) mK (Memref.isWhole_whole _) mV (Memref.isWhole_whole _)
            mWo (Memref.isWhole_whole _) mOut (Memref.isWhole_whole _) mKw (Memref.isWhole_whole _) mVw (Memref.isWhole_whole _) mCtx (Memref.isWhole_whole _)
            mSc (Memref.isWhole_whole _) mSm (Memref.isWhole_whole _) mSl (Memref.isWhole_whole _)
            cc0_scratch6 cc0_scratch7 cc0_scratch8 cc0_scratch9 cc0_scratch10 cc0_scratch11 cc0_scratch12 cc0_scoped0) Q := by
  have h42 : ∀ n, (levAts L lv : sProp 𝕄) ⊢ MayWait ((1 : Dev nD) : Thread nD τ) (SemLoc.dma 42) () (sumT (debts 1 (left 1 n))) := fun n => mayWait_loc 1 42 (by decide) n
  have h43 : ∀ n, (levAts L lv : sProp 𝕄) ⊢ MayWait ((1 : Dev nD) : Thread nD τ) (SemLoc.dma 43) () (sumT (debts 1 (left 1 n))) := fun n => mayWait_loc 1 43 (by decide) n
  iintro ⟨HA, Hwo, Hx, Hwq, HK, HV, Hkw, Hvw, Hq0, Hq1, Hk⟩
  simp only [cc0_body_eq_skeleton]; unfold cc0_body_skel
  sl_exec_parts
  iapply (bar_sig1 CT SC SM SL OC κ 1 ?_ ?_ ?_) $$ HA
  · rfl
  · exact Fin.ext (by decide)
  · rfl
  iintro HA
  sl_exec_parts
  iapply (bar_sig2 CT SC SM SL OC κ 1 ?_ ?_ ?_) $$ HA
  · rfl
  · exact Fin.ext (by decide)
  · rfl
  iintro HA
  sl_exec_parts
  iapply (bar_wait CT SC SM SL OC κ 1 ?_ ?_) $$ HA
  · rfl
  · rfl
  iintro ⟨HA, HO, HM⟩
  ihave HA := (At_recs CT SC SM SL OC κ 1 0) $$ HA
  icases HA with ⟨#HR, HA⟩
  ihave #HL := (recs_levs CT SC SM SL κ) $$ HR
  unfold Owe
  icases HO with ⟨%W, HO⟩
  ihave HA := (at_fill 1 CT SC SM SL OC κ 20 ?_) $$ HA
  · decide
  icases HA with ⟨Hsc, HA⟩
  ihave Hsc := (Entails.of_eq (resAny_20 1)) $$ Hsc
  icases Hsc with ⟨%f0, Hsc⟩
  sl_exec_parts
  have e1 : run1.sl.v207 fx fwq fk fv fkw fvw = scG fx fwq (slotV mKw wn1 fkw fk) (slotV mVw wn1 fvw fv) := rfl
  rw [slotV_eq, slotV_eq] at e1
  have e2 : pt 1 mSc fullShare (mSc.view.writes (Elt F) f0 [⟨scR, run1.sl.v207 fx fwq fk fv fkw fvw⟩]) ⊢ res CT SC SM SL 20 1 fullShare := by
    rw [res_20, pt_full 1 mSc (View.set_whole _) inb_S128x1024_S128x1024_0_0, pt_full 1 mSc (View.set_whole _) inb_S128x1024_S128x1024_0_0]
    exact Entails.of_eq (stored 1 mSc scR fullShare f0 SC _ (hSl.1.trans e1.symm))
  ihave HA := HA $$ [Hsc]
  · iapply e2; iexact Hsc
  ihave HA := (at_fill 1 CT SC SM SL OC κ 21 ?_) $$ HA
  · decide
  icases HA with ⟨Hsc, HA⟩
  ihave Hsc := (Entails.of_eq (resAny_21 1)) $$ Hsc
  icases Hsc with ⟨%f1, Hsc⟩
  sl_exec_parts
  have e1 : run1.sl.v211 fx fwq fk fkw = smG fx fwq (slotV mKw wn1 fkw fk) := rfl
  rw [slotV_eq] at e1
  have e2 : pt 1 mSm fullShare (mSm.view.writes (Elt F) f1 [⟨smR, run1.sl.v211 fx fwq fk fkw⟩]) ⊢ res CT SC SM SL 21 1 fullShare := by
    rw [res_21, pt_full 1 mSm (View.set_whole _) inb_S128x8_S128x8_0_0, pt_full 1 mSm (View.set_whole _) inb_S128x8_S128x8_0_0]
    exact Entails.of_eq (stored 1 mSm smR fullShare f1 SM _ (hSl.2.1.trans e1.symm))
  ihave HA := HA $$ [Hsc]
  · iapply e2; iexact Hsc
  ihave HA := (at_fill 1 CT SC SM SL OC κ 22 ?_) $$ HA
  · decide
  icases HA with ⟨Hsc, HA⟩
  ihave Hsc := (Entails.of_eq (resAny_22 1)) $$ Hsc
  icases Hsc with ⟨%f2, Hsc⟩
  sl_exec_parts
  have e1 : run1.sl.v215 fx fwq fk fkw = slG fx fwq (slotV mKw wn1 fkw fk) := rfl
  rw [slotV_eq] at e1
  have e2 : pt 1 mSl fullShare (mSl.view.writes (Elt F) f2 [⟨smR, run1.sl.v215 fx fwq fk fkw⟩]) ⊢ res CT SC SM SL 22 1 fullShare := by
    rw [res_22, pt_full 1 mSl (View.set_whole _) inb_S128x8_S128x8_0_0, pt_full 1 mSl (View.set_whole _) inb_S128x8_S128x8_0_0]
    exact Entails.of_eq (stored 1 mSl smR fullShare f2 SL _ (hSl.2.2.trans e1.symm))
  ihave HA := HA $$ [Hsc]
  · iapply e2; iexact Hsc
  ihave HO := (show owes ((1 : Dev nD) : Thread nD τ) (sumT (debts 1 (left 1 0))) _ ⊢ Owe (F := F) 1 3 from by
    unfold Owe; rw [show left 1 3 = left 1 0 by decide]; exact BIClass.exists_intro _) $$ HO
  try sl_exec_parts
  iapply (send_whole CT SC SM SL OC κ 1 (k := 20) ?_ mSc (View.set_whole _) (fun _ => SC) (fun _ _ => rfl) resAny_20 (res_20 CT SC SM SL) ?_ rfl ?_ ?_ ?_) $$ [HA HO]
  pick_goal 6; · isplitl [HA] <;> iassumption
  · rfl
  · decide
  · exact Fin.ext (by decide)
  · decide
  · decide
  iintro ⟨HA, HO⟩
  try sl_exec_parts
  iapply (send_whole CT SC SM SL OC κ 1 (k := 21) ?_ mSm (View.set_whole _) (fun _ => SM) (fun _ _ => rfl) resAny_21 (res_21 CT SC SM SL) ?_ rfl ?_ ?_ ?_) $$ [HA HO]
  pick_goal 6; · isplitl [HA] <;> iassumption
  · rfl
  · decide
  · exact Fin.ext (by decide)
  · decide
  · decide
  iintro ⟨HA, HO⟩
  try sl_exec_parts
  iapply (send_whole CT SC SM SL OC κ 1 (k := 22) ?_ mSl (View.set_whole _) (fun _ => SL) (fun _ _ => rfl) resAny_22 (res_22 CT SC SM SL) ?_ rfl ?_ ?_ ?_) $$ [HA HO]
  pick_goal 6; · isplitl [HA] <;> iassumption
  · rfl
  · decide
  · exact Fin.ext (by decide)
  · decide
  · decide
  iintro ⟨HA, HO⟩
  iterate 8
    try sl_exec_parts
    iapply (arr_chunk 1 CT SC SM SL OC κ ?_ ?_ ?_ ?_) $$ [HA HO]
    pick_goal 5; · isplitl [HA] <;> iassumption
    · rfl
    · decide
    · decide
    · decide
    iintro ⟨HA, HO⟩
    try sl_exec_parts
    iapply (send_chunk 1 CT SC SM SL OC κ ?_ ?_ ?_ _ ?_ ?_ ?_ ?_) $$ [HA HO]
    pick_goal 8; · isplitl [HA] <;> iassumption
    · rfl
    · decide
    · decide
    · decide
    · exact Fin.ext (by decide +revert)
    · decide
    · decide
    iintro ⟨HA, HO⟩
    try sl_exec_parts
    iapply (proj_chunk 1 CT SC SM SL OC κ hOC ?_ ?_ ?_) $$ [HA HO]
    pick_goal 4; · isplitl [HA] <;> iassumption
    · rfl
    · decide
    · decide
    iintro %fo ⟨HO, Hr, Ho, Hcl⟩
    sl_exec_parts
    ihave HA := Hcl $$ [Hr] [Ho]
    · iexact Hr
    · iexact Ho
  iterate 8
    try sl_exec_parts
    iapply (arr_chunk 1 CT SC SM SL OC κ ?_ ?_ ?_ ?_) $$ [HA HO]
    pick_goal 5; · isplitl [HA] <;> iassumption
    · rfl
    · decide
    · decide
    · decide
    iintro ⟨HA, HO⟩
    try sl_exec_parts
    iapply (proj_chunk 1 CT SC SM SL OC κ hOC ?_ ?_ ?_) $$ [HA HO]
    pick_goal 4; · isplitl [HA] <;> iassumption
    · rfl
    · decide
    · decide
    iintro %fo ⟨HO, Hr, Ho, Hcl⟩
    sl_exec_parts
    ihave HA := Hcl $$ [Hr] [Ho]
    · iexact Hr
    · iexact Ho
  try sl_exec_parts
  iapply (at_sent CT SC SM SL OC κ 1 20 ?_ ?_ ?_) $$ [HA HO]
  pick_goal 4; · isplitl [HA] <;> iassumption
  · decide
  · decide
  · rfl
  iintro ⟨HA, HO⟩
  try sl_exec_parts
  iapply (at_sent CT SC SM SL OC κ 1 21 ?_ ?_ ?_) $$ [HA HO]
  pick_goal 4; · isplitl [HA] <;> iassumption
  · decide
  · decide
  · rfl
  iintro ⟨HA, HO⟩
  try sl_exec_parts
  iapply (at_sent CT SC SM SL OC κ 1 22 ?_ ?_ ?_) $$ [HA HO]
  pick_goal 4; · isplitl [HA] <;> iassumption
  · decide
  · decide
  · rfl
  iintro ⟨HA, HO⟩
  iterate 8
    try sl_exec_parts
    iapply (sent_chunk 1 CT SC SM SL OC κ ?_ ?_ ?_ ?_) $$ [HA HO]
    pick_goal 5; · isplitl [HA] <;> iassumption
    · rfl
    · decide
    · decide
    · decide
    iintro ⟨HA, HO⟩
  sl_exec_parts
  iapply (fin_sig1 CT SC SM SL OC κ 1 ?_ ?_ ?_ ?_) $$ [HA HO HM]
  pick_goal 5
  · isplitl [HA]; · iexact HA
    isplitl [HO] <;> iassumption
  · decide
  · rfl
  · exact Fin.ext (by decide)
  · rfl
  iintro HA
  sl_exec_parts
  iapply (fin_sig2 CT SC SM SL OC κ 1 ?_ ?_ ?_) $$ HA
  · rfl
  · exact Fin.ext (by decide)
  · rfl
  iintro HA
  sl_exec_parts
  iapply (fin_wait CT SC SM SL OC κ 1 ?_ ?_) $$ HA
  · rfl
  · rfl
  iintro ⟨HA, HE⟩
  try sl_exec_parts
  rw [wp_ret]
  imodintro
  iapply Hk
  isplitl [HA]; · iexact HA
  isplitl [HE]; · iexact HE
  isplitl [Hwo]; · iexact Hwo
  isplitl [Hx]; · iexact Hx
  isplitl [Hwq]; · iexact Hwq
  isplitl [HK]; · iexact HK
  isplitl [HV]; · iexact HV
  isplitl [Hkw]; · iexists _; iexact Hkw
  isplitl [Hvw]; · iexists _; iexact Hvw
  isplitl [Hq0]; · iexact Hq0
  iexact Hq1

end Cert.KernelIdeal.Hand
-- ==== Proof.KI.Dev0.lean ====
/-
  Device 0's run.
-/
module

public import proofs.«01_k».proof.Proof.KI.Dev1

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ UU ℕ
variable (CT : CtxT F) (SC : ScT F) (SM : SmT F) (SL : SlT F) (OC : (cc0_stg3_0 : Ref sig .tc).ty.Contents (Elt F))

abbrev rs0 : Rect S2x512x1024 := Rect.unit (s := S2x512x1024) ![0, 0, 0] S1x512x1024.size (by decide)
abbrev rs1 : Rect S2x512x1024 := Rect.unit (s := S2x512x1024) ![1, 0, 0] S1x512x1024.size (by decide)

section
variable (c : Dev nD) (κ : GSem nD τ sig → ℕ) {n : ℕ} {α : Type}

theorem owe_next (h : left c (n + 1) = left c n) (W : Waits sig Unit) :
    owes (c : Thread nD τ) (sumT (debts c (left c n))) W ⊢ Owe (F := F) c (n + 1) := by
  unfold Owe; rw [h]; exact BIClass.exists_intro _

theorem owe_now (W : Waits sig Unit) : owes (c : Thread nD τ) (sumT (debts c (left c n))) W ⊢ Owe (F := F) c n := by
  unfold Owe; exact BIClass.exists_intro _

theorem Owe_next (h : left c (n + 1) = left c n) : Owe (F := F) c n ⊢ Owe c (n + 1) := Owe_left c h

theorem some_slot (M : Memref sig .tc .vmem S2x512x1024 .f32) (R : Rect S2x512x1024) (f : Buf (Elt F) (M.view.loc (c : Thread nD τ))) :
    ptR c M R fullShare f ⊢ iprop(∃ f, ptR c M R fullShare f) := BIClass.exists_intro _

/-- Storing a block of context rows. -/
theorem fill_block {k : Fin 46} {m : ℕ} {hi : ∀ a : Fin 2, (![m, 0] : Fin 2 → ℕ) a + S256x1024.size a ≤ S2048x1024.size a}
    (h1 : (tr c)[n]? = some (.fill2, k))
    (h : (sta c n).g k = 3 ∧ (Function.update (sta c n).g k 2) (k + 1) = 3 ∧ left c (n + 1) = left c n)
    (hm : m = 128 * (chunkOf k).val ∧ m + 128 = 128 * (chunkOf (k + 1)).val ∧ k.val < 20 ∧ (k + 1).val < 20)
    {hl : mCtx.view.LoadsAt (Rect.unit (s := S2048x1024) ![m, 0] S256x1024.size hi).toLoadRect}
    {kk : Vec F S256x1024 .f32 → Prog (TpuEff nD τ sig (Elt F) Λ₀ .tc) α} {Q : α → sProp 𝕄} :
    At CT SC SM SL OC κ c n ⊢ iprop((∀ f, (ptR c mCtx (Rect.unit (s := S2048x1024) ![m, 0] S256x1024.size hi) fullShare f
        ∗ (ptR c mCtx (Rect.unit (s := S2048x1024) ![m, 0] S256x1024.size hi) fullShare CT -∗ At CT SC SM SL OC κ c (n + 1)))
        -∗ wp frame (wpE (defs₀ (F := F)) Variants.none c none) Set.univ
          (.op (.load mCtx (Rect.unit (s := S2048x1024) ![m, 0] S256x1024.size hi).toLoadRect hl) kk) Q)
      -∗ wp frame (wpE (defs₀ (F := F)) Variants.none c none) Set.univ
          (.op (.load mCtx (Rect.unit (s := S2048x1024) ![m, 0] S256x1024.size hi).toLoadRect hl) kk) Q) := by
  iintro HA Hk
  ihave H := (at_fill2 c CT SC SM SL OC κ k ⟨h1, h⟩ m hm hi) $$ HA
  icases H with ⟨%f, H⟩
  iapply Hk $$ %f
  iexact H

/-- Projecting a block of context rows. -/
theorem proj_block {k : Fin 46} {m : ℕ} {hi : ∀ a : Fin 2, (![m, 0] : Fin 2 → ℕ) a + S256x1024.size a ≤ S2048x1024.size a}
    {wo : (cc0_stg2_0 : Ref sig .tc).ty.Contents (Elt F)} (hOC : OutOk2 CT wo OC) (h1 : (tr c)[n]? = some (.proj2, k))
    (h : ((sta c n).g k = 1 ∨ (sta c n).g k = 2) ∧ ((sta c n).g (k + 1) = 1 ∨ (sta c n).g (k + 1) = 2)
      ∧ (sta c n).o k = 1 ∧ (Function.update (sta c n).o k 2) (k + 1) = 1 ∧ left c (n + 1) = left c n)
    (hm : m = 128 * (chunkOf k).val ∧ m + 128 = 128 * (chunkOf (k + 1)).val ∧ 256 ∣ m ∧ k.val < 20 ∧ (k + 1).val < 20)
    {hl : mCtx.view.LoadsAt (Rect.unit (s := S2048x1024) ![m, 0] S256x1024.size hi).toLoadRect}
    {kk : Vec F S256x1024 .f32 → Prog (TpuEff nD τ sig (Elt F) Λ₀ .tc) α} {Q : α → sProp 𝕄} :
    iprop(At CT SC SM SL OC κ c n ∗ Owe c n) ⊢ iprop((∀ f, (Owe c (n + 1) ∗ ptR c mCtx (Rect.unit (s := S2048x1024) ![m, 0] S256x1024.size hi) rsh CT
        ∗ ptR c mOut (Rect.unit (s := S2048x1024) ![m, 0] S256x1024.size hi) fullShare f
        ∗ (ptR c mCtx (Rect.unit (s := S2048x1024) ![m, 0] S256x1024.size hi) rsh CT
          -∗ ptR c mOut (Rect.unit (s := S2048x1024) ![m, 0] S256x1024.size hi) fullShare (mOut.view.writes (Elt F) f
              [⟨Rect.unit (s := S2048x1024) ![m, 0] S256x1024.size hi, k0_pay182
                (mCtx.view.readAt (Elt F) (Rect.unit (s := S2048x1024) ![m, 0] S256x1024.size hi).toLoadRect CT)
                (mWo.view.readAt (Elt F) woR.toLoadRect wo)⟩])
          -∗ At CT SC SM SL OC κ c (n + 1)))
        -∗ wp frame (wpE (defs₀ (F := F)) Variants.none c none) Set.univ
          (.op (.load mCtx (Rect.unit (s := S2048x1024) ![m, 0] S256x1024.size hi).toLoadRect hl) kk) Q)
      -∗ wp frame (wpE (defs₀ (F := F)) Variants.none c none) Set.univ
          (.op (.load mCtx (Rect.unit (s := S2048x1024) ![m, 0] S256x1024.size hi).toLoadRect hl) kk) Q) := by
  iintro HA Hk
  ihave H := (at_proj2 c CT SC SM SL OC κ k ⟨h1, h⟩ m hm hi hOC) $$ HA
  icases H with ⟨HO, ⟨%f, H⟩⟩
  iapply Hk $$ %f
  isplitl [HO] <;> iassumption

/-- The sliver buffers, to read. -/
theorem at_reads (h : ((sta c n).g 20 = 1 ∨ (sta c n).g 20 = 2) ∧ ((sta c n).g 21 = 1 ∨ (sta c n).g 21 = 2) ∧ ((sta c n).g 22 = 1 ∨ (sta c n).g 22 = 2)) :
    At CT SC SM SL OC κ c n ⊢ iprop((pt c mSc rsh SC ∗ pt c mSm rsh SM ∗ pt c mSl rsh SL)
      ∗ ((pt c mSc rsh SC ∗ pt c mSm rsh SM ∗ pt c mSl rsh SL) -∗ At CT SC SM SL OC κ c n)) := by
  obtain ⟨h0, h1, h2⟩ := h
  have split : Pcs CT SC SM SL c (sta c n).g
      = iprop(pc CT SC SM SL c 20 ((sta c n).g 20) ∗ pc CT SC SM SL c 21 ((sta c n).g 21) ∗ pc CT SC SM SL c 22 ((sta c n).g 22)
        ∗ bigSep (((Finset.univ.erase 20).erase 21).erase 22) fun j => pc CT SC SM SL c j ((sta c n).g j)) := by
    refine (bigSep_univ_split 20).trans (congrArg (BI.sep _) ?_)
    refine (bigSep_erase (by decide)).trans (congrArg (BI.sep _) ?_)
    exact bigSep_erase (by decide)
  unfold At
  rw [split, ← res_20 CT SC SM SL c rsh, ← res_21 CT SC SM SL c rsh, ← res_22 CT SC SM SL c rsh]
  iintro ⟨#HR, HS, ⟨H0, H1, H2, Hr⟩, HOc⟩
  ihave H0 := (pc_read c CT SC SM SL 20 _ h0) $$ H0
  ihave H1 := (pc_read c CT SC SM SL 21 _ h1) $$ H1
  ihave H2 := (pc_read c CT SC SM SL 22 _ h2) $$ H2
  icases H0 with ⟨H0, B0⟩
  icases H1 with ⟨H1, B1⟩
  icases H2 with ⟨H2, B2⟩
  isplitl [H0 H1 H2]
  · isplitl [H0]; · iexact H0
    isplitl [H1] <;> iassumption
  iintro ⟨H0, H1, H2⟩
  isplitr; · iexact HR
  isplitl [HS]; · iexact HS
  isplitr [HOc]
  · isplitl [H0 B0]; · iapply B0; iexact H0
    isplitl [H1 B1]; · iapply B1; iexact H1
    isplitl [H2 B2]; · iapply B2; iexact H2
    iexact Hr
  iexact HOc

end

set_option sl_exec.squeezeSlice true in
set_option maxHeartbeats 0 in
theorem run0 (κ : GSem nD τ sig → ℕ) (fwo) (hOC : OutOk2 CT fwo OC) fx fwq fk fv fkw0 fkw1 fvw0 fvw1 (hCtx : CtxOk fx fwq fk fv SC SM SL CT) (Q : PUnit → sProp 𝕄) :
    iprop(Pre CT SC SM SL OC κ 0 ∗ pt 0 mWo fullShare fwo
        ∗ pt 0 mX fullShare fx ∗ pt 0 mWq fullShare fwq ∗ pt 0 mK lsh fk ∗ pt 0 mV lsh fv ∗ pt 0 mK rsh fk ∗ pt 0 mV rsh fv
        ∗ ptR 0 mKw rs0 fullShare fkw0 ∗ ptR 0 mKw rs1 fullShare fkw1 ∗ ptR 0 mVw rs0 fullShare fvw0 ∗ ptR 0 mVw rs1 fullShare fvw1
        ∗ semVal (gc 0 (dm 42)) 0 ∗ semVal (gc 0 (dm 43)) 0 ∗ semVal (gc 0 (dm 44)) 0 ∗ semVal (gc 0 (dm 45)) 0
        ∗ (iprop(At CT SC SM SL OC κ 0 51 ∗ Out 0 ∗ pt 0 mWo fullShare fwo
            ∗ pt 0 mX fullShare fx ∗ pt 0 mWq fullShare fwq ∗ pt 0 mK lsh fk ∗ pt 0 mV lsh fv ∗ pt 0 mK rsh fk ∗ pt 0 mV rsh fv
            ∗ (∃ f, ptR 0 mKw rs0 fullShare f) ∗ (∃ f, ptR 0 mKw rs1 fullShare f) ∗ (∃ f, ptR 0 mVw rs0 fullShare f) ∗ (∃ f, ptR 0 mVw rs1 fullShare f)
            ∗ semVal (gc 0 (dm 42)) 0 ∗ semVal (gc 0 (dm 43)) 0 ∗ semVal (gc 0 (dm 44)) 0 ∗ semVal (gc 0 (dm 45)) 0) -∗ Q ⟨⟩))
      ⊢ wp frame (wpE (defs₀ (F := F)) Variants.none ((0 : Dev nD)) none) Set.univ
          (cc0_body mX (Memref.isWhole_whole _) mWq (Memref.isWhole_whole _) mK (Memref.isWhole_whole _) mV (Memref.isWhole_whole _)
            mWo (Memref.isWhole_whole _) mOut (Memref.isWhole_whole _) mKw (Memref.isWhole_whole _) mVw (Memref.isWhole_whole _) mCtx (Memref.isWhole_whole _)
            mSc (Memref.isWhole_whole _) mSm (Memref.isWhole_whole _) mSl (Memref.isWhole_whole _)
            cc0_scratch6 cc0_scratch7 cc0_scratch8 cc0_scratch9 cc0_scratch10 cc0_scratch11 cc0_scratch12 cc0_scoped0) Q := by
  have h42 : ∀ n, (levAts L lv : sProp 𝕄) ⊢ MayWait ((0 : Dev nD) : Thread nD τ) (SemLoc.dma 42) () (sumT (debts 0 (left 0 n))) := fun n => mayWait_loc 0 42 (by decide) n
  have h43 : ∀ n, (levAts L lv : sProp 𝕄) ⊢ MayWait ((0 : Dev nD) : Thread nD τ) (SemLoc.dma 43) () (sumT (debts 0 (left 0 n))) := fun n => mayWait_loc 0 43 (by decide) n
  have h44 : ∀ n, (levAts L lv : sProp 𝕄) ⊢ MayWait ((0 : Dev nD) : Thread nD τ) (SemLoc.dma 44) () (sumT (debts 0 (left 0 n))) := fun n => mayWait_loc 0 44 (by decide) n
  have h45 : ∀ n, (levAts L lv : sProp 𝕄) ⊢ MayWait ((0 : Dev nD) : Thread nD τ) (SemLoc.dma 45) () (sumT (debts 0 (left 0 n))) := fun n => mayWait_loc 0 45 (by decide) n
  iintro ⟨HA, Hwo, Hx, Hwq, HkL, HvL, HkR, HvR, Hkw0, Hkw1, Hvw0, Hvw1, Hq0, Hq1, Hq2, Hq3, Hk⟩
  simp only [cc0_body_eq_skeleton]; unfold cc0_body_skel
  sl_exec_parts
  iapply (bar_sig1 CT SC SM SL OC κ 0 ?_ ?_ ?_) $$ HA
  · rfl
  · exact Fin.ext (by decide)
  · rfl
  iintro HA
  sl_exec_parts
  iapply (bar_sig2 CT SC SM SL OC κ 0 ?_ ?_ ?_) $$ HA
  · rfl
  · exact Fin.ext (by decide)
  · rfl
  iintro HA
  sl_exec_parts
  iapply (bar_wait CT SC SM SL OC κ 0 ?_ ?_) $$ HA
  · rfl
  · rfl
  iintro ⟨HA, HO, HM⟩
  ihave HA := (At_recs CT SC SM SL OC κ 0 0) $$ HA
  icases HA with ⟨#HR, HA⟩
  ihave #HL := (recs_levs CT SC SM SL κ) $$ HR
  unfold Owe
  icases HO with ⟨%W, HO⟩
  sl_exec_parts
  iapply (fill_block CT SC SM SL OC 0 κ ?_ ?_ ?_) $$ HA
  · rfl
  · decide
  · decide
  iintro %fc ⟨Hc, HA⟩
  sl_exec_parts
  ihave HA := HA $$ [Hc]
  · iapply (Entails.of_eq (stored 0 mCtx _ fullShare _ CT _ ?_))
    pick_goal 2; · iexact Hc
    exact hCtx.1.trans (blk0_slot fx fwq fk fv fkw0 fvw0)
  ihave HO := (owe_next 0 ?_ _) $$ HO
  · decide
  iapply (send_chunk 0 CT SC SM SL OC κ ?_ ?_ ?_ _ ?_ ?_ ?_ ?_) $$ [HA HO]
  pick_goal 8; · isplitl [HA] <;> iassumption
  · rfl
  · decide
  · decide
  · decide
  · exact Fin.ext (by decide +revert)
  · decide
  · decide
  iintro ⟨HA, HO⟩
  try sl_exec_parts
  iapply (send_chunk 0 CT SC SM SL OC κ ?_ ?_ ?_ _ ?_ ?_ ?_ ?_) $$ [HA HO]
  pick_goal 8; · isplitl [HA] <;> iassumption
  · rfl
  · decide
  · decide
  · decide
  · exact Fin.ext (by decide +revert)
  · decide
  · decide
  iintro ⟨HA, HO⟩
  ihave Hkw0 := (some_slot 0 mKw rs0 _) $$ Hkw0
  icases Hkw0 with ⟨%fkw0, Hkw0⟩
  ihave Hvw0 := (some_slot 0 mVw rs0 _) $$ Hvw0
  icases Hvw0 with ⟨%fvw0, Hvw0⟩
  iterate 3
    unfold Owe
    icases HO with ⟨%W, HO⟩
    sl_exec_parts
    iapply (fill_block CT SC SM SL OC 0 κ ?_ ?_ ?_) $$ HA
    · rfl
    · decide
    · decide
    iintro %fc ⟨Hc, HA⟩
    sl_exec_parts
    ihave HA := HA $$ [Hc]
    · iapply (Entails.of_eq (stored 0 mCtx _ fullShare _ CT _ ?_))
      pick_goal 2; · iexact Hc
      refine (hCtx.2.1 _ ?_).trans ?_
      · decide
      refine (Eq.trans ?_ (blkM_slot fx fwq fk fv _ (by decide) fkw1 fvw1).symm).symm
      rfl
    ihave HO := (owe_next 0 ?_ _) $$ HO
    · decide
    iapply (send_chunk 0 CT SC SM SL OC κ ?_ ?_ ?_ _ ?_ ?_ ?_ ?_) $$ [HA HO]
    pick_goal 8; · isplitl [HA] <;> iassumption
    · rfl
    · decide
    · decide
    · decide
    · exact Fin.ext (by decide +revert)
    · decide
    · decide
    iintro ⟨HA, HO⟩
    try sl_exec_parts
    iapply (send_chunk 0 CT SC SM SL OC κ ?_ ?_ ?_ _ ?_ ?_ ?_ ?_) $$ [HA HO]
    pick_goal 8; · isplitl [HA] <;> iassumption
    · rfl
    · decide
    · decide
    · decide
    · exact Fin.ext (by decide +revert)
    · decide
    · decide
    iintro ⟨HA, HO⟩
    ihave Hkw1 := (some_slot 0 mKw rs1 _) $$ Hkw1
    icases Hkw1 with ⟨%fkw1, Hkw1⟩
    ihave Hvw1 := (some_slot 0 mVw rs1 _) $$ Hvw1
    icases Hvw1 with ⟨%fvw1, Hvw1⟩
    unfold Owe
    icases HO with ⟨%W, HO⟩
    sl_exec_parts
    iapply (fill_block CT SC SM SL OC 0 κ ?_ ?_ ?_) $$ HA
    · rfl
    · decide
    · decide
    iintro %fc ⟨Hc, HA⟩
    sl_exec_parts
    ihave HA := HA $$ [Hc]
    · iapply (Entails.of_eq (stored 0 mCtx _ fullShare _ CT _ ?_))
      pick_goal 2; · iexact Hc
      refine (hCtx.2.1 _ ?_).trans ?_
      · decide
      refine (Eq.trans ?_ (blkM_slot fx fwq fk fv _ (by decide) fkw0 fvw0).symm).symm
      rfl
    ihave HO := (owe_next 0 ?_ _) $$ HO
    · decide
    iapply (send_chunk 0 CT SC SM SL OC κ ?_ ?_ ?_ _ ?_ ?_ ?_ ?_) $$ [HA HO]
    pick_goal 8; · isplitl [HA] <;> iassumption
    · rfl
    · decide
    · decide
    · decide
    · exact Fin.ext (by decide +revert)
    · decide
    · decide
    iintro ⟨HA, HO⟩
    try sl_exec_parts
    iapply (send_chunk 0 CT SC SM SL OC κ ?_ ?_ ?_ _ ?_ ?_ ?_ ?_) $$ [HA HO]
    pick_goal 8; · isplitl [HA] <;> iassumption
    · rfl
    · decide
    · decide
    · decide
    · exact Fin.ext (by decide +revert)
    · decide
    · decide
    iintro ⟨HA, HO⟩
    ihave Hkw0 := (some_slot 0 mKw rs0 _) $$ Hkw0
    icases Hkw0 with ⟨%fkw0, Hkw0⟩
    ihave Hvw0 := (some_slot 0 mVw rs0 _) $$ Hvw0
    icases Hvw0 with ⟨%fvw0, Hvw0⟩
  unfold Owe
  icases HO with ⟨%W, HO⟩
  sl_exec_parts
  ihave HO := (owe_now 0 _) $$ HO
  try sl_exec_parts
  iapply (at_arr CT SC SM SL OC κ 0 20 ?_ ?_ ?_) $$ [HA HO]
  pick_goal 4; · isplitl [HA] <;> iassumption
  · decide
  · decide
  · rfl
  iintro ⟨HA, HO⟩
  try sl_exec_parts
  iapply (at_arr CT SC SM SL OC κ 0 21 ?_ ?_ ?_) $$ [HA HO]
  pick_goal 4; · isplitl [HA] <;> iassumption
  · decide
  · decide
  · rfl
  iintro ⟨HA, HO⟩
  try sl_exec_parts
  iapply (at_arr CT SC SM SL OC κ 0 22 ?_ ?_ ?_) $$ [HA HO]
  pick_goal 4; · isplitl [HA] <;> iassumption
  · decide
  · decide
  · rfl
  iintro ⟨HA, HO⟩
  ihave HA := (at_reads CT SC SM SL OC 0 κ ?_) $$ HA
  · decide
  icases HA with ⟨⟨Hsc, Hsm, Hsl⟩, HA⟩
  sl_exec_parts
  ihave HA := HA $$ [Hsc Hsm Hsl]
  · isplitl [Hsc]; · iexact Hsc
    isplitl [Hsm] <;> iassumption
  iapply (fill_block CT SC SM SL OC 0 κ ?_ ?_ ?_) $$ HA
  · rfl
  · decide
  · decide
  iintro %fc ⟨Hc, HA⟩
  sl_exec_parts
  ihave HA := HA $$ [Hc]
  · iapply (Entails.of_eq (stored 0 mCtx _ fullShare _ CT _ ?_))
    pick_goal 2; · iexact Hc
    refine hCtx.2.2.trans ?_
    refine (Eq.trans ?_ (blk7_slot fx fwq fk fv SC SM SL fkw1 fvw1).symm).symm
    rfl
  ihave HO := (Owe_next 0 ?_) $$ HO
  · decide
  iapply (send_chunk 0 CT SC SM SL OC κ ?_ ?_ ?_ _ ?_ ?_ ?_ ?_) $$ [HA HO]
  pick_goal 8; · isplitl [HA] <;> iassumption
  · rfl
  · decide
  · decide
  · decide
  · exact Fin.ext (by decide +revert)
  · decide
  · decide
  iintro ⟨HA, HO⟩
  try sl_exec_parts
  iapply (send_chunk 0 CT SC SM SL OC κ ?_ ?_ ?_ _ ?_ ?_ ?_ ?_) $$ [HA HO]
  pick_goal 8; · isplitl [HA] <;> iassumption
  · rfl
  · decide
  · decide
  · decide
  · exact Fin.ext (by decide +revert)
  · decide
  · decide
  iintro ⟨HA, HO⟩
  iterate 8
    try sl_exec_parts
    iapply (proj_block CT SC SM SL OC 0 κ hOC ?_ ?_ ?_) $$ [HA HO]
    pick_goal 4; · isplitl [HA] <;> iassumption
    · rfl
    · decide
    · decide
    iintro %fo ⟨HO, Hr, Ho, Hcl⟩
    sl_exec_parts
    ihave HA := Hcl $$ [Hr] [Ho]
    · iexact Hr
    · iexact Ho
  iterate 16
    try sl_exec_parts
    iapply (sent_chunk 0 CT SC SM SL OC κ ?_ ?_ ?_ ?_) $$ [HA HO]
    pick_goal 5; · isplitl [HA] <;> iassumption
    · rfl
    · decide
    · decide
    · decide
    iintro ⟨HA, HO⟩
  sl_exec_parts
  iapply (fin_sig1 CT SC SM SL OC κ 0 ?_ ?_ ?_ ?_) $$ [HA HO HM]
  pick_goal 5
  · isplitl [HA]; · iexact HA
    isplitl [HO] <;> iassumption
  · decide
  · rfl
  · exact Fin.ext (by decide)
  · rfl
  iintro HA
  sl_exec_parts
  iapply (fin_sig2 CT SC SM SL OC κ 0 ?_ ?_ ?_) $$ HA
  · rfl
  · exact Fin.ext (by decide)
  · rfl
  iintro HA
  sl_exec_parts
  iapply (fin_wait CT SC SM SL OC κ 0 ?_ ?_) $$ HA
  · rfl
  · rfl
  iintro ⟨HA, HE⟩
  try sl_exec_parts
  rw [wp_ret]
  imodintro
  iapply Hk
  isplitl [HA]; · iexact HA
  isplitl [HE]; · iexact HE
  isplitl [Hwo]; · iexact Hwo
  isplitl [Hx]; · iexact Hx
  isplitl [Hwq]; · iexact Hwq
  isplitl [HkL]; · iexact HkL
  isplitl [HvL]; · iexact HvL
  isplitl [HkR]; · iexact HkR
  isplitl [HvR]; · iexact HvR
  isplitl [Hkw0]; · iexists _; iexact Hkw0
  isplitl [Hkw1]; · iexists _; iexact Hkw1
  isplitl [Hvw0]; · iexists _; iexact Hvw0
  isplitl [Hvw1]; · iexists _; iexact Hvw1
  isplitl [Hq0]; · iexact Hq0
  isplitl [Hq1]; · iexact Hq1
  isplitl [Hq2]; · iexact Hq2
  iexact Hq3

end Cert.KernelIdeal.Hand
-- ==== Proof.KI.Dev2.lean ====
/-
  Device 2's run.
-/
module

public import proofs.«01_k».proof.Proof.KI.Ends

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ UU ℕ
variable (CT : CtxT F) (SC : ScT F) (SM : SmT F) (SL : SlT F) (OC : (cc0_stg3_0 : Ref sig .tc).ty.Contents (Elt F))

set_option sl_exec.squeezeSlice true in
set_option maxHeartbeats 0 in
theorem run2 (κ : GSem nD τ sig → ℕ) (fwo) (hOC : OutOk CT fwo OC) (Q : PUnit → sProp 𝕄) :
    iprop(Pre CT SC SM SL OC κ 2 ∗ pt 2 mWo fullShare fwo
        ∗ (iprop(At CT SC SM SL OC κ 2 64 ∗ Out 2 ∗ pt 2 mWo fullShare fwo) -∗ Q ⟨⟩))
      ⊢ wp frame (wpE (defs₀ (F := F)) Variants.none ((2 : Dev nD)) none) Set.univ
          (cc0_body mX (Memref.isWhole_whole _) mWq (Memref.isWhole_whole _) mK (Memref.isWhole_whole _) mV (Memref.isWhole_whole _)
            mWo (Memref.isWhole_whole _) mOut (Memref.isWhole_whole _) mKw (Memref.isWhole_whole _) mVw (Memref.isWhole_whole _) mCtx (Memref.isWhole_whole _)
            mSc (Memref.isWhole_whole _) mSm (Memref.isWhole_whole _) mSl (Memref.isWhole_whole _)
            cc0_scratch6 cc0_scratch7 cc0_scratch8 cc0_scratch9 cc0_scratch10 cc0_scratch11 cc0_scratch12 cc0_scoped0) Q := by
  iintro ⟨HA, Hwo, Hk⟩
  simp only [cc0_body_eq_skeleton]; unfold cc0_body_skel
  sl_exec_parts
  iapply (bar_sig1 CT SC SM SL OC κ 2 ?_ ?_ ?_) $$ HA
  · rfl
  · exact Fin.ext (by decide)
  · rfl
  iintro HA
  sl_exec_parts
  iapply (bar_sig2 CT SC SM SL OC κ 2 ?_ ?_ ?_) $$ HA
  · rfl
  · exact Fin.ext (by decide)
  · rfl
  iintro HA
  sl_exec_parts
  iapply (bar_wait CT SC SM SL OC κ 2 ?_ ?_) $$ HA
  · rfl
  · rfl
  iintro ⟨HA, HO, HM⟩
  iterate 16
    try sl_exec_parts
    iapply (arr_chunk 2 CT SC SM SL OC κ ?_ ?_ ?_ ?_) $$ [HA HO]
    pick_goal 5; · isplitl [HA] <;> iassumption
    · rfl
    · decide
    · decide
    · decide
    iintro ⟨HA, HO⟩
    try sl_exec_parts
    iapply (send_chunk 2 CT SC SM SL OC κ ?_ ?_ ?_ _ ?_ ?_ ?_ ?_) $$ [HA HO]
    pick_goal 8; · isplitl [HA] <;> iassumption
    · rfl
    · decide
    · decide
    · decide
    · exact Fin.ext (by decide +revert)
    · decide
    · decide
    iintro ⟨HA, HO⟩
    try sl_exec_parts
    iapply (proj_chunk 2 CT SC SM SL OC κ hOC ?_ ?_ ?_) $$ [HA HO]
    pick_goal 4; · isplitl [HA] <;> iassumption
    · rfl
    · decide
    · decide
    iintro %fo ⟨HO, Hr, Ho, Hcl⟩
    sl_exec_parts
    ihave HA := Hcl $$ [Hr] [Ho]
    · iexact Hr
    · iexact Ho
  iterate 16
    try sl_exec_parts
    iapply (sent_chunk 2 CT SC SM SL OC κ ?_ ?_ ?_ ?_) $$ [HA HO]
    pick_goal 5; · isplitl [HA] <;> iassumption
    · rfl
    · decide
    · decide
    · decide
    iintro ⟨HA, HO⟩
  sl_exec_parts
  iapply (fin_sig1 CT SC SM SL OC κ 2 ?_ ?_ ?_ ?_) $$ [HA HO HM]
  pick_goal 5
  · isplitl [HA]; · iexact HA
    isplitl [HO] <;> iassumption
  · decide
  · rfl
  · exact Fin.ext (by decide)
  · rfl
  iintro HA
  sl_exec_parts
  iapply (fin_sig2 CT SC SM SL OC κ 2 ?_ ?_ ?_) $$ HA
  · rfl
  · exact Fin.ext (by decide)
  · rfl
  iintro HA
  sl_exec_parts
  iapply (fin_wait CT SC SM SL OC κ 2 ?_ ?_) $$ HA
  · rfl
  · rfl
  iintro ⟨HA, HE⟩
  try sl_exec_parts
  rw [wp_ret]
  imodintro
  iapply Hk
  isplitl [HA]; · iexact HA
  isplitl [HE]; · iexact HE
  iexact Hwo

end Cert.KernelIdeal.Hand
-- ==== Proof.KI.Dev3.lean ====
/-
  Device 3's run.
-/
module

public import proofs.«01_k».proof.Proof.KI.Ends

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ UU ℕ
variable (CT : CtxT F) (SC : ScT F) (SM : SmT F) (SL : SlT F) (OC : (cc0_stg3_0 : Ref sig .tc).ty.Contents (Elt F))

set_option sl_exec.squeezeSlice true in
set_option maxHeartbeats 0 in
theorem run3 (κ : GSem nD τ sig → ℕ) (fwo) (hOC : OutOk CT fwo OC) (Q : PUnit → sProp 𝕄) :
    iprop(Pre CT SC SM SL OC κ 3 ∗ pt 3 mWo fullShare fwo
        ∗ (iprop(At CT SC SM SL OC κ 3 48 ∗ Out 3 ∗ pt 3 mWo fullShare fwo) -∗ Q ⟨⟩))
      ⊢ wp frame (wpE (defs₀ (F := F)) Variants.none ((3 : Dev nD)) none) Set.univ
          (cc0_body mX (Memref.isWhole_whole _) mWq (Memref.isWhole_whole _) mK (Memref.isWhole_whole _) mV (Memref.isWhole_whole _)
            mWo (Memref.isWhole_whole _) mOut (Memref.isWhole_whole _) mKw (Memref.isWhole_whole _) mVw (Memref.isWhole_whole _) mCtx (Memref.isWhole_whole _)
            mSc (Memref.isWhole_whole _) mSm (Memref.isWhole_whole _) mSl (Memref.isWhole_whole _)
            cc0_scratch6 cc0_scratch7 cc0_scratch8 cc0_scratch9 cc0_scratch10 cc0_scratch11 cc0_scratch12 cc0_scoped0) Q := by
  iintro ⟨HA, Hwo, Hk⟩
  simp only [cc0_body_eq_skeleton]; unfold cc0_body_skel
  sl_exec_parts
  iapply (bar_sig1 CT SC SM SL OC κ 3 ?_ ?_ ?_) $$ HA
  · rfl
  · exact Fin.ext (by decide)
  · rfl
  iintro HA
  sl_exec_parts
  iapply (bar_sig2 CT SC SM SL OC κ 3 ?_ ?_ ?_) $$ HA
  · rfl
  · exact Fin.ext (by decide)
  · rfl
  iintro HA
  sl_exec_parts
  iapply (bar_wait CT SC SM SL OC κ 3 ?_ ?_) $$ HA
  · rfl
  · rfl
  iintro ⟨HA, HO, HM⟩
  iterate 8
    try sl_exec_parts
    iapply (arr_chunk 3 CT SC SM SL OC κ ?_ ?_ ?_ ?_) $$ [HA HO]
    pick_goal 5; · isplitl [HA] <;> iassumption
    · rfl
    · decide
    · decide
    · decide
    iintro ⟨HA, HO⟩
    try sl_exec_parts
    iapply (send_chunk 3 CT SC SM SL OC κ ?_ ?_ ?_ _ ?_ ?_ ?_ ?_) $$ [HA HO]
    pick_goal 8; · isplitl [HA] <;> iassumption
    · rfl
    · decide
    · decide
    · decide
    · exact Fin.ext (by decide +revert)
    · decide
    · decide
    iintro ⟨HA, HO⟩
    try sl_exec_parts
    iapply (proj_chunk 3 CT SC SM SL OC κ hOC ?_ ?_ ?_) $$ [HA HO]
    pick_goal 4; · isplitl [HA] <;> iassumption
    · rfl
    · decide
    · decide
    iintro %fo ⟨HO, Hr, Ho, Hcl⟩
    sl_exec_parts
    ihave HA := Hcl $$ [Hr] [Ho]
    · iexact Hr
    · iexact Ho
  iterate 8
    try sl_exec_parts
    iapply (arr_chunk 3 CT SC SM SL OC κ ?_ ?_ ?_ ?_) $$ [HA HO]
    pick_goal 5; · isplitl [HA] <;> iassumption
    · rfl
    · decide
    · decide
    · decide
    iintro ⟨HA, HO⟩
    try sl_exec_parts
    iapply (proj_chunk 3 CT SC SM SL OC κ hOC ?_ ?_ ?_) $$ [HA HO]
    pick_goal 4; · isplitl [HA] <;> iassumption
    · rfl
    · decide
    · decide
    iintro %fo ⟨HO, Hr, Ho, Hcl⟩
    sl_exec_parts
    ihave HA := Hcl $$ [Hr] [Ho]
    · iexact Hr
    · iexact Ho
  iterate 8
    try sl_exec_parts
    iapply (sent_chunk 3 CT SC SM SL OC κ ?_ ?_ ?_ ?_) $$ [HA HO]
    pick_goal 5; · isplitl [HA] <;> iassumption
    · rfl
    · decide
    · decide
    · decide
    iintro ⟨HA, HO⟩
  sl_exec_parts
  iapply (fin_sig1 CT SC SM SL OC κ 3 ?_ ?_ ?_ ?_) $$ [HA HO HM]
  pick_goal 5
  · isplitl [HA]; · iexact HA
    isplitl [HO] <;> iassumption
  · decide
  · rfl
  · exact Fin.ext (by decide)
  · rfl
  iintro HA
  sl_exec_parts
  iapply (fin_sig2 CT SC SM SL OC κ 3 ?_ ?_ ?_) $$ HA
  · rfl
  · exact Fin.ext (by decide)
  · rfl
  iintro HA
  sl_exec_parts
  iapply (fin_wait CT SC SM SL OC κ 3 ?_ ?_) $$ HA
  · rfl
  · rfl
  iintro ⟨HA, HE⟩
  try sl_exec_parts
  rw [wp_ret]
  imodintro
  iapply Hk
  isplitl [HA]; · iexact HA
  isplitl [HE]; · iexact HE
  iexact Hwo

end Cert.KernelIdeal.Hand
-- ==== Proof.KI.Whole.lean ====
/-
  The values the buffers hold in the end, as whole buffers, and whole buffers against their pieces.
-/
module

public import proofs.«01_k».proof.Proof.KI.Ends
public import proofs.«01_k».proof.Proof.KI.Vals
public import Idealize.ShloMosaic.Lib.Ring

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

/-! ## The values -/

abbrev KvT (F : FTy → Type) : Type := (main_v2 : Ref sig .tc).ty.Contents (Elt F)
abbrev XT (F : FTy → Type) : Type := (cc0_stg0_0 : Ref sig .tc).ty.Contents (Elt F)
abbrev WT (F : FTy → Type) : Type := (cc0_stg1_0 : Ref sig .tc).ty.Contents (Elt F)

/-- Row `R * b + i`, column `j` of a 2048-row buffer is row `i`, column `j` of block `b`. -/
theorem row_emb (R : ℕ) (size : Fin 2 → ℕ) (h0 : size 0 = R) (h1 : size 1 = 1024) (n : ℕ)
    (hi : ∀ a : Fin 2, (![n, 0] : Fin 2 → ℕ) a + size a ≤ S2048x1024.size a)
    (x : (Rect.unit (s := S2048x1024) ![n, 0] size hi).shape.Idx) :
    ((Rect.unit (s := S2048x1024) ![n, 0] size hi).emb x 0).val = n + (x 0).val
      ∧ ((Rect.unit (s := S2048x1024) ![n, 0] size hi).emb x 1).val = (x 1).val := by
  constructor
  · show n + 1 * (x 0).val = _
    omega
  · show 0 + 1 * (x 1).val = _
    omega

/-- A 2048-row buffer put together from blocks of `R` rows. -/
def tile (R : ℕ) (hR : 0 < R) (f : ℕ → (Sh2 R 1024).Idx → Elt F .f32) : S2048x1024.Idx → Elt F .f32 := fun i =>
  f ((i 0).val / R) (fun a => match a with
    | ⟨0, _⟩ => (⟨(i 0).val % R, Nat.mod_lt _ hR⟩ : Fin R)
    | ⟨1, _⟩ => (⟨(i 1).val, (i 1).isLt⟩ : Fin 1024))

theorem tile_at (R : ℕ) (hR : 0 < R) (f : ℕ → (Sh2 R 1024).Idx → Elt F .f32) (i : S2048x1024.Idx) (b : ℕ) (x : (Sh2 R 1024).Idx)
    (h0 : (i 0).val = R * b + (x 0).val) (h1 : (i 1).val = (x 1).val) : tile R hR f i = f b x := by
  have hx : (x 0).val < R := (x 0).isLt
  have e1 : (i 0).val / R = b := by
    rw [h0, Nat.mul_add_div hR, Nat.div_eq_of_lt hx, Nat.add_zero]
  have e2 : (i 0).val % R = (x 0).val := by
    rw [h0, Nat.mul_add_mod, Nat.mod_eq_of_lt hx]
  unfold tile
  rw [e1]
  congr 1
  funext a
  match a with
  | ⟨0, _⟩ => exact Fin.ext e2
  | ⟨1, _⟩ => exact Fin.ext h1

section V
variable (fx : XT F) (fwq : WT F) (fk fv : KvT F)

def SCv : ScT F := scG fx fwq (wins 128 0 fk) (wins 128 0 fv)
def SMv : SmT F := smG fx fwq (wins 128 0 fk)
def SLv : SlT F := slG fx fwq (wins 128 0 fk)

theorem slOk : SlOk fx fwq fk fv (SCv fx fwq fk fv) (SMv fx fwq fk) (SLv fx fwq fk) := by
  refine ⟨?_, ?_, ?_⟩
  · refine funext fun x => ?_
    show SCv fx fwq fk fv (scR.emb x) = _
    rw [full_emb (a := 128) (b := 1024)]; rfl
  · refine funext fun x => ?_
    show SMv fx fwq fk (smR.emb x) = _
    rw [full_emb (a := 128) (b := 8)]; rfl
  · refine funext fun x => ?_
    show SLv fx fwq fk (smR.emb x) = _
    rw [full_emb (a := 128) (b := 8)]; rfl

variable (SC : ScT F) (SM : SmT F) (SL : SlT F)

/-- A block of the context, by its number. -/
def ctBlk (b : ℕ) : FVec F S256x1024 .f32 :=
  if b = 0 then blk0 fx fwq (wins 384 0 fk) (wins 384 0 fv)
  else if h : 256 * b ∈ [256, 512, 768, 1024, 1280, 1536] then
    blkM fx fwq (256 * b) (mid_inb h) (wins 512 (256 * b - 128) fk) (wins 512 (256 * b - 128) fv)
  else blk7 fx fwq SC SM SL (wins 384 1664 fk) (wins 384 1664 fv)

def CTv : CtxT F := tile 256 (by decide) (ctBlk fx fwq fk fv SC SM SL)

theorem ctv_read (b : ℕ) (h : 256 * b + 256 ≤ 2048) :
    mCtx.view.readAt (Elt F) (blkR (256 * b) h).toLoadRect (CTv fx fwq fk fv SC SM SL) = ctBlk fx fwq fk fv SC SM SL b := by
  refine funext fun x => ?_
  obtain ⟨e0, e1⟩ := row_emb 256 S256x1024.size rfl rfl (256 * b) (blkR_inb _ h) x
  exact tile_at 256 (by decide) (ctBlk fx fwq fk fv SC SM SL) ((blkR (256 * b) h).emb x) b x e0 e1

theorem ctxOk : CtxOk fx fwq fk fv SC SM SL (CTv fx fwq fk fv SC SM SL) := by
  refine ⟨?_, ?_, ?_⟩
  · exact (ctv_read fx fwq fk fv SC SM SL 0 (by decide)).trans (if_pos rfl)
  · intro m hm
    obtain ⟨b, rfl⟩ : ∃ b, m = 256 * b := by
      simp only [List.mem_cons, List.not_mem_nil, or_false] at hm
      exact ⟨m / 256, by omega⟩
    refine (ctv_read fx fwq fk fv SC SM SL b (mid_inb hm)).trans ?_
    unfold ctBlk
    rw [if_neg (by rintro rfl; revert hm; decide), dif_pos hm]
  · refine (ctv_read fx fwq fk fv SC SM SL 7 (by decide)).trans ?_
    unfold ctBlk
    rw [if_neg (by decide), dif_neg (by decide)]

variable (CT : CtxT F) (fwo : WT F)

/-- The output, projected chunk by chunk (devices 1, 2, 3) or block by block (device 0). -/
def ocChunk (b : ℕ) : FVec F S128x1024 .f32 := if h : b < 16 then
  k0_pay237 (F := F) (mCtx.view.readAt (Elt F) (chunkR ⟨b, h⟩).toLoadRect CT) (mWo.view.readAt (Elt F) woR.toLoadRect fwo)
  else fun _ => CT (fun a => ⟨0, by fin_cases a <;> decide⟩)
def ocBlk (b : ℕ) : FVec F S256x1024 .f32 := if h : 256 * b + 256 ≤ 2048 then
  k0_pay182 (F := F) (mCtx.view.readAt (Elt F) (blkR (256 * b) h).toLoadRect CT) (mWo.view.readAt (Elt F) woR.toLoadRect fwo)
  else fun _ => CT (fun a => ⟨0, by fin_cases a <;> decide⟩)
def OCv : XT F := tile 128 (by decide) (ocChunk CT fwo)
def OCw : XT F := tile 256 (by decide) (ocBlk CT fwo)

theorem outOk : OutOk (F := F) CT fwo (OCv CT fwo) := by
  intro i
  refine funext fun x => ?_
  obtain ⟨e0, e1⟩ := row_emb 128 S128x1024.size rfl rfl (128 * i.val) (rowR_inb _ (chunk_inb i)) x
  have h := tile_at (F := F) 128 (by decide) (ocChunk CT fwo) ((chunkR i).emb x) i.val x e0 e1
  have h' : ocChunk CT fwo i.val = _ := dif_pos i.isLt
  rw [h'] at h
  exact h

theorem outOk2 : OutOk2 (F := F) CT fwo (OCw CT fwo) := by
  intro m h hd
  obtain ⟨b, rfl⟩ := hd
  refine funext fun x => ?_
  obtain ⟨e0, e1⟩ := row_emb 256 S256x1024.size rfl rfl (256 * b) (blkR_inb _ h) x
  have h1 := tile_at (F := F) 256 (by decide) (ocBlk CT fwo) ((blkR (256 * b) h).emb x) b x e0 e1
  have h' : ocBlk CT fwo b = _ := dif_pos h
  rw [h'] at h1
  exact h1

end V

/-! ## Chunks and whole buffers -/

/-- The landing counter of a chunk's hop. -/
def hopOf (i : Fin 16) : Fin 46 :=
  if i.val % 4 < 2 then Fin.ofNat 46 (4 + 2 * (i.val / 4) + i.val % 2) else Fin.ofNat 46 (12 + 2 * (i.val / 4) + i.val % 2)
theorem hopOf_inj : Function.Injective hopOf := by decide
theorem chunk_hop : ∀ i : Fin 16, chunkOf (hopOf i) = i := by decide
def hopE : Fin 16 ↪ Fin 46 := ⟨hopOf, hopOf_inj⟩

theorem hops_only (Φ : Fin 46 → sProp 𝕄) :
    bigSep Finset.univ (fun k : Fin 46 => if 4 ≤ k.val ∧ k.val < 20 then Φ k else iprop(emp)) = bigSep Finset.univ fun i : Fin 16 => Φ (hopOf i) := by
  have e : (Finset.univ.filter fun k : Fin 46 => 4 ≤ k.val ∧ k.val < 20) = Finset.univ.map hopE := by decide
  have := bigSep_filter (M := 𝕄) Finset.univ (fun k : Fin 46 => 4 ≤ k.val ∧ k.val < 20) Φ
  rw [e, bigSep_map] at this
  exact this.symm

theorem places_only (Φ : Fin 46 → sProp 𝕄) :
    bigSep Finset.univ (fun k : Fin 46 => if 4 ≤ k.val ∧ k.val < 23 then Φ k else iprop(emp))
      = iprop(Φ 20 ∗ Φ 21 ∗ Φ 22 ∗ bigSep Finset.univ fun i : Fin 16 => Φ (hopOf i)) := by
  have e : (Finset.univ.filter fun k : Fin 46 => 4 ≤ k.val ∧ k.val < 23) = insert 20 (insert 21 (insert 22 (Finset.univ.map hopE))) := by decide
  have := bigSep_filter (M := 𝕄) Finset.univ (fun k : Fin 46 => 4 ≤ k.val ∧ k.val < 23) Φ
  rw [e, bigSep_insert (by decide), bigSep_insert (by decide), bigSep_insert (by decide), bigSep_map] at this
  exact this.symm

theorem chunks_disjoint (M : Memref sig .tc .vmem S2048x1024 .f32) (i j : Fin 16) (h : i ≠ j) :
    Disjoint (M.view.setOn (chunkR i).set) (M.view.setOn (chunkR j).set) :=
  (Finset.disjoint_map _).mpr (row_disjoint _ _ _ _ (by have := Fin.val_ne_of_ne h; omega))

theorem chunks_cover : (Finset.univ : Finset (Fin 16)).biUnion (fun i => (chunkR i).set) = Finset.univ := by
  refine Finset.eq_univ_of_forall fun x => Finset.mem_biUnion.mpr ?_
  have hx : (x 0).val < 2048 := (x 0).isLt
  refine ⟨⟨(x 0).val / 128, by omega⟩, Finset.mem_univ _, ?_⟩
  rw [mem_rows _ 128 _ rfl rfl]
  show 128 * ((x 0).val / 128) ≤ (x 0).val ∧ (x 0).val < 128 * ((x 0).val / 128) + 128
  omega

theorem cover_of (M : Memref sig .tc .vmem S2048x1024 .f32) (hM : M.view.set = Finset.univ) :
    (Finset.univ : Finset (Fin 16)).biUnion (fun i => M.view.setOn (chunkR i).set) = Finset.univ := by
  rw [← hM, ← View.setOn_univ, ← chunks_cover]
  unfold View.setOn
  ext y
  simp only [Finset.mem_biUnion, Finset.mem_map, Finset.mem_univ, true_and]
  constructor
  · rintro ⟨i, x, hx, rfl⟩; exact ⟨x, ⟨i, hx⟩, rfl⟩
  · rintro ⟨x, ⟨i, hx⟩, rfl⟩; exact ⟨i, x, hx, rfl⟩

theorem whole_chunks (c : Dev nD) (M : Memref sig .tc .vmem S2048x1024 .f32) (hM : M.view.set = Finset.univ) (q : PosShare TreeShare)
    (f : Buf (Elt F) (M.view.loc (c : Thread nD τ))) :
    (pt c M q f : sProp 𝕄) = bigSep Finset.univ fun i => ptR c M (chunkR i) q f :=
  Ring.pointsTo_blocks (ℓ := M.view.loc (c : Thread nD τ)) (B := Fin 16) (fun i => M.view.setOn (chunkR i).set) (chunks_disjoint M) (cover_of M hM) f

theorem any_of (c : Dev nD) (M : Memref sig .tc .vmem S2048x1024 .f32) (R : Rect S2048x1024) (q : PosShare TreeShare)
    (f : Buf (Elt F) (M.view.loc (c : Thread nD τ))) : (ptR c M R q f : sProp 𝕄) ⊢ iprop(∃ f, ptR c M R q f) := by
  iintro H; iexists f; iexact H

theorem chunks_any (c : Dev nD) (M : Memref sig .tc .vmem S2048x1024 .f32) (hM : M.view.set = Finset.univ) (q : PosShare TreeShare)
    (f₀ : Buf (Elt F) (M.view.loc (c : Thread nD τ))) :
    (bigSep Finset.univ fun i => iprop(∃ f, ptR c M (chunkR i) q f) : sProp 𝕄) ⊢ iprop(∃ f, pt c M q f) :=
  Ring.pointsTo_blocks_join_exists (ℓ := M.view.loc (c : Thread nD τ)) (B := Fin 16) (fun i => M.view.setOn (chunkR i).set) (chunks_disjoint M) (cover_of M hM) f₀

/-! ## The places and the output -/

/-- The places hops carry, on one device, at any contents. -/
def spot (c : Dev nD) (k : Fin 46) : sProp 𝕄 := if 4 ≤ k.val ∧ k.val < 23 then resAny k c else iprop(emp)

theorem hop_low : ∀ i : Fin 16, hopOf i ≠ 20 ∧ hopOf i ≠ 21 ∧ hopOf i ≠ 22 := by decide

theorem spots (c : Dev nD) : bigSep Finset.univ (fun k => spot (F := F) c k)
    = iprop((∃ f, pt c mSc fullShare f) ∗ (∃ f, pt c mSm fullShare f) ∗ (∃ f, pt c mSl fullShare f)
        ∗ bigSep Finset.univ fun i => iprop(∃ f, ptR c mCtx (chunkR i) fullShare f)) := by
  have e : ∀ i : Fin 16, resAny (F := F) (hopOf i) c = iprop(∃ f, ptR c mCtx (chunkR i) fullShare f) := fun i => by
    unfold resAny
    rw [if_neg (hop_low i).1, if_neg (hop_low i).2.1, if_neg (hop_low i).2.2, chunk_hop]
  unfold spot
  rw [places_only, bigSep_congr (Φ := fun i : Fin 16 => resAny (F := F) (hopOf i) c) fun i _ => e i]
  rfl

theorem spots_in (c : Dev nD) :
    iprop((∃ f, pt c mCtx fullShare f) ∗ (∃ f, pt c mSc fullShare f) ∗ (∃ f, pt c mSm fullShare f) ∗ ∃ f, pt c mSl fullShare f)
      ⊢ bigSep Finset.univ (fun k => spot (F := F) c k) := by
  rw [spots]
  iintro ⟨⟨%f, H⟩, H1, H2, H3⟩
  isplitl [H1]; · iexact H1
  isplitl [H2]; · iexact H2
  isplitl [H3]; · iexact H3
  have e : (pt c mCtx fullShare f : sProp 𝕄) ⊢ bigSep Finset.univ fun i => iprop(∃ f, ptR c mCtx (chunkR i) fullShare f) := by
    rw [whole_chunks c mCtx (View.set_whole _) fullShare f]
    exact bigSep_mono fun i _ => any_of c _ _ _ f
  iapply e; iexact H

theorem spots_out (c : Dev nD) (CT : CtxT F) : bigSep Finset.univ (fun k => spot (F := F) c k)
    ⊢ iprop((∃ f, pt c mCtx fullShare f) ∗ (∃ f, pt c mSc fullShare f) ∗ (∃ f, pt c mSm fullShare f) ∗ ∃ f, pt c mSl fullShare f) := by
  rw [spots]
  iintro ⟨H1, H2, H3, H⟩
  isplitl [H]; · iapply (chunks_any c mCtx (View.set_whole _) fullShare CT); iexact H
  isplitl [H1]; · iexact H1
  isplitl [H2] <;> iassumption

section
variable (CT : CtxT F) (SC : ScT F) (SM : SmT F) (SL : SlT F) (OC : XT F) (c : Dev nD)

theorem out_in : iprop(∃ f, pt c mOut fullShare f) ⊢ Ocs OC c (sta c 0).o := by
  have e0 : (sta c 0).o = fun k => if 4 ≤ k.val ∧ k.val < 20 then 1 else 0 := rfl
  have e : Ocs OC c (sta c 0).o = bigSep Finset.univ fun i => iprop(∃ f, ptR (F := F) c mOut (chunkR i) fullShare f) := by
    unfold Ocs
    rw [e0, bigSep_congr (Ψ := fun k : Fin 46 => if 4 ≤ k.val ∧ k.val < 20 then oc OC c k 1 else iprop(emp)) fun k _ => by
      dsimp only
      split
      · rfl
      · unfold oc; rw [if_pos rfl], hops_only]
    exact bigSep_congr fun i _ => by unfold oc; rw [if_neg (by decide), if_pos rfl, chunk_hop]
  rw [e]
  iintro ⟨%f, H⟩
  have e' : (pt c mOut fullShare f : sProp 𝕄) ⊢ bigSep Finset.univ fun i => iprop(∃ f, ptR c mOut (chunkR i) fullShare f) := by
    rw [whole_chunks c mOut (View.set_whole _) fullShare f]
    exact bigSep_mono fun i _ => any_of c _ _ _ f
  iapply e'; iexact H

/-- The number of a device's moves. -/
def nmv : ℕ := if c = 0 then 51 else if c = 1 then 57 else if c = 2 then 64 else 48

theorem end_o : ∀ c : Dev nD, ∀ k : Fin 46, (sta c (nmv c)).o k = if 4 ≤ k.val ∧ k.val < 20 then 2 else 0 := by decide +kernel
theorem end_f : ∀ c : Dev nD, ∀ k : Fin 46, (sta c (nmv c)).f k = stEnd c k := by decide +kernel
theorem end_g : ∀ c : Dev nD, ∀ k : Fin 46, (4 ≤ k.val ∧ k.val < 23 → (sta c (nmv c)).g k = 2 ∨ (sta c (nmv c)).g k = 3)
    ∧ (¬(4 ≤ k.val ∧ k.val < 23) → (sta c (nmv c)).g k = 0) := by decide +kernel

theorem out_out : Ocs OC c (sta c (nmv c)).o = pt c mOut fullShare OC := by
  unfold Ocs
  rw [bigSep_congr (Ψ := fun k : Fin 46 => if 4 ≤ k.val ∧ k.val < 20 then oc OC c k 2 else iprop(emp)) fun k _ => by
      rw [end_o]
      split
      · rfl
      · unfold oc; rw [if_pos rfl], hops_only, whole_chunks c mOut (View.set_whole _)]
  exact bigSep_congr fun i _ => by unfold oc; rw [if_neg (by decide), if_neg (by decide), chunk_hop]

theorem res_any (k : Fin 46) : iprop(res CT SC SM SL k c lsh ∗ res CT SC SM SL k c rsh) ⊢ resAny k c := by
  unfold res resAny
  split
  · iintro H; iexists SC; iapply (Entails.of_eq (halves _ SC).symm); iexact H
  split
  · iintro H; iexists SM; iapply (Entails.of_eq (halves _ SM).symm); iexact H
  split
  · iintro H; iexists SL; iapply (Entails.of_eq (halves _ SL).symm); iexact H
  · iintro H; iexists CT; iapply (Entails.of_eq (halves _ CT).symm); iexact H

theorem places_out : Pcs CT SC SM SL c (sta c (nmv c)).g ⊢ bigSep Finset.univ (fun k => spot (F := F) c k) := by
  unfold Pcs
  refine bigSep_mono fun k _ => ?_
  unfold spot
  by_cases h : 4 ≤ k.val ∧ k.val < 23
  · rw [if_pos h]
    rcases (end_g c k).1 h with e | e
    · rw [e]
      unfold pc
      rw [if_neg (by decide), if_neg (by decide), if_pos rfl]
      exact res_any CT SC SM SL c k
    · rw [e, pc_three]
      exact Entails.refl _
  · rw [if_neg h, (end_g c k).2 h]
    unfold pc
    rw [if_pos rfl]
    exact Entails.refl _

variable (κ : GSem nD τ sig → ℕ)

/-- The end of a run: the counters closed, the buffers whole. -/
theorem end_all : iprop(At CT SC SM SL OC κ c (nmv c) ∗ Out c)
    ⊢ (|={Set.univ}=> iprop((∃ W : Waits sig Unit, owes (c : Thread nD τ) (0 : CellTallies nD τ sig Unit) W)
        ∗ (semVal (gc c bar) 0 ∗ semVal (gc c fin2) 0 ∗ bigSep Finset.univ (fun k => shut c k))
        ∗ ((∃ f, pt c mCtx fullShare f) ∗ (∃ f, pt c mSc fullShare f) ∗ (∃ f, pt c mSm fullShare f) ∗ ∃ f, pt c mSl fullShare f)
        ∗ pt c mOut fullShare OC) : sProp 𝕄) := by
  have ef : (sta c (nmv c)).f = stEnd c := funext (end_f c)
  unfold At Out
  rw [ef, out_out]
  iintro ⟨⟨#HR, HS, HP, HOc⟩, HO, Hb, Hf⟩
  imod (close_all CT SC SM SL κ c) $$ [HS] with HS
  · isplitr; · iexact HR
    iexact HS
  imod (close_reg CT SC SM SL κ c 0) $$ [Hb] with Hb
  · isplitr; · iexact HR
    iexact Hb
  imod (close_reg CT SC SM SL κ c 1) $$ [Hf] with Hf
  · isplitr; · iexact HR
    iexact Hf
  imodintro
  isplitl [HO]; · iexact HO
  isplitl [HS Hb Hf]
  · isplitl [Hb]; · iexact Hb
    isplitl [Hf] <;> iassumption
  isplitl [HP]
  · iapply (spots_out c CT)
    iapply (places_out CT SC SM SL c)
    iexact HP
  iexact HOc

end

end Cert.KernelIdeal.Hand
-- ==== Proof.KI.Runs.lean ====
/-
  The four devices' runs, in one form.
-/
module

public import proofs.«01_k».proof.Proof.KI.Dev0
public import proofs.«01_k».proof.Proof.KI.Dev2
public import proofs.«01_k».proof.Proof.KI.Dev3
public import proofs.«01_k».proof.Proof.KI.Whole

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

/-! ## The two slots of a window buffer -/

theorem slot_cover : rs0.set ∪ rs1.set = (Finset.univ : Finset S2x512x1024.Idx) := by
  refine Finset.eq_univ_of_forall fun x => ?_
  have h : (x 0).val = 0 ∨ (x 0).val = 1 := by have : (x 0).val < 2 := (x 0).isLt; omega
  have h1 : (x 1).val < 512 := (x 1).isLt
  have h2 : (x 2).val < 1024 := (x 2).isLt
  rw [Finset.mem_union, Rect.mem_set_unit, Rect.mem_set_unit]
  rcases h with h | h
  · left; intro a; fin_cases a
    · exact ⟨Nat.zero_le _, by show (x 0).val < 0 + 1; omega⟩
    · exact ⟨Nat.zero_le _, by show (x 1).val < 0 + 512; omega⟩
    · exact ⟨Nat.zero_le _, by show (x 2).val < 0 + 1024; omega⟩
  · right; intro a; fin_cases a
    · exact ⟨by show 1 ≤ (x 0).val; omega, by show (x 0).val < 1 + 1; omega⟩
    · exact ⟨Nat.zero_le _, by show (x 1).val < 0 + 512; omega⟩
    · exact ⟨Nat.zero_le _, by show (x 2).val < 0 + 1024; omega⟩

theorem slot_disjoint : Disjoint rs0.set rs1.set := by
  rw [Finset.disjoint_left]
  intro x h0 h1
  rw [Rect.mem_set_unit] at h0 h1
  have a : (x 0).val < 0 + 1 := (h0 0).2
  have b : 1 ≤ (x 0).val := (h1 0).1
  omega

theorem slots_cover (M : Memref sig .tc .vmem S2x512x1024 .f32) (hM : M.view.set = Finset.univ) :
    M.view.setOn rs0.set ∪ M.view.setOn rs1.set = Finset.univ := by
  rw [← hM, ← View.setOn_univ, ← slot_cover]; exact (Finset.map_union _ _).symm

theorem slots_split (c : Dev nD) (M : Memref sig .tc .vmem S2x512x1024 .f32) (hM : M.view.set = Finset.univ)
    (f : Buf (Elt F) (M.view.loc (c : Thread nD τ))) :
    (pt c M fullShare f : sProp 𝕄) ⊢ iprop(ptR c M rs0 fullShare f ∗ ptR c M rs1 fullShare f) := by
  have hd : Disjoint (M.view.setOn rs0.set) (M.view.setOn rs1.set) := (Finset.disjoint_map _).mpr slot_disjoint
  have := (pointsTo_union (ℓ := M.view.loc (c : Thread nD τ)) (Ix := Unit) (Name := ℕ) (U := UU) (Lvl := ℕ) (q := fullShare) (f := f) hd).1
  rw [slots_cover M hM] at this
  exact this

theorem slots_join (c : Dev nD) (M : Memref sig .tc .vmem S2x512x1024 .f32) (hM : M.view.set = Finset.univ) :
    iprop((∃ f, ptR (F := F) c M rs0 fullShare f) ∗ ∃ f, ptR (F := F) c M rs1 fullShare f) ⊢ iprop(∃ f, pt (F := F) c M fullShare f) := by
  have hd : Disjoint (M.view.setOn rs0.set) (M.view.setOn rs1.set) := (Finset.disjoint_map _).mpr slot_disjoint
  unfold pt ptR
  rw [← slots_cover M hM]
  iintro ⟨⟨%f, H⟩, ⟨%g, H'⟩⟩
  iexists _
  iapply (pointsTo_join hd) $$ [H H']
  isplitl [H] <;> iassumption

/-! ## The run of any device -/

section
variable (fx : Dev nD → XT F) (fwq fwo : Dev nD → WT F) (fk fv : Dev nD → KvT F)

/-- The sliver and the context, which all devices agree on; the output of each. -/
def SCa : ScT F := SCv (fx 1) (fwq 1) (fk 1) (fv 1)
def SMa : SmT F := SMv (fx 1) (fwq 1) (fk 1)
def SLa : SlT F := SLv (fx 1) (fwq 1) (fk 1)
def CTa : CtxT F := CTv (fx 0) (fwq 0) (fk 0) (fv 0) (SCa fx fwq fk fv) (SMa fx fwq fk) (SLa fx fwq fk)
def OCa (c : Dev nD) : XT F := if c = 0 then OCw (CTa fx fwq fk fv) (fwo c) else OCv (CTa fx fwq fk fv) (fwo c)

variable (κ : GSem nD τ sig → ℕ) (c : Dev nD)

/-- What a run leaves as it was: the inputs, the window buffers, the counters of the local transfers. -/
def Kept : sProp 𝕄 :=
  iprop(pt c mX fullShare (fx c) ∗ pt c mWq fullShare (fwq c) ∗ pt c mWo fullShare (fwo c) ∗ pt c mK fullShare (fk c) ∗ pt c mV fullShare (fv c)
    ∗ (∃ f, pt c mKw fullShare f) ∗ (∃ f, pt c mVw fullShare f)
    ∗ semVal (gc c (dm 42)) 0 ∗ semVal (gc c (dm 43)) 0 ∗ semVal (gc c (dm 44)) 0 ∗ semVal (gc c (dm 45)) 0)

/-- What it leaves else. -/
def Left : sProp 𝕄 :=
  iprop((∃ W : Waits sig Unit, owes (c : Thread nD τ) (0 : CellTallies nD τ sig Unit) W)
    ∗ (semVal (gc c bar) 0 ∗ semVal (gc c fin2) 0 ∗ bigSep Finset.univ (fun k => shut c k))
    ∗ ((∃ f, pt c mCtx fullShare f) ∗ (∃ f, pt c mSc fullShare f) ∗ (∃ f, pt c mSm fullShare f) ∗ ∃ f, pt c mSl fullShare f)
    ∗ pt c mOut fullShare (OCa fx fwq fwo fk fv c))

abbrev theBody : Prog (TpuEff nD τ sig (Elt F) Λ₀ .tc) PUnit :=
  cc0_body mX (Memref.isWhole_whole _) mWq (Memref.isWhole_whole _) mK (Memref.isWhole_whole _) mV (Memref.isWhole_whole _)
    mWo (Memref.isWhole_whole _) mOut (Memref.isWhole_whole _) mKw (Memref.isWhole_whole _) mVw (Memref.isWhole_whole _) mCtx (Memref.isWhole_whole _)
    mSc (Memref.isWhole_whole _) mSm (Memref.isWhole_whole _) mSl (Memref.isWhole_whole _)
    cc0_scratch6 cc0_scratch7 cc0_scratch8 cc0_scratch9 cc0_scratch10 cc0_scratch11 cc0_scratch12 cc0_scoped0

abbrev PreA : sProp 𝕄 := Pre (CTa fx fwq fk fv) (SCa fx fwq fk fv) (SMa fx fwq fk) (SLa fx fwq fk) (OCa fx fwq fwo fk fv c) κ c
abbrev AtA (n : ℕ) : sProp 𝕄 := At (CTa fx fwq fk fv) (SCa fx fwq fk fv) (SMa fx fwq fk) (SLa fx fwq fk) (OCa fx fwq fwo fk fv c) κ c n

theorem devs : ∀ c : Dev nD, c = 0 ∨ c = 1 ∨ c = 2 ∨ c = 3 := by decide

theorem run_at (Q : PUnit → sProp 𝕄) :
    iprop(PreA fx fwq fwo fk fv κ c ∗ Kept fx fwq fwo fk fv c
        ∗ (iprop(AtA fx fwq fwo fk fv κ c (nmv c) ∗ Out c ∗ Kept fx fwq fwo fk fv c) -∗ Q ⟨⟩))
      ⊢ wp frame (wpE (defs₀ (F := F)) Variants.none (c : Thread nD τ) none) Set.univ theBody Q := by
  rcases devs c with rfl | rfl | rfl | rfl
  · have hO : OutOk2 (CTa fx fwq fk fv) (fwo 0) (OCa fx fwq fwo fk fv 0) := by unfold OCa; rw [if_pos rfl]; exact outOk2 _ _
    have hC : CtxOk (fx 0) (fwq 0) (fk 0) (fv 0) (SCa fx fwq fk fv) (SMa fx fwq fk) (SLa fx fwq fk) (CTa fx fwq fk fv) := ctxOk _ _ _ _ _ _ _
    have sp1 := fun f => slots_split (F := F) 0 mKw (View.set_whole _) f
    have sp2 := fun f => slots_split (F := F) 0 mVw (View.set_whole _) f
    unfold Kept
    iintro ⟨HP, ⟨Hx, Hq, Ho, HK, HV, ⟨%fkw, HKw⟩, ⟨%fvw, HVw⟩, H2, H3, H4, H5⟩, Hk⟩
    ihave HK' := (Entails.of_eq (halves _ _)) $$ HK
    icases HK' with ⟨HK1, HK2⟩
    ihave HV' := (Entails.of_eq (halves _ _)) $$ HV
    icases HV' with ⟨HV1, HV2⟩
    ihave HKw' := (sp1 fkw) $$ HKw
    icases HKw' with ⟨HKw1, HKw2⟩
    ihave HVw' := (sp2 fvw) $$ HVw
    icases HVw' with ⟨HVw1, HVw2⟩
    iapply (run0 (CTa fx fwq fk fv) (SCa fx fwq fk fv) (SMa fx fwq fk) (SLa fx fwq fk) (OCa fx fwq fwo fk fv 0) κ (fwo 0) hO
      (fx 0) (fwq 0) (fk 0) (fv 0) fkw fkw fvw fvw hC Q)
    isplitl [HP]; · iexact HP
    isplitl [Ho]; · iexact Ho
    isplitl [Hx]; · iexact Hx
    isplitl [Hq]; · iexact Hq
    isplitl [HK1]; · iexact HK1
    isplitl [HV1]; · iexact HV1
    isplitl [HK2]; · iexact HK2
    isplitl [HV2]; · iexact HV2
    isplitl [HKw1]; · iexact HKw1
    isplitl [HKw2]; · iexact HKw2
    isplitl [HVw1]; · iexact HVw1
    isplitl [HVw2]; · iexact HVw2
    isplitl [H2]; · iexact H2
    isplitl [H3]; · iexact H3
    isplitl [H4]; · iexact H4
    isplitl [H5]; · iexact H5
    iintro ⟨HA, HE, Ho, Hx, Hq, HK1, HV1, HK2, HV2, HKw1, HKw2, HVw1, HVw2, H2, H3, H4, H5⟩
    iapply Hk
    isplitl [HA]; · iexact HA
    isplitl [HE]; · iexact HE
    isplitl [Hx]; · iexact Hx
    isplitl [Hq]; · iexact Hq
    isplitl [Ho]; · iexact Ho
    isplitl [HK1 HK2]
    · iapply (Entails.of_eq (halves _ _).symm)
      isplitl [HK1] <;> iassumption
    isplitl [HV1 HV2]
    · iapply (Entails.of_eq (halves _ _).symm)
      isplitl [HV1] <;> iassumption
    isplitl [HKw1 HKw2]
    · iapply (slots_join (F := F) 0 mKw (View.set_whole _))
      isplitl [HKw1] <;> iassumption
    isplitl [HVw1 HVw2]
    · iapply (slots_join (F := F) 0 mVw (View.set_whole _))
      isplitl [HVw1] <;> iassumption
    isplitl [H2]; · iexact H2
    isplitl [H3]; · iexact H3
    isplitl [H4] <;> iassumption
  · have hO : OutOk (CTa fx fwq fk fv) (fwo 1) (OCa fx fwq fwo fk fv 1) := by unfold OCa; rw [if_neg (by decide)]; exact outOk _ _
    have hS : SlOk (fx 1) (fwq 1) (fk 1) (fv 1) (SCa fx fwq fk fv) (SMa fx fwq fk) (SLa fx fwq fk) := slOk _ _ _ _
    unfold Kept
    iintro ⟨HP, ⟨Hx, Hq, Ho, HK, HV, ⟨%fkw, HKw⟩, ⟨%fvw, HVw⟩, H2, H3, H45⟩, Hk⟩
    iapply (run1 (CTa fx fwq fk fv) (SCa fx fwq fk fv) (SMa fx fwq fk) (SLa fx fwq fk) (OCa fx fwq fwo fk fv 1) κ (fwo 1) hO
      (fx 1) (fwq 1) (fk 1) (fv 1) fkw fvw hS Q)
    isplitl [HP]; · iexact HP
    isplitl [Ho]; · iexact Ho
    isplitl [Hx]; · iexact Hx
    isplitl [Hq]; · iexact Hq
    isplitl [HK]; · iexact HK
    isplitl [HV]; · iexact HV
    isplitl [HKw]; · iexact HKw
    isplitl [HVw]; · iexact HVw
    isplitl [H2]; · iexact H2
    isplitl [H3]; · iexact H3
    iintro ⟨HA, HE, Ho, Hx, Hq, HK, HV, HKw, HVw, H2, H3⟩
    iapply Hk
    isplitl [HA]; · iexact HA
    isplitl [HE]; · iexact HE
    isplitl [Hx]; · iexact Hx
    isplitl [Hq]; · iexact Hq
    isplitl [Ho]; · iexact Ho
    isplitl [HK]; · iexact HK
    isplitl [HV]; · iexact HV
    isplitl [HKw]; · iexact HKw
    isplitl [HVw]; · iexact HVw
    isplitl [H2]; · iexact H2
    isplitl [H3]; · iexact H3
    iexact H45
  · have hO : OutOk (CTa fx fwq fk fv) (fwo 2) (OCa fx fwq fwo fk fv 2) := by unfold OCa; rw [if_neg (by decide)]; exact outOk _ _
    unfold Kept
    iintro ⟨HP, ⟨Hx, Hq, Ho, HR⟩, Hk⟩
    iapply (run2 (CTa fx fwq fk fv) (SCa fx fwq fk fv) (SMa fx fwq fk) (SLa fx fwq fk) (OCa fx fwq fwo fk fv 2) κ (fwo 2) hO Q)
    isplitl [HP]; · iexact HP
    isplitl [Ho]; · iexact Ho
    iintro ⟨HA, HE, Ho⟩
    iapply Hk
    isplitl [HA]; · iexact HA
    isplitl [HE]; · iexact HE
    isplitl [Hx]; · iexact Hx
    isplitl [Hq]; · iexact Hq
    isplitl [Ho]; · iexact Ho
    iexact HR
  · have hO : OutOk (CTa fx fwq fk fv) (fwo 3) (OCa fx fwq fwo fk fv 3) := by unfold OCa; rw [if_neg (by decide)]; exact outOk _ _
    unfold Kept
    iintro ⟨HP, ⟨Hx, Hq, Ho, HR⟩, Hk⟩
    iapply (run3 (CTa fx fwq fk fv) (SCa fx fwq fk fv) (SMa fx fwq fk) (SLa fx fwq fk) (OCa fx fwq fwo fk fv 3) κ (fwo 3) hO Q)
    isplitl [HP]; · iexact HP
    isplitl [Ho]; · iexact Ho
    iintro ⟨HA, HE, Ho⟩
    iapply Hk
    isplitl [HA]; · iexact HA
    isplitl [HE]; · iexact HE
    isplitl [Hx]; · iexact Hx
    isplitl [Hq]; · iexact Hq
    isplitl [Ho]; · iexact Ho
    iexact HR

theorem run_any (Q : PUnit → sProp 𝕄) :
    iprop(PreA fx fwq fwo fk fv κ c ∗ Kept fx fwq fwo fk fv c
        ∗ (iprop(Left fx fwq fwo fk fv c ∗ Kept fx fwq fwo fk fv c) -∗ Q ⟨⟩))
      ⊢ wp frame (wpE (defs₀ (F := F)) Variants.none (c : Thread nD τ) none) Set.univ theBody Q := by
  refine BIBase.Entails.trans ?_ (wp_fupd _ _ _ theBody Q)
  iintro ⟨HP, HK, Hk⟩
  iapply (run_at fx fwq fwo fk fv κ c fun a => iprop(|={Set.univ}=> Q a))
  isplitl [HP]; · iexact HP
  isplitl [HK]; · iexact HK
  iintro ⟨HA, HE, HK⟩
  imod (end_all (CTa fx fwq fk fv) (SCa fx fwq fk fv) (SMa fx fwq fk) (SLa fx fwq fk) (OCa fx fwq fwo fk fv c) c κ) $$ [HA HE] with HL
  · isplitl [HA] <;> iassumption
  imodintro
  iapply Hk
  isplitl [HL]
  · unfold Left; iexact HL
  iexact HK

end

end Cert.KernelIdeal.Hand
-- ==== Proof.KI.Open.lean ====
/-
  The call's region: what a device brings to it, what it opens there, its proof data and the body's run.
-/
module

public import proofs.«01_k».proof.Proof.KI.Runs
public import Idealize.ShloMosaic.Lib.Pipeline.RegionTalk

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.Rounds
open Idealize.ShloMosaic.Pipeline (Dat Cfg Window BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

/-- Two families conjoined are the conjunction of the two. -/
theorem both {I : Type} {s : Finset I} {P Q : I → sProp 𝕄} : iprop(bigSep s P ∗ bigSep s Q) ⊢ bigSep s fun i => iprop(P i ∗ Q i) :=
  Entails.of_eq (bigSep_sep' s P Q).symm
theorem apart {I : Type} {s : Finset I} {P Q : I → sProp 𝕄} : (bigSep s fun i => iprop(P i ∗ Q i)) ⊢ iprop(bigSep s P ∗ bigSep s Q) :=
  Entails.of_eq (bigSep_sep' s P Q)

/-! ## The call's own counters -/

/-- The call's own counters: the transfers' and the exit barrier's. -/
def osem (k : Fin 43) : SemLoc sig := if h : k.val < 42 then dm ⟨k.val + 4, by omega⟩ else fin2
theorem osem_facts : Pipeline.OwnSemFacts spec0 osem := by decide +kernel

/-- The number of a transfer counter among them. -/
def down (k : Fin 46) : Fin 43 := ⟨k.val - 4, by omega⟩

theorem all_own : (Finset.univ : Finset (Fin 43))
    = insert 42 (insert 38 (insert 39 (insert 40 (insert 41 ((Finset.univ.filter talk).image down))))) := by decide +kernel

theorem down_inj : Set.InjOn down ((Finset.univ.filter talk : Finset (Fin 46)) : Set (Fin 46)) := by
  intro a ha b hb h
  have ha' : talk a := (Finset.mem_filter.mp ha).2
  have hb' : talk b := (Finset.mem_filter.mp hb).2
  have h' : a.val - 4 = b.val - 4 := congrArg Fin.val h
  exact Fin.ext (by have := ha'.1; have := hb'.1; omega)

theorem osem_down : ∀ k : Fin 46, talk k → osem (down k) = dm k := by decide +kernel

theorem own_eq (c : Dev nD) : (Pipeline.ownSems0 osem c : sProp 𝕄)
    = iprop(semVal (gc c fin2) 0 ∗ semVal (gc c (dm 42)) 0 ∗ semVal (gc c (dm 43)) 0 ∗ semVal (gc c (dm 44)) 0 ∗ semVal (gc c (dm 45)) 0
      ∗ bigSep Finset.univ fun k => shut c k) := by
  have e : (bigSep Finset.univ fun k => shut (F := F) c k) = bigSep ((Finset.univ.filter talk).image down) fun k => (semVal ((c : Thread nD τ), osem k) 0 : sProp 𝕄) := by
    rw [bigSep_image_of_injOn down_inj]
    rw [bigSep_congr (s := Finset.univ.filter talk) (Ψ := fun k => (semVal (gc c (dm k)) 0 : sProp 𝕄))
      fun k hk => by rw [osem_down k (Finset.mem_filter.mp hk).2]]
    unfold shut
    exact (bigSep_filter _ _ _).symm
  unfold Pipeline.ownSems0
  rw [all_own, bigSep_insert (by decide +kernel), bigSep_insert (by decide +kernel), bigSep_insert (by decide +kernel),
    bigSep_insert (by decide +kernel), bigSep_insert (by decide +kernel), e]
  rfl

/-! ## The values at the call -/

section
variable (m : (ℓ : Loc nD τ sig) → Buf (Elt F) ℓ)

abbrev xs (c : Dev nD) : XT F := iblk m c 0 t0_0
abbrev wqs (c : Dev nD) : WT F := iblk m c 1 t0_0
abbrev wos (c : Dev nD) : WT F := iblk m c 2 t0_0
abbrev ks (c : Dev nD) : KvT F := V m c main_v2
abbrev vs (c : Dev nD) : KvT F := V m c main_v3

abbrev recsM (κ : GSem nD τ sig → ℕ) : sProp 𝕄 :=
  recs (CTa (xs m) (wqs m) (ks m) (vs m)) (SCa (xs m) (wqs m) (ks m) (vs m)) (SMa (xs m) (wqs m) (ks m)) (SLa (xs m) (wqs m) (ks m)) κ
abbrev RdM : Schedule (GSem nD τ sig) (Dev nD) 𝕄 :=
  Rd (CTa (xs m) (wqs m) (ks m) (vs m)) (SCa (xs m) (wqs m) (ks m) (vs m)) (SMa (xs m) (wqs m) (ks m)) (SLa (xs m) (wqs m) (ks m))

/-- The output. -/
abbrev outM (c : Dev nD) : XT F := OCa (xs m) (wqs m) (wos m) (ks m) (vs m) c

/-! ## What a device brings -/

/-- The right to open a counter of the talk. -/
def opn (c : Dev nD) (k : Fin 46) : sProp 𝕄 := if talk k then openTok ER (gc c (dm k)) else iprop(emp)
/-- What launch deals a device on one of its counters: the credit of a landing, or the two tokens of a hop. -/
def tokc (c : Dev nD) (k : Fin 46) : sProp 𝕄 :=
  if talk k ∧ act c k = true then
    (if k.val < 23 then cred (tallyAt (gc c (dm k)) () (amt k))
      else iprop(dutyTok ER (gc c (dm k)) 0 0 ∗ dutyTok ER (gc (tgt c (k - 19)) (dm (k - 19))) 0 0))
    else iprop(emp)
/-- That a landing counter is open. -/
def rch (c : Dev nD) (k : Fin 46) : sProp 𝕄 := if actR c k = true then reached ER (gc c (dm k)) 0 else iprop(emp)

/-- A device's share of the launch. -/
def TkL (c : Dev nD) : sProp 𝕄 :=
  iprop((atPos ER (gc c bar) 0 ∅ 0 ∗ cred (tallyAt (gc c bar) () 2))
    ∗ (dutyTok ER (gc (prv c) bar) 0 c ∗ dutyTok ER (gc (nxt c) bar) 0 c)
    ∗ (reached ER (gc (prv c) bar) 0 ∗ reached ER (gc (nxt c) bar) 0)
    ∗ (openTok ER (gc c fin2) ∗ cred (tallyAt (gc c fin2) () 2) ∗ dutyTok ER (gc (prv c) fin2) 0 c ∗ dutyTok ER (gc (nxt c) fin2) 0 c)
    ∗ bigSep Finset.univ (fun k => opn c k) ∗ bigSep Finset.univ fun k => tokc c k)

def Tk (c : Dev nD) : sProp 𝕄 := iprop(∃ κ : GSem nD τ sig → ℕ, bigSep talkCells (fun g => cellInv ER (RdM m) (κ g) g) ∗ TkL c)

def loc4 (c : Dev nD) : sProp 𝕄 :=
  iprop(semVal (gc c (dm 42)) 0 ∗ semVal (gc c (dm 43)) 0 ∗ semVal (gc c (dm 44)) 0 ∗ semVal (gc c (dm 45)) 0)

/-- What it has once its counters are open. -/
def Xk (c : Dev nD) : sProp 𝕄 :=
  iprop(∃ κ : GSem nD τ sig → ℕ, recsM m κ
    ∗ (atPos ER (gc c bar) 0 ∅ 0 ∗ cred (tallyAt (gc c bar) () 2))
    ∗ (dutyTok ER (gc (prv c) bar) 0 c ∗ dutyTok ER (gc (nxt c) bar) 0 c)
    ∗ (reached ER (gc (prv c) bar) 0 ∗ reached ER (gc (nxt c) bar) 0 ∗ reached ER (gc c fin2) 0)
    ∗ FinT c ∗ bigSep Finset.univ (fun k => ctr0 c k) ∗ bigSep Finset.univ (fun k => rch c k) ∗ loc4 c)

theorem actR_talk : ∀ c : Dev nD, ∀ k : Fin 46, actR c k = true → 4 ≤ k.val ∧ k.val < 23 := by decide +kernel
theorem act_of : ∀ c : Dev nD, ∀ k : Fin 46, actR c k = true → talk k := by decide +kernel

theorem open_ctr (κ : GSem nD τ sig → ℕ) (c : Dev nD) (k : Fin 46) :
    iprop(bigSep talkCells (fun g => cellInv ER (RdM m) (κ g) g) ∗ (opn c k ∗ shut c k ∗ tokc c k))
      ⊢ (|={Set.univ}=> iprop(ctr0 c k ∗ rch c k) : sProp 𝕄) := by
  by_cases ht : talk k
  swap
  · have hr : ¬ actR c k = true := fun h => ht (act_of c k h)
    unfold ctr0 rch
    rw [if_neg ht, if_neg hr]
    iintro -; imodintro
    isplitl <;> iempintro
  have hi : bigSep talkCells (fun g => cellInv ER (RdM m) (κ g) g) ⊢ cellInv ER (RdM m) (κ (gc c (dm k))) (gc c (dm k)) := bigSep_elim (mem_dm c k ht)
  have hm : iprop(atPos ER (gc c (dm k)) 0 ∅ 0 ∗ reached ER (gc c (dm k)) 0 ∗ tokc c k) ⊢ (iprop(ctr0 c k ∗ rch c k) : sProp 𝕄) := by
    unfold ctr0 rch tokc
    rw [if_pos ht]
    by_cases ha : act c k = true
    · rw [if_pos ha, if_pos ⟨ht, ha⟩]
      by_cases hk : k.val < 23
      · rw [if_pos hk, if_pos hk]
        iintro ⟨HA, #HR, HC⟩
        isplitl [HA HC]
        · isplitl [HA] <;> iassumption
        split
        · iexact HR
        · iempintro
      · rw [if_neg hk, if_neg hk, if_neg (fun h => hk (actR_talk c k h).2)]
        iintro ⟨HA, HR, H1, H2⟩
        isplitl
        · isplitl [HA]; · iexact HA
          isplitl [H1]; · iexact H1
          isplitl [HR] <;> iassumption
        iempintro
    · rw [if_neg ha, if_neg (fun h => ha h.2)]
      have hr : ¬ actR c k = true := fun h => ha (by unfold act; rw [if_pos (actR_talk c k h).2]; exact h)
      rw [if_neg hr]
      iintro ⟨HA, -, -⟩
      isplitl; · iexact HA
      iempintro
  unfold opn shut
  rw [if_pos ht, if_pos ht]
  iintro ⟨#HI, HO, HS, HT⟩
  imod (Rounds.cell_open ER (RdM m) (g := gc c (dm k)) (Set.mem_univ (κ (gc c (dm k))))) $$ [HO HS] with ⟨HA, HR⟩
  · isplitr; · iapply hi; iexact HI
    isplitl [HO] <;> iassumption
  imodintro
  iapply hm
  isplitl [HA]; · iexact HA
  isplitl [HR] <;> iassumption

theorem open_all (κ : GSem nD τ sig → ℕ) (c : Dev nD) :
    iprop(bigSep talkCells (fun g => cellInv ER (RdM m) (κ g) g) ∗ bigSep Finset.univ fun k => iprop(opn c k ∗ shut c k ∗ tokc c k))
      ⊢ (|={Set.univ}=> bigSep Finset.univ (fun k => iprop(ctr0 c k ∗ rch c k)) : sProp 𝕄) :=
  (bigSep_with_persistent (R := bigSep talkCells (fun g => cellInv ER (RdM m) (κ g) g)) (Φ := fun k => iprop(opn c k ∗ shut c k ∗ tokc c k))
    (Ψ := fun k => iprop(|={Set.univ}=> iprop(ctr0 c k ∗ rch c k))) fun k _ => open_ctr m κ c k).trans (bigSep_fupd _ _)

theorem hopen (c : Dev nD) : iprop(Tk m c ∗ Pipeline.ownSems0 osem c ∗ levAts L lv) ⊢ (|={Set.univ}=> Xk m c : sProp 𝕄) := by
  rw [own_eq]
  unfold Tk TkL Xk
  iintro ⟨⟨%κ, #HI, HB, HD, ⟨#HR1, #HR2⟩, ⟨HoF, HF⟩, Hopn, Htok⟩, ⟨HsF, H2, H3, H4, H5, Hsh⟩, #HL⟩
  have hi : bigSep talkCells (fun g => cellInv ER (RdM m) (κ g) g) ⊢ cellInv ER (RdM m) (κ (gc c fin2)) (gc c fin2) := bigSep_elim (mem_fin2 c)
  imod (Rounds.cell_open ER (RdM m) (g := gc c fin2) (Set.mem_univ (κ (gc c fin2)))) $$ [HoF HsF] with ⟨HaF, #HrF⟩
  · isplitr; · iapply hi; iexact HI
    isplitl [HoF] <;> iassumption
  imod (open_all m κ c) $$ [Hopn Htok Hsh] with HC
  · isplitr; · iexact HI
    iapply both; isplitl [Hopn]; · iexact Hopn
    iapply both; isplitl [Hsh]; · iexact Hsh
    iexact Htok
  ihave HC' := apart $$ HC
  icases HC' with ⟨HC, HR⟩
  imodintro
  iexists κ
  isplitr
  · unfold recsM recs
    isplitr; · iexact HI
    iexact HL
  isplitl [HB]; · iexact HB
  isplitl [HD]; · iexact HD
  isplitr
  · isplitr; · iexact HR1
    isplitr; · iexact HR2
    iexact HrF
  isplitl [HaF HF]
  · unfold FinT
    isplitl [HaF] <;> iassumption
  isplitl [HC]; · iexact HC
  isplitl [HR]; · iexact HR
  unfold loc4
  isplitl [H2]; · iexact H2
  isplitl [H3]; · iexact H3
  isplitl [H4] <;> iassumption

/-! ## The region's data -/

/-- The scratch buffers at any contents. -/
def scr (c : Dev nD) : sProp 𝕄 :=
  iprop((∃ f, pt (F := F) c mKw fullShare f) ∗ (∃ f, pt (F := F) c mVw fullShare f) ∗ (∃ f, pt (F := F) c mCtx fullShare f)
    ∗ (∃ f, pt (F := F) c mSc fullShare f) ∗ (∃ f, pt (F := F) c mSm fullShare f) ∗ ∃ f, pt (F := F) c mSl fullShare f)
def kvs (c : Dev nD) : sProp 𝕄 := iprop(pt c mK fullShare (ks m c) ∗ pt c mV fullShare (vs m c))

/-- All a device owes as it begins. -/
def O₀ (c : Dev nD) : CellTallies nD τ sig Unit := sumT (barDebts c ++ debts c (hops c))

def Φ0 (c : Dev nD) : sProp 𝕄 := iprop(Xk m c ∗ scr c ∗ (∃ r, prngReg c r) ∗ kvs m c)
def Φ1 (c : Dev nD) : sProp 𝕄 :=
  iprop((semVal (gc c bar) 0 ∗ semVal (gc c fin2) 0 ∗ bigSep Finset.univ (fun k => shut c k)) ∗ loc4 c ∗ scr c ∗ (∃ r, prngReg c r) ∗ kvs m c)

def dat (c : Dev nD) : Dat τ (Elt F) Unit ℕ UU ℕ cfg0 c where
  A w := V m c (Pipeline.arrRef spec0 w)
  after w t := match w with
    | 0 => iblk m c 0 t | 1 => iblk m c 1 t | 2 => iblk m c 2 t | 3 => outM m c
  Φ t := if t.val = 0 then Φ0 m c else Φ1 m c
  q _ := fullShare
  owed t := if t.val = 0 then O₀ c else 0

theorem N0 : cfg0.N = 1 := N_0

theorem owed_first (c : Dev nD) : (dat m c).owed 0 = O₀ c := by
  show (if ((0 : Fin (cfg0.N + 1)).val = 0) then O₀ c else 0) = O₀ c; exact if_pos rfl
theorem owed_last (c : Dev nD) : (dat m c).owed (Fin.last _) = 0 := by
  show (if (Fin.last cfg0.N).val = 0 then O₀ c else 0) = 0
  rw [Fin.val_last, if_neg (by rw [N0]; decide)]
theorem phi_first (c : Dev nD) : (dat m c).Φ 0 = Φ0 m c := by
  show (if ((0 : Fin (cfg0.N + 1)).val = 0) then Φ0 m c else Φ1 m c) = Φ0 m c; exact if_pos rfl
theorem phi_last (c : Dev nD) : (dat m c).Φ (Fin.last _) = Φ1 m c := by
  show (if (Fin.last cfg0.N).val = 0 then Φ0 m c else Φ1 m c) = Φ1 m c
  rw [Fin.val_last, if_neg (by rw [N0]; decide)]

theorem owesAt_in {c : Dev nD} (d : Dat τ (Elt F) Unit ℕ UU ℕ cfg0 c) (t : Fin (cfg0.N + 1))
    (O : CellTallies nD τ sig Unit) (h0 : d.owed t = O) (hr : d.recorded t = Set.univ) :
    iprop(∃ W : Waits sig Unit, owes (c : Thread nD τ) O W) ⊢ (d.owesAt () t : sProp 𝕄) := by
  unfold Dat.owesAt Pipeline.owesWithin Dat.bound; rw [h0, hr]
  iintro ⟨%W, HO⟩; iexists W; isplitr; · ipureintro; exact fun _ _ => Or.inl trivial
  iexact HO
theorem owesAt_out {c : Dev nD} (d : Dat τ (Elt F) Unit ℕ UU ℕ cfg0 c) (t : Fin (cfg0.N + 1))
    (O : CellTallies nD τ sig Unit) (h0 : d.owed t = O) :
    (d.owesAt () t : sProp 𝕄) ⊢ iprop(∃ W : Waits sig Unit, owes (c : Thread nD τ) O W) := by
  unfold Dat.owesAt Pipeline.owesWithin; rw [h0]
  iintro ⟨%W, -, HO⟩; iexists W; iexact HO

/-! An input window's buffer holds its block. -/
theorem before_in0 (c : Dev nD) (t : Fin cfg0.N) (d) : (dat m c).before 0 t d = iblk m c 0 t :=
  ((dat m c).before_in_eq_fetched 0 rfl (fun _ => rfl) (fun _ _ _ => rfl) (fun t => rfl) t d).trans rfl
theorem before_in1 (c : Dev nD) (t : Fin cfg0.N) (d) : (dat m c).before 1 t d = iblk m c 1 t :=
  ((dat m c).before_in_eq_fetched 1 rfl (fun _ => rfl) (fun _ _ _ => rfl) (fun t => rfl) t d).trans rfl
theorem before_in2 (c : Dev nD) (t : Fin cfg0.N) (d) : (dat m c).before 2 t d = iblk m c 2 t :=
  ((dat m c).before_in_eq_fetched 2 rfl (fun _ => rfl) (fun _ _ _ => rfl) (fun t => rfl) t d).trans rfl

theorem place_of (c : Dev nD) (k : Fin 46) : iprop(rch c k ∗ spot c k) ⊢ (place c k : sProp 𝕄) := by
  unfold rch spot place
  by_cases h : actR c k = true
  · rw [if_pos h, if_pos h, if_pos (actR_talk c k h)]
  · rw [if_neg h, if_neg h]
    iintro ⟨-, H⟩; iexact H

theorem places_in (c : Dev nD) : iprop(bigSep Finset.univ (fun k => rch c k) ∗ bigSep Finset.univ fun k => spot c k)
    ⊢ (bigSep Finset.univ fun k => place c k : sProp 𝕄) :=
  both.trans (bigSep_mono fun k _ => place_of c k)

/-- The body's run over what the region holds. -/
theorem body_run (c : Dev nD) (Q : PUnit → sProp 𝕄) :
    iprop(Φ0 m c ∗ (∃ W : Waits sig Unit, owes (c : Thread nD τ) (O₀ c) W)
        ∗ (pt c mX fullShare (xs m c) ∗ pt c mWq fullShare (wqs m c) ∗ pt c mWo fullShare (wos m c) ∗ ∃ f, pt (F := F) c mOut fullShare f)
        ∗ (iprop(Φ1 m c ∗ (∃ W : Waits sig Unit, owes (c : Thread nD τ) (0 : CellTallies nD τ sig Unit) W)
          ∗ (pt c mX fullShare (xs m c) ∗ pt c mWq fullShare (wqs m c) ∗ pt c mWo fullShare (wos m c) ∗ pt c mOut fullShare (outM m c))) -∗ Q ⟨⟩))
      ⊢ wp frame (wpE (defs₀ (F := F)) Variants.none (c : Thread nD τ) none) Set.univ theBody Q := by
  unfold Φ0 Xk scr kvs loc4
  iintro ⟨⟨⟨%κ, #HR, HB, HD, HRR, HF, HC, Hr, H2, H3, H4, H5⟩, ⟨HKw, HVw, HCt, HSc, HSm, HSl⟩, Hp, HK, HV⟩, HO, ⟨Hx, Hq, Ho, Hout⟩, Hk⟩
  ihave HS := (spots_in (F := F) c) $$ [HCt HSc HSm HSl]
  · isplitl [HCt]; · iexact HCt
    isplitl [HSc]; · iexact HSc
    isplitl [HSm] <;> iassumption
  ihave HP := (places_in (F := F) c) $$ [Hr HS]
  · isplitl [Hr] <;> iassumption
  ihave HOc := (out_in (outM m c) c) $$ Hout
  iapply (run_any (xs m) (wqs m) (wos m) (ks m) (vs m) κ c Q)
  isplitl [HO HB HD HRR HF HC HP HOc]
  · unfold PreA Pre
    isplitr; · iexact HR
    isplitl [HO]; · iexact HO
    isplitl [HB]; · iexact HB
    isplitl [HD]; · iexact HD
    isplitl [HRR]; · iexact HRR
    isplitl [HF]; · iexact HF
    isplitl [HC]; · iexact HC
    isplitl [HP] <;> iassumption
  unfold Kept Left
  isplitl [Hx Hq Ho HK HV HKw HVw H2 H3 H4 H5]
  · isplitl [Hx]; · iexact Hx
    isplitl [Hq]; · iexact Hq
    isplitl [Ho]; · iexact Ho
    isplitl [HK]; · iexact HK
    isplitl [HV]; · iexact HV
    isplitl [HKw]; · iexact HKw
    isplitl [HVw]; · iexact HVw
    isplitl [H2]; · iexact H2
    isplitl [H3]; · iexact H3
    isplitl [H4] <;> iassumption
  iintro ⟨⟨HO, HS, ⟨HCt, HSc, HSm, HSl⟩, Hout⟩, Hx, Hq, Ho, HK, HV, HKw, HVw, H2, H3, H4, H5⟩
  iapply Hk
  unfold Φ1 scr kvs loc4
  isplitr [HO Hx Hq Ho Hout]
  · isplitl [HS]; · iexact HS
    isplitl [H2 H3 H4 H5]
    · isplitl [H2]; · iexact H2
      isplitl [H3]; · iexact H3
      isplitl [H4] <;> iassumption
    isplitl [HKw HVw HCt HSc HSm HSl]
    · isplitl [HKw]; · iexact HKw
      isplitl [HVw]; · iexact HVw
      isplitl [HCt]; · iexact HCt
      isplitl [HSc]; · iexact HSc
      isplitl [HSm] <;> iassumption
    isplitl [Hp]; · iexact Hp
    isplitl [HK] <;> iassumption
  isplitl [HO]; · iexact HO
  isplitl [Hx]; · iexact Hx
  isplitl [Hq]; · iexact Hq
  isplitl [Ho] <;> iassumption

theorem owns_pt (c : Dev nD) (b : Ref sig .tc) (f : b.ty.Contents (Elt F)) :
    (owns (c : Thread nD τ) (Memref.whole b) fullShare f : sProp 𝕄) = ((c : Thread nD τ).loc b) ↦{fullShare} f := owns_whole _ _ _ _

theorem body_ob (c : Dev nD) : BodyObligation (dat m c) (defs₀ (F := F)) Variants.none () Set.univ := fun t => by
  obtain rfl := fin_N0 t
  rw [bigSep_W0, bigSep_W0]
  rw [show (dat m c).Φ t0_0.castSucc = Φ0 m c from phi_first m c, show (dat m c).Φ t0_0.succ = Φ1 m c from phi_last m c]
  have b0 := fun d => before_in0 m c t0_0 d
  have b1 := fun d => before_in1 m c t0_0 d
  have b2 := fun d => before_in2 m c t0_0 d
  have hx := owns_pt (F := F) c cc0_stg0_0 (xs m c)
  have hq := owns_pt (F := F) c cc0_stg1_0 (wqs m c)
  have ho := owns_pt (F := F) c cc0_stg2_0 (wos m c)
  have hout := fun f => owns_pt (F := F) c cc0_stg3_0 f
  iintro ⟨HΦ, HO, ⟨%d0, H0⟩, ⟨%d1, H1⟩, ⟨%d2, H2⟩, ⟨%d3, H3⟩⟩
  ihave HO' := (owesAt_out (dat m c) t0_0.castSucc (O₀ c) (owed_first m c)) $$ HO
  ihave H0' := (show (owns (c : Thread nD τ) ((cfg0.win 0).stage (cfg0.slots t0_0 0)) fullShare ((dat m c).before 0 t0_0 d0) : sProp 𝕄) ⊢ pt c mX fullShare (xs m c) from
    Entails.of_eq (by rw [b0 d0]; exact hx)) $$ H0
  ihave H1' := (show (owns (c : Thread nD τ) ((cfg0.win 1).stage (cfg0.slots t0_0 1)) fullShare ((dat m c).before 1 t0_0 d1) : sProp 𝕄) ⊢ pt c mWq fullShare (wqs m c) from
    Entails.of_eq (by rw [b1 d1]; exact hq)) $$ H1
  ihave H2' := (show (owns (c : Thread nD τ) ((cfg0.win 2).stage (cfg0.slots t0_0 2)) fullShare ((dat m c).before 2 t0_0 d2) : sProp 𝕄) ⊢ pt c mWo fullShare (wos m c) from
    Entails.of_eq (by rw [b2 d2]; exact ho)) $$ H2
  ihave H3' := (Entails.of_eq (hout _)) $$ H3
  iapply (body_run m c _)
  isplitl [HΦ]; · iexact HΦ
  isplitl [HO']; · iexact HO'
  isplitl [H0' H1' H2' H3']
  · isplitl [H0']; · iexact H0'
    isplitl [H1']; · iexact H1'
    isplitl [H2']; · iexact H2'
    iexists _; iexact H3'
  iintro ⟨HΦ, HO, H0, H1, H2, H3⟩
  isplitl [HΦ]; · iexact HΦ
  isplitl [HO]; · iapply (owesAt_in (dat m c) t0_0.succ 0 (owed_last m c) rfl); iexact HO
  isplitl [H0]; · iapply (Entails.of_eq hx.symm); iexact H0
  isplitl [H1]; · iapply (Entails.of_eq hq.symm); iexact H1
  isplitl [H2]; · iapply (Entails.of_eq ho.symm); iexact H2
  iapply (Entails.of_eq (hout _).symm); iexact H3

end

end Cert.KernelIdeal.Hand
-- ==== Proof.KI.Deal.lean ====
/-
  What launch deals: every counter's invariant, the tokens of the payments, the credits of the landings.
-/
module

public import proofs.«01_k».proof.Proof.KI.Open

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

/-! ## The counters -/

/-- The counters live at launch, and those that open inside the call. -/
def cellsB : Finset (GSem nD τ sig) := Finset.univ.image fun c : Dev nD => gc c bar
def cellsD : Finset (GSem nD τ sig) :=
  (Finset.univ.image fun c : Dev nD => gc c fin2)
    ∪ (Finset.univ : Finset (Dev nD)).biUnion fun c => (Finset.univ.filter talk).image fun k : Fin 46 => gc c (dm k)

theorem cells_all : cellsB ∪ cellsD = talkCells := rfl

theorem gc_dev {c c' : Dev nD} {s s' : SemLoc sig} (h : gc c s = gc c' s') : c = c' := congrArg (fun g : GSem nD τ sig => g.1.1) h
theorem gc_sem {c c' : Dev nD} {s s' : SemLoc sig} (h : gc c s = gc c' s') : s = s' := congrArg Prod.snd h

theorem dm_ne (k : Fin 46) (i : Fin 2) : ¬ dm k = .reg i := fun h => by cases h

theorem cells_disjoint : Disjoint cellsB cellsD := by
  rw [Finset.disjoint_left]
  intro g h h'
  obtain ⟨c, -, rfl⟩ := Finset.mem_image.mp h
  rcases Finset.mem_union.mp h' with h' | h'
  · obtain ⟨c', -, e⟩ := Finset.mem_image.mp h'
    exact absurd (gc_sem e) (by decide)
  · obtain ⟨c', -, h'⟩ := Finset.mem_biUnion.mp h'
    obtain ⟨k, -, e⟩ := Finset.mem_image.mp h'
    exact absurd (gc_sem e) (dm_ne _ _)

theorem over_bar (Ψ : GSem nD τ sig → sProp 𝕄) : bigSep cellsB Ψ = bigSep Finset.univ fun c : Dev nD => Ψ (gc c bar) :=
  bigSep_image_of_injOn (fun _ _ _ _ h => gc_dev h) Ψ

theorem over_own (Ψ : GSem nD τ sig → sProp 𝕄) : bigSep cellsD Ψ
    = iprop((bigSep Finset.univ fun c : Dev nD => Ψ (gc c fin2))
      ∗ bigSep Finset.univ fun c : Dev nD => bigSep Finset.univ fun k : Fin 46 => if talk k then Ψ (gc c (dm k)) else iprop(emp)) := by
  have hd : Disjoint (Finset.univ.image fun c : Dev nD => gc c fin2)
      ((Finset.univ : Finset (Dev nD)).biUnion fun c => (Finset.univ.filter talk).image fun k : Fin 46 => gc c (dm k)) := by
    rw [Finset.disjoint_left]
    intro g h h'
    obtain ⟨c, -, rfl⟩ := Finset.mem_image.mp h
    obtain ⟨c', -, h'⟩ := Finset.mem_biUnion.mp h'
    obtain ⟨k, -, e⟩ := Finset.mem_image.mp h'
    exact absurd (gc_sem e) (dm_ne _ _)
  have hb : ((Finset.univ : Finset (Dev nD)).biUnion fun c => (Finset.univ.filter talk).image fun k : Fin 46 => gc c (dm k))
      = (Finset.univ.filter fun x : Dev nD × Fin 46 => talk x.2).image fun x => gc x.1 (dm x.2) := by
    ext g
    rw [Finset.mem_biUnion, Finset.mem_image]
    constructor
    · rintro ⟨c, -, h⟩
      obtain ⟨k, hk, rfl⟩ := Finset.mem_image.mp h
      exact ⟨(c, k), Finset.mem_filter.mpr ⟨Finset.mem_univ _, (Finset.mem_filter.mp hk).2⟩, rfl⟩
    · rintro ⟨⟨c, k⟩, hk, rfl⟩
      exact ⟨c, Finset.mem_univ _, Finset.mem_image_of_mem _ (Finset.mem_filter.mpr ⟨Finset.mem_univ _, (Finset.mem_filter.mp hk).2⟩)⟩
  unfold cellsD
  rw [bigSep_union hd, hb, bigSep_image_of_injOn (fun _ _ _ _ h => gc_dev h) Ψ,
    bigSep_image_of_injOn (fun a _ b _ h => Prod.ext (gc_dev h) (SemLoc.dma.inj (gc_sem h))) Ψ, bigSep_filter, bigSep_univ_prod]
  rfl

/-! ## The tokens -/

/-- A device's payments: two on the entry barrier, two on the exit barrier, two with every hop. -/
def pays (x : Dev nD × Fin 46 × Fin 2) : Prop :=
  x.2.1 = 0 ∨ x.2.1 = 1 ∨ (23 ≤ x.2.1.val ∧ talk x.2.1 ∧ act x.1 x.2.1 = true)
instance : DecidablePred pays := fun x => by unfold pays; infer_instance

def tokOf (x : Dev nD × Fin 46 × Fin 2) : GSem nD τ sig × ℕ × Dev nD :=
  if x.2.1 = 0 then (gc (if x.2.2 = 0 then prv x.1 else nxt x.1) bar, 0, x.1)
  else if x.2.1 = 1 then (gc (if x.2.2 = 0 then prv x.1 else nxt x.1) fin2, 0, x.1)
  else if x.2.2 = 0 then (gc x.1 (dm x.2.1), 0, 0)
  else (gc (tgt x.1 (x.2.1 - 19)) (dm (x.2.1 - 19)), 0, 0)

def toks : Finset (GSem nD τ sig × ℕ × Dev nD) := (Finset.univ.filter pays).image tokOf

theorem tok_inj : ∀ a ∈ Finset.univ.filter pays, ∀ b ∈ Finset.univ.filter pays, tokOf a = tokOf b → a = b := by decide +kernel

/-- The tokens of one device, by counter. -/
def tokIn (c : Dev nD) (k : Fin 46) : sProp 𝕄 :=
  if talk k ∧ act c k = true ∧ 23 ≤ k.val then
    iprop(dutyTok ER (gc c (dm k)) 0 0 ∗ dutyTok ER (gc (tgt c (k - 19)) (dm (k - 19))) 0 0) else iprop(emp)
def tokB (c : Dev nD) : sProp 𝕄 := iprop(dutyTok ER (gc (prv c) bar) 0 c ∗ dutyTok ER (gc (nxt c) bar) 0 c)
def tokF (c : Dev nD) : sProp 𝕄 := iprop(dutyTok ER (gc (prv c) fin2) 0 c ∗ dutyTok ER (gc (nxt c) fin2) 0 c)

theorem at_one (k : Fin 46) (A : sProp 𝕄) : bigSep Finset.univ (fun i : Fin 46 => if i = k then A else iprop(emp)) = A := by
  rw [show (fun i : Fin 46 => if i = k then A else iprop(emp)) = fun i => if i = k then (fun _ => A) i else iprop(emp) from rfl]
  refine (bigSep_filter Finset.univ (fun i => i = k) (fun _ => A)).symm.trans ?_
  rw [Finset.filter_eq', if_pos (Finset.mem_univ _), bigSep_singleton]

theorem tok_k (c : Dev nD) (k : Fin 46) :
    bigSep Finset.univ (fun b : Fin 2 => if pays (c, k, b) then (dutyTok ER (tokOf (c, k, b)).1 (tokOf (c, k, b)).2.1 (tokOf (c, k, b)).2.2 : sProp 𝕄) else iprop(emp))
      ⊢ iprop((if k = 0 then tokB (F := F) c else iprop(emp)) ∗ (if k = 1 then tokF (F := F) c else iprop(emp)) ∗ tokIn c k) := by
  rw [BI.bigSep_fin_two]
  by_cases h0 : k = 0
  · subst h0
    have t0 : tokOf (c, 0, 0) = (gc (prv c) bar, 0, c) := rfl
    have t1 : tokOf (c, 0, 1) = (gc (nxt c) bar, 0, c) := rfl
    rw [t0, t1]
    have p : ∀ b, pays (c, 0, b) := fun b => Or.inl rfl
    rw [if_pos (p 0), if_pos (p 1), if_pos rfl, if_neg (by decide)]
    unfold tokIn
    rw [if_neg (fun h => absurd h.2.2 (by decide))]
    unfold tokB
    iintro H
    isplitl [H]; · iexact H
    isplitl <;> iempintro
  by_cases h1 : k = 1
  · subst h1
    have t0 : tokOf (c, 1, 0) = (gc (prv c) fin2, 0, c) := rfl
    have t1 : tokOf (c, 1, 1) = (gc (nxt c) fin2, 0, c) := rfl
    rw [t0, t1]
    have p : ∀ b, pays (c, 1, b) := fun b => Or.inr (Or.inl rfl)
    rw [if_pos (p 0), if_pos (p 1), if_neg (by decide), if_pos rfl]
    unfold tokIn
    rw [if_neg (fun h => absurd h.2.2 (by decide))]
    unfold tokF
    iintro H
    isplitr; · iempintro
    isplitl [H]; · iexact H
    iempintro
  rw [if_neg h0, if_neg h1]
  by_cases h : 23 ≤ k.val ∧ talk k ∧ act c k = true
  · have p : ∀ b, pays (c, k, b) := fun b => Or.inr (Or.inr h)
    rw [if_pos (p 0), if_pos (p 1)]
    have t0 : tokOf (c, k, 0) = (gc c (dm k), 0, 0) := by unfold tokOf; rw [if_neg h0, if_neg h1]; rfl
    have t1 : tokOf (c, k, 1) = (gc (tgt c (k - 19)) (dm (k - 19)), 0, 0) := by unfold tokOf; rw [if_neg h0, if_neg h1]; rfl
    rw [t0, t1]
    unfold tokIn
    rw [if_pos ⟨h.2.1, h.2.2, h.1⟩]
    iintro H
    isplitr; · iempintro
    isplitr; · iempintro
    iexact H
  · have hn : ∀ b, ¬ pays (c, k, b) := fun b hp => by
      rcases hp with hp | hp | hp
      · exact h0 hp
      · exact h1 hp
      · exact h hp
    rw [if_neg (hn 0), if_neg (hn 1)]
    unfold tokIn
    rw [if_neg (fun hh => h ⟨hh.2.2, hh.1, hh.2.1⟩)]
    iintro -
    isplitl; · iempintro
    isplitl <;> iempintro

theorem tok_c (c : Dev nD) : bigSep Finset.univ (fun k : Fin 46 =>
      iprop((if k = 0 then tokB (F := F) c else iprop(emp)) ∗ (if k = 1 then tokF (F := F) c else iprop(emp)) ∗ tokIn c k))
    = iprop(tokB c ∗ tokF c ∗ bigSep Finset.univ fun k => tokIn c k) := by
  rw [bigSep_sep', bigSep_sep', at_one, at_one]

theorem tok_all : bigSep toks (fun x => (dutyTok ER x.1 x.2.1 x.2.2 : sProp 𝕄))
    ⊢ bigSep Finset.univ fun c : Dev nD => iprop(tokB c ∗ tokF c ∗ bigSep Finset.univ fun k => tokIn (F := F) c k) := by
  unfold toks
  rw [bigSep_image_of_injOn (fun a ha b hb h => tok_inj a ha b hb h), bigSep_filter, bigSep_univ_prod]
  refine bigSep_mono fun c _ => ?_
  rw [bigSep_univ_prod, ← tok_c]
  exact bigSep_mono fun k _ => tok_k c k

/-! ## The credits -/

/-- The units a list of payments makes on a counter. -/
def paid (g : GSem nD τ sig) : List Debt → ℕ
  | [] => 0
  | a :: l => paid g l + if g = a.1 then a.2 else 0

theorem sumT_paid (g : GSem nD τ sig) : ∀ l : List Debt, sumT l g () = paid g l
  | [] => rfl
  | a :: l => by
    show sumT l g () + tallyAt (Ix := Unit) a.1 () a.2 g () = paid g l + if g = a.1 then a.2 else 0
    rw [sumT_paid g l, tallyAt_apply]
    congr 1
    by_cases h : g = a.1
    · rw [if_pos h, if_pos ⟨h, rfl⟩]
    · rw [if_neg h, if_neg (fun x => h x.1)]

theorem paid_bar : ∀ c : Dev nD, ∑ d : Dev nD, paid (gc c bar) (barDebts d ++ debts d (hops d)) = 2 := by decide +kernel
theorem paid_fin : ∀ c : Dev nD, ∑ d : Dev nD, paid (gc c fin2) (barDebts d ++ debts d (hops d)) = 2 := by decide +kernel
theorem paid_dma : ∀ c : Dev nD, ∀ k : Fin 46, act c k = true → k.val < 23 →
    ∑ d : Dev nD, paid (gc c (dm k)) (barDebts d ++ debts d (hops d)) = amt k := by decide +kernel

theorem credit_at (g : GSem nD τ sig) (n : ℕ) (h : ∑ d : Dev nD, paid g (barDebts d ++ debts d (hops d)) = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, ← h]
  exact Finset.sum_congr rfl fun d _ => sumT_paid g _

def credIn (c : Dev nD) (k : Fin 46) : sProp 𝕄 :=
  if talk k ∧ act c k = true ∧ k.val < 23 then cred (tallyAt (gc c (dm k)) () (amt k)) else iprop(emp)

theorem all_sems : (Finset.univ : Finset (SemLoc sig)) = insert bar (insert fin2 (Finset.univ.image dm)) := by
  refine (Finset.eq_univ_of_forall fun s => ?_).symm
  rw [Finset.mem_insert, Finset.mem_insert, Finset.mem_image]
  cases s with
  | reg i =>
    have : ∀ i : Fin 2, i = 0 ∨ i = 1 := by decide
    rcases this i with rfl | rfl
    · exact Or.inl rfl
    · exact Or.inr (Or.inl rfl)
  | dma k => exact Or.inr (Or.inr ⟨k, Finset.mem_univ _, rfl⟩)

theorem creds (c : Dev nD) : (Pipeline.launchCred O₀ c : sProp 𝕄)
    ⊢ iprop(cred (tallyAt (gc c bar) () 2) ∗ cred (tallyAt (gc c fin2) () 2) ∗ bigSep Finset.univ fun k => credIn c k) := by
  have hk : ∀ k : Fin 46, (cred (tallyOn (gc c (dm k)) (launchCredit (Pipeline.owing O₀) 0 (gc c (dm k)))) : sProp 𝕄) ⊢ credIn c k := fun k => by
    unfold credIn
    by_cases h : talk k ∧ act c k = true ∧ k.val < 23
    · rw [if_pos h, credit_at _ _ (paid_dma c k h.2.1 h.2.2)]
    · rw [if_neg h]; iintro -; iempintro
  have hb : bar ∉ insert fin2 (Finset.univ.image dm : Finset (SemLoc sig)) := by
    rw [Finset.mem_insert, Finset.mem_image]
    rintro (h | ⟨k, -, h⟩)
    · exact absurd h (by decide)
    · exact dm_ne _ _ h
  have hf : fin2 ∉ (Finset.univ.image dm : Finset (SemLoc sig)) := by
    rw [Finset.mem_image]; rintro ⟨k, -, h⟩; exact dm_ne _ _ h
  unfold Pipeline.launchCred
  rw [all_sems, bigSep_insert hb, bigSep_insert hf, bigSep_image_of_injOn (f := dm) (s := Finset.univ) (fun _ _ _ _ h => SemLoc.dma.inj h)]
  rw [credit_at _ _ (paid_bar c), credit_at _ _ (paid_fin c)]
  exact sep_mono_right (sep_mono_right (bigSep_mono fun k _ => hk k))

theorem tokc_of (c : Dev nD) (k : Fin 46) : iprop(tokIn c k ∗ credIn c k) ⊢ (tokc c k : sProp 𝕄) := by
  unfold tokIn credIn tokc
  by_cases h : talk k ∧ act c k = true
  · rw [if_pos h]
    by_cases hk : k.val < 23
    · rw [if_neg (fun x => absurd x.2.2 (by omega)), if_pos ⟨h.1, h.2, hk⟩, if_pos hk]
      iintro ⟨-, H⟩; iexact H
    · rw [if_pos ⟨h.1, h.2, by omega⟩, if_neg (fun x => hk x.2.2), if_neg hk]
      iintro ⟨H, -⟩; iexact H
  · rw [if_neg h, if_neg (fun x => h ⟨x.1, x.2.1⟩), if_neg (fun x => h ⟨x.1, x.2.1⟩)]
    iintro -; iempintro

end Cert.KernelIdeal.Hand
-- ==== Proof.KI.Launch.lean ====
/-
  The whole program: the lines before the call, the call, the line after it, from launch to the end.
-/
module

public import proofs.«01_k».proof.Proof.KI.Deal
public import Idealize.ShloMosaic.Lib.Quiescent

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.Rounds
open Idealize.ShloMosaic.Pipeline (Dat Cfg Window BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

section
variable (m : (ℓ : Loc nD τ sig) → Buf (Elt F) ℓ) (ρ : Dev nD → PrngReg)

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c :=
  fun _ c => dat m c

theorem kitP : Pipeline.PLaunchFacts (nD := nD) (τ := τ) (pcfgs (F := F)) 0 := launch0.toP

/-! ## The buffers outside the call -/

/-- Their contents at launch, at the call, after it, and at the end. -/
abbrev Vl (c : Dev nD) : Valuation τ sig (Elt F) := fun b => m (c, b)
abbrev V₁ (c : Dev nD) : Valuation τ sig (Elt F) := V0 m c
def V₂ (c : Dev nD) : Valuation τ sig (Elt F) := Pipeline.withArrays spec0 c (V₁ m c) fun w => (dat m c).arrAt w cfg0.N
abbrev V₃ (c : Dev nD) : Valuation τ sig (Elt F) := StableHlo.after hostOps1 (V₂ m c)

abbrev ucs : Finset (DevRef τ sig) := Pipeline.ucRefs τ sig
abbrev arrs : Finset (DevRef τ sig) := Pipeline.arrRefs (τ := τ) spec0
/-- The two buffers the body addresses itself. -/
def kvRefs : Finset (DevRef τ sig) := {Proc.devRef .tc main_v2, Proc.devRef .tc main_v3}

theorem arrs_sub : arrs ⊆ ucs := by decide +kernel
theorem kv_sub : kvRefs ⊆ ucs \ arrs := by decide +kernel

theorem V₂_of_ne (c : Dev nD) (b : Ref sig .tc) (hb : ∀ w, Pipeline.arrRef spec0 w ≠ b) :
    V₂ m c (Proc.devRef .tc b) = V m c b := Pipeline.withArrays_of_ne spec0 c (V₁ m c) _ b hb
theorem V₂_arr (c : Dev nD) (w : Fin 4) : V₂ m c (Proc.devRef .tc (Pipeline.arrRef spec0 w)) = (dat m c).arrAt w cfg0.N :=
  Pipeline.withArrays_arr spec0 winFacts0.arr_inj c (V₁ m c) _ w

theorem held_kv (c : Dev nD) (W : Valuation τ sig (Elt F)) : (StableHlo.held (c.tc : Thread nD τ) kvRefs W : sProp 𝕄)
    = iprop(pt c mK fullShare (W (Proc.devRef .tc main_v2)) ∗ pt c mV fullShare (W (Proc.devRef .tc main_v3))) := by
  unfold StableHlo.held
  rw [bigSep_eq_bigSepL_of_eq [Proc.devRef .tc main_v2, Proc.devRef .tc main_v3] (by decide) (by decide)]
  rfl

theorem kv_kept (c : Dev nD) : (StableHlo.held (c.tc : Thread nD τ) kvRefs (V₂ m c) : sProp 𝕄) = kvs m c := by
  rw [held_kv, V₂_of_ne m c main_v2 (by decide), V₂_of_ne m c main_v3 (by decide)]
  rfl

/-! ## The call's region -/

theorem debts_ok : ∀ c : Dev nD, ∀ a ∈ barDebts c ++ debts c (hops c), a.1.1.2 = .tc ∧ 0 < lv a.1 () := by decide +kernel

theorem cut (c : Dev nD) (t : Fin (cfg0.N + 1)) (g : GSem nD τ sig) (i : Unit) (h : 0 < (dat m c).owed t g i) : i ∈ L g ∧ (0 : ℕ) < lv g i := by
  have e : (dat m c).owed t = if t.val = 0 then O₀ c else 0 := rfl
  rw [e] at h
  split at h
  · obtain ⟨a, ha, rfl⟩ := sumT_pos _ g i h
    obtain ⟨h1, h2⟩ := debts_ok c a ha
    exact ⟨by unfold L; rw [if_pos h1]; exact Finset.mem_singleton_self _, h2⟩
  · exact absurd h (Nat.lt_irrefl 0)

theorem stage_ok : ∀ c : Dev nD, ∀ w : Fin 4, ∀ s : Fin (win0 w).nbuf, lev c (.dma ((win0 w).sem s)) ≤ 0 := by decide +kernel

theorem hin (c : Dev nD) : iprop(Pipeline.scopedRest (Pipeline.pin (pcfgs (F := F)) adm 0).spec c ∗ (∃ r, prngReg c r)
      ∗ StableHlo.held (c.tc : Thread nD τ) kvRefs (V₁ m c) ∗ Xk m c)
    ⊢ (pdats m 0 c).Φ 0 := by
  have e : (Pipeline.scopedRest (Pipeline.pin (pcfgs (F := F)) adm 0).spec c : sProp 𝕄) = scr c := scopedRest0_eq c
  rw [show (pdats m 0 c).Φ 0 = Φ0 m c from phi_first m c, e, held_kv]
  unfold Φ0 kvs
  iintro ⟨Hs, Hp, HK, HX⟩
  isplitl [HX]; · iexact HX
  isplitl [Hs]; · iexact Hs
  isplitl [Hp]; · iexact Hp
  iexact HK

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) kvRefs (V₂ m c) ∗ Pipeline.ownSems0 osem c ∗ semVal (gc c bar) 0) := by
  have e : (Pipeline.scopedRest (Pipeline.pin (pcfgs (F := F)) adm 0).spec c : sProp 𝕄) = scr c := scopedRest0_eq c
  rw [show (pdats m 0 c).Φ (Fin.last _) = Φ1 m c from phi_last m c, e, kv_kept, own_eq]
  unfold Φ1 loc4
  iintro ⟨⟨Hb, Hf, Hsh⟩, ⟨H2, H3, H4, H5⟩, Hs, Hp, HK⟩
  isplitl [Hs]; · iexact Hs
  isplitl [Hp]; · iexact Hp
  isplitl [HK]; · iexact HK
  isplitr [Hb]
  · isplitl [Hf]; · iexact Hf
    isplitl [H2]; · iexact H2
    isplitl [H3]; · iexact H3
    isplitl [H4]; · iexact H4
    isplitl [H5] <;> iassumption
  iexact Hb

theorem rest_kept (c : Dev nD) : ∀ b ∈ (ucs \ arrs) \ kvRefs, V₂ m c b = V₁ m c b := fun b hb => by
  have h1 := (Finset.mem_sdiff.mp (Finset.mem_sdiff.mp hb).1)
  obtain ⟨r, -, rfl⟩ := Finset.mem_map.mp (Finset.mem_filter.mp h1.1).1
  refine V₂_of_ne m c r fun w hw => h1.2 ?_
  subst hw
  exact Finset.mem_map_of_mem _ (Finset.mem_image_of_mem _ (Finset.mem_univ w))

set_option backward.isDefEq.respectTransparency.types false in
def reg : Pipeline.RegionSeg (pcfgs (F := F)) adm (pdats m) () defs₀ Variants.none L lv 0 :=
  Pipeline.RegionSeg.ofTalk (pcfgs (F := F)) adm (pdats m) () defs₀ Variants.none L lv 0 osem osem_facts
    kvRefs (ucs \ arrs) kv_sub kitP rfl (fun c => (body_ob m c).loose)
    (fun _ => 0) O₀ (fun c => (owed_first m c).trans (zero_add _).symm) (owed_last m) (fun _ => rfl)
    (fun c w => by show (dat m c).share w = fullShare; unfold Dat.share; split <;> rfl)
    (V₁ m) (V₂ m) (rest_kept m)
    (Tk m) (fun c => semVal (gc c bar) 0) (Xk m) (fun c => semVal (gc c bar) 0) (hopen m) (hin m) (hout m)
    (fun c => by iintro H; imodintro; iexact H)
    (fun _ => 0)
    ⟨fun c w s => by rw [L_tc]; exact Finset.mem_singleton_self _, fun c w s => stage_ok c w s, fun c t g i h => cut m c t g i h⟩
    (fun _ => iprop(emp))
    (fun c w => rfl) (fun c w => (V₂_arr m c w).symm)

/-! ## The lines around it -/

def Rl (c : Dev nD) : sProp 𝕄 := iprop(Tk m c ∗ (∃ r, prngReg c r) ∗ ∃ W, owes (c : Thread nD τ) (O₀ c) W)
def Re (c : Dev nD) : sProp 𝕄 :=
  iprop(semVal (gc c bar) 0 ∗ (∃ r, prngReg c r) ∗ ∃ W, owes (c : Thread nD τ) (0 : CellTallies nD τ sig Unit) W)

theorem ops0_sub : ∀ op ∈ (hostOps0 : List (HloOp τ sig (Elt F))), op.bufs ⊆ ucs := fun op h =>
  Pipeline.sub_ucRefs op (List.forall_iff_forall_mem.mp hostOps0_sub op h)
theorem ops1_sub : ∀ op ∈ (hostOps1 : List (HloOp τ sig (Elt F))), op.bufs ⊆ ucs := fun op h =>
  Pipeline.sub_ucRefs op (List.forall_iff_forall_mem.mp hostOps1_sub op h)

def seg0 : Pipeline.HostSeg (Name := ℕ) (U := UU) (pcfgs (F := F)) defs₀ Variants.none L lv :=
  Pipeline.HostSeg.ofOps _ _ _ _ _ ucs hostOps0 ops0_sub (List.forall_iff_forall_mem.mp hostOps0_fresh) (Vl m) (Rl m)
def seg1 : Pipeline.HostSeg (Name := ℕ) (U := UU) (pcfgs (F := F)) defs₀ Variants.none L lv :=
  Pipeline.HostSeg.ofOps _ _ _ _ _ ucs hostOps1 ops1_sub (List.forall_iff_forall_mem.mp hostOps1_fresh) (V₂ m) Re

def segs : List (Pipeline.Seg (pcfgs (F := F)) adm (pdats m) () defs₀ Variants.none L lv) :=
  [.host (seg0 m), .region (reg m), .host (seg1 m)]

theorem main_eq (c : Dev nD) : main (F := F) c = Pipeline.Seg.run (segs m) :=
  main_segs adm (pdats m) () Variants.none L lv (seg0 m) (seg1 m) (reg m) rfl rfl c

theorem reg_pre (c : Dev nD) : iprop(StableHlo.held (c : Thread nD τ) ucs (V₁ m c) ∗ Rl m c) ⊢ (reg m).pre c := by
  show _ ⊢ iprop(StableHlo.held (c.tc : Thread nD τ) arrs (V₁ m c) ∗ (∃ r, prngReg c r)
    ∗ (StableHlo.held (c.tc : Thread nD τ) (ucs \ arrs) (V₁ m c) ∗ emp) ∗ Tk m c ∗ ∃ Wd, owes (c : Thread nD τ) (0 + O₀ c) Wd)
  rw [zero_add, StableHlo.held_sub_split (c.tc : Thread nD τ) arrs_sub (V₁ m c)]
  unfold Rl
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

theorem reg_post (c : Dev nD) : (reg m).post c ⊢ iprop(StableHlo.held (c : Thread nD τ) ucs (V₂ m c) ∗ Re c) := by
  show iprop(StableHlo.held (c.tc : Thread nD τ) arrs (V₂ m c) ∗ (∃ r, prngReg c r)
    ∗ (StableHlo.held (c.tc : Thread nD τ) (ucs \ arrs) (V₂ m c) ∗ emp) ∗ semVal (gc c bar) 0 ∗ ∃ Wd, owes (c : Thread nD τ) (0 : CellTallies nD τ sig Unit) Wd) ⊢ _
  rw [StableHlo.held_sub_split (c.tc : Thread nD τ) arrs_sub (V₂ m c)]
  unfold Re
  iintro ⟨Ha, Hp, ⟨Hr, -⟩, Hb, HO⟩
  isplitl [Ha Hr]
  · isplitl [Ha] <;> iassumption
  isplitl [Hb]; · iexact Hb
  isplitl [Hp] <;> iassumption

abbrev T₀ (c : Dev nD) : sProp 𝕄 := iprop(StableHlo.held (c : Thread nD τ) ucs (Vl m c) ∗ Rl m c)
abbrev Tₙ (c : Dev nD) : sProp 𝕄 := iprop(StableHlo.held (c : Thread nD τ) ucs (V₃ m c) ∗ semVal (gc c bar) 0)

/-! ## The launch -/

def u₀ : UU :=
  (initOf (Pipeline.cells (Pipeline.pin (pcfgs (F := F)) adm) cellOf_inj) (Pipeline.launchToks (Pipeline.pin (pcfgs (F := F)) adm) cellOf_inj),
    Emb.inl (launchOf cellsB cellsD toks))

/-- What only the launch as a whole takes, kept on device 0 until then. -/
def G (c : Dev nD) : sProp 𝕄 := if c = 0 then BI.own (ER (launchOf cellsB cellsD toks)) else iprop(emp)

theorem G_all : bigSep Finset.univ (G (F := F)) = BI.own (ER (launchOf cellsB cellsD toks)) := by
  have h : G (F := F) = fun c => if c = 0 then (fun _ => BI.own (ER (launchOf cellsB cellsD toks))) c else iprop(emp) := rfl
  rw [h]
  refine (bigSep_filter Finset.univ (fun c : Dev nD => c = 0) (fun _ => BI.own (ER (launchOf cellsB cellsD toks)))).symm.trans ?_
  rw [Finset.filter_eq', if_pos (Finset.mem_univ _), bigSep_singleton]

theorem bar_only (c : Dev nD) : (unscopedSems0 c : sProp 𝕄) = semVal (gc c bar) 0 := by
  unfold unscopedSems0
  rw [show (Finset.univ.filter fun sm : SemLoc sig => ¬ sm.isScoped .tc) = {bar} from by decide +kernel, bigSep_singleton]

/-- What a device has of its own at launch, and what only together with the others. -/
def mine (c : Dev nD) : sProp 𝕄 :=
  iprop((StableHlo.held (c : Thread nD τ) ucs (Vl m c) ∗ owes (c : Thread nD τ) (O₀ c) ∅ ∗ (∃ r, prngReg c r))
    ∗ (cred (tallyAt (gc c bar) () 2) ∗ cred (tallyAt (gc c fin2) () 2) ∗ bigSep Finset.univ fun k => credIn c k))

def dealt (c : Dev nD) : sProp 𝕄 :=
  iprop(atPos ER (gc c bar) 0 ∅ 0 ∗ openTok ER (gc c fin2) ∗ (bigSep Finset.univ fun k => opn c k)
    ∗ (tokB c ∗ tokF c ∗ bigSep Finset.univ fun k => tokIn (F := F) c k))

def known (κ : GSem nD τ sig → ℕ) : sProp 𝕄 :=
  iprop(bigSep talkCells (fun g => cellInv ER (RdM m) (κ g) g) ∗ bigSep Finset.univ fun c : Dev nD => reached ER (gc c bar) 0)
instance (κ : GSem nD τ sig → ℕ) : Persistent (known m κ) := by unfold known; infer_instance

theorem mine_of (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(mine m c ∗ semVal (gc c bar) 0 ∗ G c) : sProp 𝕄) := by
  rw [show unscopedBufs c (fun b => m ((c : Thread nD τ).loc b)) = StableHlo.held (c : Thread nD τ) ucs (Vl m c) from Pipeline.unscopedBufs_held c (Vl m c),
    bar_only]
  unfold mine
  iintro ⟨Hh, Hus, HO, Hcr, Hp, HG⟩
  ihave Hc := (creds (F := F) c) $$ Hcr
  isplitl [Hh HO Hp Hc]
  · isplitr [Hc]
    · isplitl [Hh]; · iexact Hh
      isplitl [HO]; · iexact HO
      iexists (ρ c); iexact Hp
    iexact Hc
  isplitl [Hus] <;> iassumption

theorem T₀_of (κ : GSem nD τ sig → ℕ) (c : Dev nD) : iprop(known m κ ∗ (dealt c ∗ mine m c)) ⊢ T₀ m c := by
  have hr : ∀ d : Dev nD, (bigSep Finset.univ fun c : Dev nD => (reached ER (gc c bar) 0 : sProp 𝕄)) ⊢ reached ER (gc d bar) 0 :=
    fun d => bigSep_elim (Finset.mem_univ d)
  have hk : iprop((bigSep Finset.univ fun k => tokIn (F := F) c k) ∗ bigSep Finset.univ fun k => credIn c k) ⊢ bigSep Finset.univ fun k => tokc (F := F) c k :=
    both.trans (bigSep_mono fun k _ => tokc_of c k)
  unfold known dealt mine T₀ Rl Tk TkL tokB tokF
  iintro ⟨⟨#HI, #HR⟩, ⟨Ha, Hof, Hop, ⟨HB1, HB2⟩, ⟨HF1, HF2⟩, HT⟩, ⟨Hh, HO, Hp⟩, HcB, HcF, HcK⟩
  isplitl [Hh]; · iexact Hh
  isplitr [HO Hp]
  · iexists κ
    isplitr; · iexact HI
    isplitl [Ha HcB]
    · isplitl [Ha] <;> iassumption
    isplitl [HB1 HB2]
    · isplitl [HB1] <;> iassumption
    isplitr
    · isplitr
      · iapply (hr (prv c)); iexact HR
      · iapply (hr (nxt c)); iexact HR
    isplitl [Hof HcF HF1 HF2]
    · isplitl [Hof]; · iexact Hof
      isplitl [HcF]; · iexact HcF
      isplitl [HF1] <;> iassumption
    isplitl [Hop]; · iexact Hop
    iapply hk
    isplitl [HT] <;> iassumption
  isplitl [Hp]; · iexact Hp
  iexists ∅; iexact HO

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have h1 : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (iprop((bigSep Finset.univ fun c : Dev nD => mine m c) ∗ (bigSep cellsB fun g => semVal g 0) ∗ BI.own (ER (launchOf cellsB cellsD toks))) : sProp 𝕄) := by
    refine (bigSep_mono fun c _ => mine_of m ρ c).trans ?_
    rw [bigSep_sep', bigSep_sep', G_all, over_bar]
    exact Entails.refl _
  have h2 : iprop((bigSep cellsB fun g => atPos ER g 0 ∅ 0) ∗ (bigSep cellsD fun g => openTok ER g)
        ∗ bigSep toks (fun x => (dutyTok ER x.1 x.2.1 x.2.2 : sProp 𝕄)))
      ⊢ bigSep Finset.univ fun c : Dev nD => (dealt c : sProp 𝕄) := by
    unfold dealt
    rw [over_bar, over_own, bigSep_sep', bigSep_sep', bigSep_sep']
    iintro ⟨Ha, ⟨Hf, Ho⟩, Ht⟩
    isplitl [Ha]; · iexact Ha
    isplitl [Hf]; · iexact Hf
    isplitl [Ho]; · iexact Ho
    iapply (tok_all (F := F)); iexact Ht
  iintro ⟨H, -⟩
  ihave H' := h1 $$ H
  icases H' with ⟨HM, Hv, Hu⟩
  imod (Rounds.fund_launch ER (RdM m) cells_disjoint (fun g _ h => h) toks) $$ [Hv Hu] with ⟨%κ, -, #Hinv, #Hr, Hat, Hopen, Htok⟩
  · isplitl [Hv]
    · iexact Hv
    · iexact Hu
  imodintro
  iapply (bigSep_with_persistent (R := known m κ) (Φ := fun c => iprop(dealt c ∗ mine m c)) fun c _ => T₀_of m κ c)
  isplitr
  · unfold known
    isplitr; · iexact Hinv
    iapply (Entails.of_eq (over_bar (F := F) fun g => reached ER g 0)); iexact Hr
  iapply both
  isplitr [HM]
  · iapply h2
    isplitl [Hat]; · iexact Hat
    isplitl [Hopen] <;> iassumption
  · iexact HM

/-! ## The run -/

theorem bar_un : ∀ sm : SemLoc sig, sm.isScoped .tc = false → sm = bar := by decide +kernel

theorem held_uc (c : Dev nD) (W : Valuation τ sig (Elt F)) : (StableHlo.held (c.tc : Thread nD τ) ucs W : sProp 𝕄)
    = iprop((((c : Thread nD τ).loc main_arg0) ↦{fullShare} W (Proc.devRef .tc main_arg0)) ∗ (((c : Thread nD τ).loc main_arg1) ↦{fullShare} W (Proc.devRef .tc main_arg1))
      ∗ (((c : Thread nD τ).loc main_arg2) ↦{fullShare} W (Proc.devRef .tc main_arg2)) ∗ (((c : Thread nD τ).loc main_arg3) ↦{fullShare} W (Proc.devRef .tc main_arg3))
      ∗ (((c : Thread nD τ).loc main_arg4) ↦{fullShare} W (Proc.devRef .tc main_arg4)) ∗ (((c : Thread nD τ).loc main_v5) ↦{fullShare} W (Proc.devRef .tc main_v5))
      ∗ (((c : Thread nD τ).loc main_v1) ↦{fullShare} W (Proc.devRef .tc main_v1)) ∗ (((c : Thread nD τ).loc main_v2) ↦{fullShare} W (Proc.devRef .tc main_v2))
      ∗ (((c : Thread nD τ).loc main_v3) ↦{fullShare} W (Proc.devRef .tc main_v3)) ∗ (((c : Thread nD τ).loc main_v4) ↦{fullShare} W (Proc.devRef .tc main_v4))) := by
  unfold StableHlo.held
  rw [bigSep_eq_bigSepL_of_eq [Proc.devRef .tc main_arg0, Proc.devRef .tc main_arg1, Proc.devRef .tc main_arg2, Proc.devRef .tc main_arg3,
    Proc.devRef .tc main_arg4, Proc.devRef .tc main_v5, Proc.devRef .tc main_v1, Proc.devRef .tc main_v2, Proc.devRef .tc main_v3, Proc.devRef .tc main_v4]
    (by decide) (by decide)]
  rfl

theorem V₃_ne (c : Dev nD) (b : Ref sig .tc) (hb : main_v5 ≠ b) : V₃ m c (Proc.devRef .tc b) = V₂ m c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne (Ne.symm hb)))

theorem end0 (c : Dev nD) : V₃ m c (Proc.devRef .tc main_arg0) = m ((c : Thread nD τ).loc main_arg0) := by
  rw [V₃_ne m c _ (by decide), V₂_of_ne m c _ (by decide)]; exact V_main_arg0 m c
theorem end1 (c : Dev nD) : V₃ m c (Proc.devRef .tc main_arg1) = m ((c : Thread nD τ).loc main_arg1) := by
  rw [V₃_ne m c _ (by decide)]
  refine (V₂_arr m c 1).trans ?_
  rw [(dat m c).arrAt_in 1 rfl]; exact V_main_arg1 m c
theorem end2 (c : Dev nD) : V₃ m c (Proc.devRef .tc main_arg2) = m ((c : Thread nD τ).loc main_arg2) := by
  rw [V₃_ne m c _ (by decide), V₂_of_ne m c _ (by decide)]; exact V_main_arg2 m c
theorem end3 (c : Dev nD) : V₃ m c (Proc.devRef .tc main_arg3) = m ((c : Thread nD τ).loc main_arg3) := by
  rw [V₃_ne m c _ (by decide), V₂_of_ne m c _ (by decide)]; exact V_main_arg3 m c
theorem end4 (c : Dev nD) : V₃ m c (Proc.devRef .tc main_arg4) = m ((c : Thread nD τ).loc main_arg4) := by
  rw [V₃_ne m c _ (by decide)]
  refine (V₂_arr m c 2).trans ?_
  rw [(dat m c).arrAt_in 2 rfl]; exact V_main_arg4 m c

set_option backward.isDefEq.respectTransparency.types false in
/-- From any memory with its counters at zero every fair run ends; the arguments are as they were, the result is the
    last line's of what the call left, and every counter is at zero. -/
theorem run_main : θ_run (defs (F := F)) (onTc (τ := τ) (main (F := F))) ⟨m, fun _ => 0, ρ⟩
    (fun r => (∀ c : Dev nD,
        (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
        ∧ r.2.mem ((c.tc : Thread nD τ).loc main_v5) = V₃ m c (Proc.devRef .tc main_v5)) ∧ r.2.sem = fun _ => 0) :=
  Pipeline.θ_run_regions_kit_sems (pcfgs (F := F)) adm (pdats m) () cellOf_inj EP defs₀ Variants.none L lv m ρ main (segs m)
    (fun c Q => by rw [main_eq m c])
    (by simp only [segs, Pipeline.Seg.pipes_host, Pipeline.Seg.pipes_region, Pipeline.Seg.pipes_nil]; decide)
    (O₀ := O₀) (hL := fun g h => if_neg h) (G := G) (u₀ := u₀ (F := F))
    (hu₀ := by
      unfold u₀
      rw [G_all]
      iintro Hu
      ihave H := (ownU_pair _ _) $$ Hu
      icases H with ⟨HP, HX⟩
      imodintro
      isplitl [HP]; · iexact HP
      unfold ER; iexact HX)
    (T₀ := T₀ m) (Tₙ := Tₙ m)
    (hch := by
      refine ⟨fun c => Entails.refl _, fun c => reg_pre m c, fun c => reg_post m c, fun c => ?_⟩
      show iprop(StableHlo.held (c : Thread nD τ) ucs (V₃ m c)
          ∗ (semVal (gc c bar) 0 ∗ (∃ r, prngReg c r) ∗ ∃ W, owes (c : Thread nD τ) (0 : CellTallies nD τ sig Unit) W))
        ⊢ iprop(Tₙ m c ∗ ∃ W, owes (c : Thread nD τ) (0 : CellTallies nD τ sig Unit) W)
      iintro ⟨Hh, Hb0, -, HO⟩
      isplitr [HO]
      · isplitl [Hh] <;> iassumption
      · iexact HO)
    (hinit := init m ρ)
    (QY := fun c s => (s.mem ((c : Thread nD τ).loc main_arg0) = V₃ m c (Proc.devRef .tc main_arg0) ∧ s.mem ((c : Thread nD τ).loc main_arg1) = V₃ m c (Proc.devRef .tc main_arg1)
      ∧ s.mem ((c : Thread nD τ).loc main_arg2) = V₃ m c (Proc.devRef .tc main_arg2) ∧ s.mem ((c : Thread nD τ).loc main_arg3) = V₃ m c (Proc.devRef .tc main_arg3)
      ∧ s.mem ((c : Thread nD τ).loc main_arg4) = V₃ m c (Proc.devRef .tc main_arg4) ∧ s.mem ((c : Thread nD τ).loc main_v5) = V₃ m c (Proc.devRef .tc main_v5))
      ∧ s.sem (gc c bar) = 0)
    (hfin := fun c s' => by
      dsimp only [Tₙ]; rw [held_uc]
      iintro ⟨⟨⟨H0, H1, H2, H3, H4, H5, -⟩, Hb0⟩, HSI⟩
      icombine HSI H0 gives %h0
      icombine HSI H1 gives %h1
      icombine HSI H2 gives %h2
      icombine HSI H3 gives %h3
      icombine HSI H4 gives %h4
      icombine HSI H5 gives %h5
      icombine HSI Hb0 gives %hb
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h4, Buf.eq_of_forall_mem_univ h5⟩, by simpa using hb⟩
      iexact HSI)
    (hQ := fun s h hs => ⟨fun c => by
        obtain ⟨⟨h0, h1, h2, h3, h4, h5⟩, -⟩ := h c
        rw [end0] at h0; rw [end1] at h1; rw [end2] at h2; rw [end3] at h3; rw [end4] at h4
        exact ⟨⟨h0, h1, h2, h3, h4⟩, h5⟩,
      sem_eq_zero hs fun c sm hsm => by
        obtain rfl := bar_un sm hsm
        exact (h c).2⟩)

end

end Cert.KernelIdeal.Hand
-- ==== Proof.V.Ref.lean ====
/-
  The reference's run: its arguments unchanged, every counter at zero, its result read one operation at a time.
-/
module

public import proofs.«01_k».proof.Defs
public import proofs.«01_k».proof.Proof.Gen.ReferenceIdeal.Read

@[expose] public section

noncomputable section

namespace Cert.ReferenceIdeal.Hand

open Cert.ReferenceIdeal Cert.ReferenceIdeal.Gen Idealize.ShloMosaic Idealize.SL.Sem

/-- The reference returns with its arguments as they were; it declares no semaphore, so every counter is zero. -/
theorem frame : Cert.quiescent_ReferenceIdeal := by
  intro m g _
  exact (θ_run defs _ _).mono (fun r h => ⟨fun c => (h c).2, sem_eq_zero_of_no_sems (by decide) r.2⟩)
    (Cert.ReferenceIdeal.Value.run (F := Ideal) m g)

end Cert.ReferenceIdeal.Hand
-- ==== Proof.V.Soft.lean ====
/-
  Weighted means whose weights are exponentials of scores, over the extended reals: subtracting a number from every score, leaving
  out scores of −∞, and putting two parts together do not change them.
-/
module

public import Idealize.ShloMosaic.PureOps.Ideal.Laws

@[expose] public section

noncomputable section

namespace Cert.Soft

open Idealize.ShloMosaic

theorem exp_sub (s : EReal) (hs : s ≠ ⊤) (M : ℝ) : Ideal.exp (s - (M : EReal)) = (Real.exp (-M) : EReal) * Ideal.exp s := by
  induction s with
  | top => exact absurd rfl hs
  | bot => rw [EReal.bot_sub, Ideal.exp_bot, mul_zero]
  | coe r =>
    rw [← EReal.coe_sub, Ideal.exp_coe, Ideal.exp_coe, ← EReal.coe_mul, ← Real.exp_add, sub_eq_neg_add]

theorem mul_add' {c : ℝ} (hc : 0 ≤ c) (a b : EReal) : (c : EReal) * (a + b) = (c : EReal) * a + (c : EReal) * b :=
  EReal.left_distrib_of_nonneg_of_ne_top (by exact_mod_cast hc) (EReal.coe_ne_top c) a b

theorem mul_sum' {ι : Type*} (t : Finset ι) {c : ℝ} (hc : 0 ≤ c) (f : ι → EReal) : (c : EReal) * ∑ j ∈ t, f j = ∑ j ∈ t, (c : EReal) * f j := by
  classical
  induction t using Finset.induction_on with
  | empty => simp
  | insert a t ha ih => rw [Finset.sum_insert ha, Finset.sum_insert ha, mul_add' hc, ih]

theorem div_scale {c w : ℝ} (hc : 0 < c) (hw : 0 < w) (a : EReal) :
    Ideal.div ((c : EReal) * a) ((c : EReal) * (w : EReal)) = Ideal.div a (w : EReal) := by
  rw [← EReal.coe_mul, Ideal.div_coe (mul_pos hc hw).ne', Ideal.div_coe hw.ne', mul_comm (c : EReal) a, mul_assoc, ← EReal.coe_mul]
  congr 2
  field_simp

theorem exp_real (s : EReal) (hs : s ≠ ⊤) : ∃ e : ℝ, 0 ≤ e ∧ Ideal.exp s = (e : EReal) ∧ (s ≠ ⊥ → 0 < e) := by
  induction s with
  | top => exact absurd rfl hs
  | bot => exact ⟨0, le_refl _, by simp, fun h => absurd rfl h⟩
  | coe r => exact ⟨Real.exp r, (Real.exp_pos r).le, Ideal.exp_coe r, fun _ => Real.exp_pos r⟩

section
variable {ι : Type*} [Fintype ι]

/-- The weights' sum, and the weighted values' sum. -/
def W (s : ι → EReal) : EReal := ∑ j, Ideal.exp (s j)
def A (s v : ι → EReal) : EReal := ∑ j, Ideal.exp (s j) * v j

theorem W_real (s : ι → EReal) (hs : ∀ j, s j ≠ ⊤) : ∃ w : ℝ, 0 ≤ w ∧ W s = (w : EReal) ∧ ((∃ j, s j ≠ ⊥) → 0 < w) := by
  classical
  choose e he hee hp using fun j => exp_real (s j) (hs j)
  refine ⟨∑ j, e j, Finset.sum_nonneg fun j _ => he j, ?_, fun ⟨j, hj⟩ =>
    Finset.sum_pos' (fun j _ => he j) ⟨j, Finset.mem_univ _, hp j hj⟩⟩
  unfold W
  rw [Finset.sum_congr rfl fun j _ => hee j]
  exact (map_sum (⟨⟨Real.toEReal, rfl⟩, EReal.coe_add⟩ : ℝ →+ EReal) e Finset.univ).symm

theorem sum_exp (s : ι → EReal) (hs : ∀ j, s j ≠ ⊤) (M : ℝ) : ∑ j, Ideal.exp (s j - (M : EReal)) = (Real.exp (-M) : EReal) * W s := by
  unfold W
  rw [mul_sum' _ (Real.exp_pos _).le]
  exact Finset.sum_congr rfl fun j _ => exp_sub _ (hs j) M

theorem sum_acc (s v : ι → EReal) (hs : ∀ j, s j ≠ ⊤) (M : ℝ) :
    ∑ j, Ideal.exp (s j - (M : EReal)) * v j = (Real.exp (-M) : EReal) * A s v := by
  unfold A
  rw [mul_sum' _ (Real.exp_pos _).le]
  exact Finset.sum_congr rfl fun j _ => by rw [exp_sub _ (hs j) M, mul_assoc]

/-- Values summed with shifted weights, then divided. -/
theorem head (s v : ι → EReal) (hs : ∀ j, s j ≠ ⊤) (h1 : ∃ j, s j ≠ ⊥) (M : ℝ) :
    Ideal.div (∑ j, Ideal.exp (s j - (M : EReal)) * v j) (∑ j, Ideal.exp (s j - (M : EReal))) = Ideal.div (A s v) (W s) := by
  obtain ⟨w, -, hw, hp⟩ := W_real s hs
  rw [sum_acc s v hs, sum_exp s hs, hw, div_scale (Real.exp_pos _) (hp h1)]

/-- Shifted weights divided, then the values summed. -/
theorem soft (s v : ι → EReal) (hs : ∀ j, s j ≠ ⊤) (h1 : ∃ j, s j ≠ ⊥) (M : ℝ) :
    ∑ j, v j * Ideal.div (Ideal.exp (s j - (M : EReal))) (∑ k, Ideal.exp (s k - (M : EReal))) = Ideal.div (A s v) (W s) := by
  obtain ⟨w, -, hw, hp⟩ := W_real s hs
  have hw0 := hp h1
  rw [sum_exp s hs, hw, Ideal.div_coe hw0.ne']
  unfold A
  rw [mul_comm (∑ j, Ideal.exp (s j) * v j), mul_sum' _ (one_div_pos.mpr hw0).le]
  refine Finset.sum_congr rfl fun j _ => ?_
  rw [exp_sub _ (hs j), div_scale (Real.exp_pos _) hw0, Ideal.div_coe hw0.ne', ← mul_assoc, mul_comm]
  rw [mul_comm (v j)]

/-- The largest score is a number. -/
theorem max_real (s : ι → EReal) (hs : ∀ j, s j ≠ ⊤) (h1 : ∃ j, s j ≠ ⊥) : ∃ M : ℝ, Finset.univ.fold max ⊥ s = (M : EReal) := by
  have h : Finset.univ.fold max ⊥ s ≠ ⊤ ∧ Finset.univ.fold max ⊥ s ≠ ⊥ := by
    constructor
    · refine ne_of_lt ?_
      rw [Finset.fold_max_lt]
      exact ⟨bot_lt_top, fun j _ => lt_top_iff_ne_top.mpr (hs j)⟩
    · obtain ⟨j, hj⟩ := h1
      refine (ne_of_lt ?_).symm
      rw [Finset.lt_fold_max]
      exact Or.inr ⟨j, Finset.mem_univ _, bot_lt_iff_ne_bot.mpr hj⟩
  exact ⟨_, (EReal.coe_toReal h.1 h.2).symm⟩

end

/-- Two parts, each shifted by its own largest score, put together. -/
theorem merge {ι κ : Type*} [Fintype ι] [Fintype κ] (s v : ι → EReal) (s' v' : κ → EReal) (hs : ∀ j, s j ≠ ⊤) (hs' : ∀ j, s' j ≠ ⊤)
    (h1 : ∃ j, s j ≠ ⊥) (M M' : ℝ) :
    Ideal.div
      ((∑ j, Ideal.exp (s j - (M : EReal)) * v j) * Ideal.exp ((M : EReal) - max (M : EReal) (M' : EReal))
        + (∑ j, Ideal.exp (s' j - (M' : EReal)) * v' j) * Ideal.exp ((M' : EReal) - max (M : EReal) (M' : EReal)))
      ((∑ j, Ideal.exp (s j - (M : EReal))) * Ideal.exp ((M : EReal) - max (M : EReal) (M' : EReal))
        + (∑ j, Ideal.exp (s' j - (M' : EReal))) * Ideal.exp ((M' : EReal) - max (M : EReal) (M' : EReal)))
      = Ideal.div (A s v + A s' v') (W s + W s') := by
  obtain ⟨m, hm⟩ : ∃ m : ℝ, max (M : EReal) (M' : EReal) = (m : EReal) := ⟨max M M', (EReal.coe_strictMono.monotone.map_max).symm⟩
  have hc (N : ℝ) (a : EReal) : (Real.exp (-N) : EReal) * a * Ideal.exp ((N : EReal) - (m : EReal)) = (Real.exp (-m) : EReal) * a := by
    rw [← EReal.coe_sub, Ideal.exp_coe, mul_right_comm, ← EReal.coe_mul, ← Real.exp_add]
    congr 3
    ring
  obtain ⟨w, -, hw, hp⟩ := W_real s hs
  obtain ⟨w', hw0', hw', -⟩ := W_real s' hs'
  rw [hm, sum_acc s v hs, sum_acc s' v' hs', sum_exp s hs, sum_exp s' hs', hc, hc, hc, hc, ← mul_add' (Real.exp_pos _).le,
    ← mul_add' (Real.exp_pos _).le, hw, hw', ← EReal.coe_add, div_scale (Real.exp_pos _) (add_pos_of_pos_of_nonneg (hp h1) hw0')]

/-- A sum over all keys of what vanishes outside a window is the window's. -/
theorem window (g : ℕ → EReal) (n w N : ℕ) (hN : w + N ≤ n) (hg : ∀ j, (j < w ∨ w + N ≤ j) → j < n → g j = 0) :
    ∑ j : Fin n, g j = ∑ i : Fin N, g (w + i) := by
  rw [Fin.sum_univ_eq_sum_range g n, Fin.sum_univ_eq_sum_range (fun i => g (w + i)) N]
  have e : ∑ j ∈ Finset.range N, g (w + j) = ∑ j ∈ Finset.Ico w (w + N), g j := by
    rw [Finset.sum_Ico_eq_sum_range, Nat.add_sub_cancel_left]
  rw [e]
  refine (Finset.sum_subset ?_ fun j hj hj' => hg j ?_ (Finset.mem_range.mp hj)).symm
  · intro j hj
    rw [Finset.mem_Ico] at hj
    exact Finset.mem_range.mpr (by omega)
  · rw [Finset.mem_Ico] at hj'
    omega

theorem window2 (g : ℕ → EReal) (w N N' : ℕ) : ∑ i : Fin (N + N'), g (w + i) = ∑ i : Fin N, g (w + i) + ∑ i : Fin N', g (w + N + i) := by
  rw [Fin.sum_univ_add]
  simp only [Fin.val_castAdd, Fin.val_natAdd, Nat.add_assoc]

end Cert.Soft
-- ==== Proof.V.Att.lean ====
/-
  The attention both programs compute, as a function of the numbers in their arguments: projected queries, scores of −∞ for keys
  farther than 128 from the row, the weighted mean of the values in each head, and the output projection.
-/
module

public import proofs.«01_k».proof.Proof.V.Soft

@[expose] public section

noncomputable section

namespace Cert.Att

open Idealize.ShloMosaic Cert.Soft

/-- Column `d` of head `h`. -/
def hd (h : Fin 8) (d : Fin 128) : Fin 1024 := ⟨128 * h.val + d.val, by omega⟩
def hOf (c : Fin 1024) : Fin 8 := ⟨c.val / 128, by omega⟩
def dOf (c : Fin 1024) : Fin 128 := ⟨c.val % 128, by omega⟩
theorem hOf_hd (h : Fin 8) (d : Fin 128) : hOf (hd h d) = h := Fin.ext (by simp only [hOf, hd]; omega)
theorem dOf_hd (h : Fin 8) (d : Fin 128) : dOf (hd h d) = d := Fin.ext (by simp only [dOf, hd]; omega)
theorem hd_of (c : Fin 1024) : hd (hOf c) (dOf c) = c := Fin.ext (by simp only [hOf, dOf, hd]; omega)

/-- Row `q` attends to key `j`. -/
abbrev near (q j : ℕ) : Prop := q ≤ j + 128 ∧ j ≤ q + 128

/-- What a program's test of it says. -/
theorem near_bit {a b : ℕ} (ha : a < 16384) (hb : b < 16384) :
    IntOp.cmpi .sle (IntOp.absi (BitVec.ofNat 32 a - BitVec.ofNat 32 b)) 128#32 = BitVec.ofBool (decide (near a b)) := by
  have key (n : ℕ) (hn : n < 16384) : IntOp.cmpi .sle (BitVec.ofNat 32 n) 128#32 = BitVec.ofBool (decide (n ≤ 128)) := by
    show BitVec.ofBool (decide ((BitVec.ofNat 32 n).toInt ≤ (128#32).toInt)) = _
    congr 1
    have e : (BitVec.ofNat 32 n).toInt = n := by
      have h1 : (BitVec.ofNat 32 n).toNat = n := by rw [BitVec.toNat_ofNat]; omega
      rw [BitVec.toInt_eq_toNat_of_lt (by rw [h1]; omega), h1]
    have e' : (128#32).toInt = 128 := by decide
    rw [e, e']
    simp only [decide_eq_decide]
    omega
  have pos (n : ℕ) (hn : n < 16384) : IntOp.absi (BitVec.ofNat 32 n) = BitVec.ofNat 32 n := by
    unfold IntOp.absi
    rw [if_neg]
    rw [BitVec.msb_eq_decide, BitVec.toNat_ofNat]
    simp only [decide_eq_true_eq]
    omega
  by_cases h : b ≤ a
  · have e : BitVec.ofNat 32 a - BitVec.ofNat 32 b = BitVec.ofNat 32 (a - b) := by
      apply BitVec.eq_of_toNat_eq
      rw [BitVec.toNat_sub, BitVec.toNat_ofNat, BitVec.toNat_ofNat, BitVec.toNat_ofNat]
      omega
    rw [e, pos _ (by omega), key _ (by omega)]
    congr 2
    simp only [near, eq_iff_iff]
    omega
  · have e : IntOp.absi (BitVec.ofNat 32 a - BitVec.ofNat 32 b) = BitVec.ofNat 32 (b - a) := by
      unfold IntOp.absi
      rw [if_pos]
      · apply BitVec.eq_of_toNat_eq
        rw [BitVec.toNat_neg, BitVec.toNat_sub, BitVec.toNat_ofNat, BitVec.toNat_ofNat, BitVec.toNat_ofNat]
        omega
      · rw [BitVec.msb_eq_decide, BitVec.toNat_sub, BitVec.toNat_ofNat, BitVec.toNat_ofNat]
        simp only [decide_eq_true_eq]
        omega
    rw [e, key _ (by omega)]
    congr 2
    simp only [near, eq_iff_iff]
    omega

/-- A number, not an infinity. -/
def IsR (a : EReal) : Prop := ∃ r : ℝ, a = (r : EReal)
theorem IsR.mul {a b : EReal} : IsR a → IsR b → IsR (a * b) := fun ⟨r, hr⟩ ⟨t, ht⟩ => ⟨r * t, by rw [hr, ht, EReal.coe_mul]⟩
theorem IsR.sum {ι : Type*} [Fintype ι] {f : ι → EReal} (h : ∀ j, IsR (f j)) : IsR (∑ j, f j) := by
  choose r hr using h
  refine ⟨∑ j, r j, ?_⟩
  rw [Finset.sum_congr rfl fun j _ => hr j]
  exact (map_sum (⟨⟨Real.toEReal, rfl⟩, EReal.coe_add⟩ : ℝ →+ EReal) r Finset.univ).symm
theorem IsR.of_ne {a : EReal} (h : a ≠ ⊤) (h' : a ≠ ⊥) : IsR a := ⟨_, (EReal.coe_toReal h h').symm⟩
theorem IsR.ne_top {a : EReal} (h : IsR a) : a ≠ ⊤ := by obtain ⟨r, rfl⟩ := h; exact EReal.coe_ne_top r
theorem IsR.ne_bot {a : EReal} (h : IsR a) : a ≠ ⊥ := by obtain ⟨r, rfl⟩ := h; exact EReal.coe_ne_bot r

/-- The factor of the scores, as both programs write it. -/
def scale : EReal := Ideal.ofBits .f32 0x3DB504F3#32
theorem scale_real : IsR scale := by
  unfold scale
  refine IsR.of_ne ?_ ?_ <;> simp [Ideal.ofBits, Ideal.ieee, -EReal.coe_mul]

section
variable (x : Fin 2048 → Fin 1024 → EReal) (wq wo : Fin 1024 → Fin 1024 → EReal) (k v : ℕ → Fin 1024 → EReal)

def qp (q : Fin 2048) (c : Fin 1024) : EReal := ∑ t, x q t * wq t c
def sc (q : Fin 2048) (h : Fin 8) (j : ℕ) : EReal :=
  if near q.val j then (∑ d : Fin 128, qp x wq q (hd h d) * k j (hd h d)) * scale else ⊥
def num (q : Fin 2048) (h : Fin 8) (d : Fin 128) (w N : ℕ) : EReal := A (fun i : Fin N => sc x wq k q h (w + i)) fun i => v (w + i) (hd h d)
def den (q : Fin 2048) (h : Fin 8) (w N : ℕ) : EReal := W fun i : Fin N => sc x wq k q h (w + i)
def ctx (q : Fin 2048) (c : Fin 1024) : EReal :=
  Ideal.div (num x wq k v q (hOf c) (dOf c) 0 8192) (den x wq k q (hOf c) 0 8192)
def out (q : Fin 2048) (n : Fin 1024) : EReal := ∑ c, ctx x wq k v q c * wo c n

/-- Queries and keys are numbers. -/
structure Fine : Prop where
  x : ∀ q t, IsR (x q t)
  wq : ∀ t c, IsR (wq t c)
  k : ∀ j c, IsR (k j c)

variable {x wq k}
theorem Fine.sc (f : Fine x wq k) (q : Fin 2048) (h : Fin 8) (j : ℕ) :
    Att.sc x wq k q h j ≠ ⊤ ∧ (near q.val j → Att.sc x wq k q h j ≠ ⊥) := by
  have e : IsR ((∑ d : Fin 128, qp x wq q (hd h d) * k j (hd h d)) * scale) :=
    (IsR.sum fun d => (IsR.sum fun t => (f.x q t).mul (f.wq t _)).mul (f.k j _)).mul scale_real
  unfold Att.sc
  split
  · exact ⟨e.ne_top, fun _ => e.ne_bot⟩
  · next h0 => exact ⟨bot_ne_top, fun h1 => absurd h1 h0⟩

/-- A window that has all keys of a row. -/
theorem num_window (q : Fin 2048) (h : Fin 8) (d : Fin 128) (w N : ℕ) (hN : w + N ≤ 8192) (hw : ∀ j, near q.val j → j < 8192 → w ≤ j ∧ j < w + N) :
    num x wq k v q h d 0 8192 = num x wq k v q h d w N := by
  unfold num A
  simp only [Nat.zero_add]
  refine window (fun j => Ideal.exp (sc x wq k q h j) * v j (hd h d)) 8192 w N hN fun j hj hj' => ?_
  have e : sc x wq k q h j = ⊥ := if_neg fun hn => by have := hw j hn hj'; omega
  simp only [e, Ideal.exp_bot, zero_mul]
theorem den_window (q : Fin 2048) (h : Fin 8) (w N : ℕ) (hN : w + N ≤ 8192) (hw : ∀ j, near q.val j → j < 8192 → w ≤ j ∧ j < w + N) :
    den x wq k q h 0 8192 = den x wq k q h w N := by
  unfold den W
  simp only [Nat.zero_add]
  refine window (fun j => Ideal.exp (sc x wq k q h j)) 8192 w N hN fun j hj hj' => ?_
  have e : sc x wq k q h j = ⊥ := if_neg fun hn => by have := hw j hn hj'; omega
  simp only [e, Ideal.exp_bot]

theorem ctx_window (q : Fin 2048) (h : Fin 8) (d : Fin 128) (w N : ℕ) (hN : w + N ≤ 8192) (hw : ∀ j, near q.val j → j < 8192 → w ≤ j ∧ j < w + N) :
    ctx x wq k v q (hd h d) = Ideal.div (num x wq k v q h d w N) (den x wq k q h w N) := by
  unfold ctx
  rw [hOf_hd, dOf_hd, num_window v q h d w N hN hw, den_window q h w N hN hw]

/-- Two windows side by side. -/
theorem ctx_two (q : Fin 2048) (h : Fin 8) (d : Fin 128) (w N N' : ℕ) (hN : w + (N + N') ≤ 8192)
    (hw : ∀ j, near q.val j → j < 8192 → w ≤ j ∧ j < w + (N + N')) :
    ctx x wq k v q (hd h d) = Ideal.div (num x wq k v q h d w N + num x wq k v q h d (w + N) N') (den x wq k q h w N + den x wq k q h (w + N) N') := by
  rw [ctx_window v q h d w (N + N') hN hw]
  congr 1
  · exact window2 (fun j => Ideal.exp (sc x wq k q h j) * v j (hd h d)) w N N'
  · exact window2 (fun j => Ideal.exp (sc x wq k q h j)) w N N'

end

end Cert.Att
-- ==== Proof.V.Kern.lean ====
/-
  The kernel's blocks over the extended reals, read at an index: masks, scores, their row maxima, weights, sums and means.
-/
module

public import proofs.«01_k».proof.Proof.KI.Whole
public import proofs.«01_k».proof.Proof.V.Att
public import Idealize.ShloMosaic.Lib.MatmulPlain
public import Idealize.ShloMosaic.Lib.Pipeline.Value

@[expose] public section

noncomputable section

namespace Cert.KernelIdeal.Hand

open Cert.KernelIdeal Cert.KernelIdeal.Gen
open Idealize.ShloMosaic Idealize.ShloMosaic.ValueIdx Idealize.ShloMosaic.TcCoe
open Cert.Soft Cert.Att

/-- Its products are plain ones. -/
structure Plain {R N : ℕ} (z : Sz R N) : Prop where
  dS : z.dS = DotDims.transposedRhs R 128 N
  dO : z.dO = DotDims.plain R N 128
theorem plain3 : Plain z3 := ⟨rfl, rfl⟩
theorem plain5 : Plain z5 := ⟨rfl, rfl⟩
theorem plain1 : Plain z1 := ⟨rfl, rfl⟩

theorem zero_word : Ideal.ofBits .f32 0x00000000#32 = 0 := by simp [Ideal.ofBits, Ideal.ieee]
theorem bot_word : Ideal.ofBits .f32 0xFF800000#32 = ⊥ := by simp [Ideal.ofBits, Ideal.ieee]

/-- A unit axis in front is dropped. -/
theorem drop_at {a b : ℕ} {α : Type} (v : (Sh3 1 a b).Idx → α) (h : (Sh3 1 a b).ShapeCasts (Sh2 a b)) (i : Fin a) (j : Fin b) :
    shapeCast (Sh2 a b) v h (ix2 i j) = v (ix3 0 i j) := by
  refine (shapeCast_dropUnit_apply ![a, b] v h (ix2 i j)).trans (congrArg v ?_)
  funext c
  match c with
  | ⟨0, _⟩ => rfl
  | ⟨1, _⟩ => rfl
  | ⟨2, _⟩ => rfl

/-- A column as a one-column matrix. -/
theorem col_at {a : ℕ} {α : Type} (v : (Sh1 a).Idx → α) (h : (Sh1 a).ShapeCasts (Sh2 a 1)) (i : Fin a) (u : Fin 1) :
    shapeCast (Sh2 a 1) v h (ix2 i u) = v (ix1 i) := by
  refine shapeCast_apply v h (ix2 i u) (ix1 i) ?_
  rw [Shape.rowMajor_val_one, Shape.rowMajor_val_two]
  show i.val = i.val * 1 + u.val
  omega

/-- A one-column matrix, spread over the columns. -/
theorem spread_at {a b : ℕ} {α : Type} (v : (Sh2 a 1).Idx → α) (h : (Sh2 a 1).Broadcasts (Sh2 a b)) (i : Fin a) (j : Fin b) :
    broadcastTo (Sh2 a b) v h (ix2 i j) = v (ix2 i 0) := by
  refine broadcastTo_apply v h (ix2 i j) (ix2 i 0) fun c => ?_
  match c with
  | ⟨0, _⟩ =>
    show i.val = if a = 1 then 0 else i.val
    split <;> omega
  | ⟨1, _⟩ => rfl

theorem lift_at {a b : ℕ} (h : (Sh2 a b).Reduces [1] (Sh1 a)) (i : Fin a) (k : Fin b) : h.lift (ix1 i) k = ix2 i k := by
  funext c
  match c with
  | ⟨0, _⟩ => exact Fin.ext rfl
  | ⟨1, _⟩ => exact Fin.ext rfl

section
variable {R N : ℕ} (z : Sz R N)

theorem mask_at (q0 k0 : ℕ) (hq : q0 + R ≤ 16384) (hk : k0 + N ≤ 16384) (r : Fin R) (i : Fin N) :
    maskG z (BitVec.ofNat 32 q0) (BitVec.ofNat 32 k0) (ix2 r i) = BitVec.ofBool (decide (near (q0 + r.val) (k0 + i.val))) := by
  have e0 := iota_single_apply .tc (Sh2 R N) 32 0 z.io0 (ix2 r i)
  have e1 := iota_single_apply .tc (Sh2 R N) 32 1 z.io1 (ix2 r i)
  show IntOp.cmpi .sle (IntOp.absi ((BitVec.ofNat 32 q0 + iota .tc (Sh2 R N) 32 [0] z.io0 (ix2 r i))
    - (BitVec.ofNat 32 k0 + iota .tc (Sh2 R N) 32 [1] z.io1 (ix2 r i)))) 128#32 = _
  rw [e0, e1]
  show IntOp.cmpi .sle (IntOp.absi ((BitVec.ofNat 32 q0 + BitVec.ofNat 32 r.val) - (BitVec.ofNat 32 k0 + BitVec.ofNat 32 i.val))) 128#32 = _
  rw [← BitVec.ofNat_add, ← BitVec.ofNat_add, near_bit (by omega) (by omega)]

theorem select_bool {α : Type} (p : Prop) [Decidable p] (a b : α) : Scalar.select (BitVec.ofBool (decide p)) a b = if p then a else b := by
  by_cases h : p
  · rw [if_pos h, decide_eq_true h]; rfl
  · rw [if_neg h, decide_eq_false h]; rfl

variable (p : Plain z)
include p

theorem score_at (q0 k0 : ℕ) (hq : q0 + R ≤ 16384) (hk : k0 + N ≤ 16384) (q : FVec Ideal (Sh2 R 1024) .f32) (h : Fin 8)
    (kh : Vec Ideal (Sh3 1 N 128) .f32) (r : Fin R) (i : Fin N) :
    scoreG z (maskG z (BitVec.ofNat 32 q0) (BitVec.ofNat 32 k0)) q h kh (ix2 r i)
      = if near (q0 + r.val) (k0 + i.val) then (∑ d : Fin 128, q (ix2 r (hd h d)) * kh (ix3 0 i d)) * scale else (⊥ : EReal) := by
  show Scalar.select (maskG z (BitVec.ofNat 32 q0) (BitVec.ofNat 32 k0) (ix2 r i))
    (FloatOps.matmul z.dS none (extractStridedSlice (Sh2 R 128) ![0, 128 * h.val] q (z.sl h)) (shapeCast (Sh2 N 128) kh z.key)
      (constant (F := Ideal) (Sh2 R N) .f32 0x00000000#32) (ix2 r i) * scale) (⊥ : EReal) = _
  rw [mask_at z q0 k0 hq hk, select_bool, p.dS]
  congr 2
  refine (Ideal.matmul_transposedRhs_apply none _ _ _ r i).trans ?_
  show Ideal.ofBits .f32 0x00000000#32 + _ = _
  rw [zero_word, zero_add]
  refine Finset.sum_congr rfl fun d _ => ?_
  congr 1
  · refine extractStridedSlice_apply _ q (z.sl h) (ix2 r d) (ix2 r (hd h d)) fun c => ?_
    match c with
    | ⟨0, _⟩ => exact (Nat.zero_add _).symm
    | ⟨1, _⟩ => rfl
  · exact drop_at kh z.key i d

variable (s : FVec Ideal (Sh2 R N) .f32)

omit p in
theorem max_at (r : Fin R) (u : Fin 1) : maxG z s (ix2 r u) = Finset.univ.fold max (⊥ : EReal) fun i : Fin N => s (ix2 r i) := by
  unfold maxG
  rw [col_at]
  refine (Ideal.multiReduction_maximumf_single s 0xFF800000#32 z.red (.inl rfl) rfl (ix1 r)).trans ?_
  show Finset.univ.fold max (Ideal.ofBits .f32 0xFF800000#32) _ = _
  rw [bot_word]
  exact congrArg (Finset.univ.fold max (⊥ : EReal)) (funext fun k => congrArg s (lift_at z.red r k))

omit p in
theorem exp_at (r : Fin R) (i : Fin N) :
    expG z s (ix2 r i) = Ideal.exp (s (ix2 r i) - Finset.univ.fold max (⊥ : EReal) fun i : Fin N => s (ix2 r i)) := by
  show Ideal.exp (s (ix2 r i) - broadcastTo (Sh2 R N) (maxG z s) z.bc (ix2 r i)) = _
  rw [spread_at, max_at]

omit p in
theorem sum_at (r : Fin R) (u : Fin 1) : sumG z s (ix2 r u) = ∑ i : Fin N, expG z s (ix2 r i) := by
  unfold sumG
  rw [col_at]
  refine (Ideal.multiReduction_add_single (expG z s) 0x00000000#32 z.red (.inl rfl) rfl (ix1 r)).trans ?_
  exact Finset.sum_congr rfl fun k _ => congrArg (expG z s) (lift_at z.red r k)

theorem acc_at (vh : Vec Ideal (Sh3 1 N 128) .f32) (r : Fin R) (d : Fin 128) :
    accG z s vh (ix2 r d) = ∑ i : Fin N, expG z s (ix2 r i) * vh (ix3 0 i d) := by
  show FloatOps.matmul z.dO none (expG z s) (shapeCast (Sh2 N 128) vh z.key) (constant (F := Ideal) (Sh2 R 128) .f32 0x00000000#32) (ix2 r d) = _
  rw [p.dO]
  refine (Ideal.matmul_plain_apply none _ _ _ r d).trans ?_
  show Ideal.ofBits .f32 0x00000000#32 + _ = _
  rw [zero_word, zero_add]
  exact Finset.sum_congr rfl fun i _ => congrArg (_ * ·) (drop_at vh z.key i d)

end

/-- A row of one head whose scores are numbers or −∞, not all −∞. -/
theorem head_row {R N : ℕ} (z : Sz R N) (p : Plain z) (s : FVec Ideal (Sh2 R N) .f32) (vh : Vec Ideal (Sh3 1 N 128) .f32) (r : Fin R)
    (d : Fin 128) (u : Fin 1) (hs : ∀ i : Fin N, s (ix2 r i) ≠ (⊤ : EReal)) (h1 : ∃ i : Fin N, s (ix2 r i) ≠ (⊥ : EReal)) :
    Ideal.div (accG z s vh (ix2 r d)) (sumG z s (ix2 r u))
      = Ideal.div (A (fun i : Fin N => s (ix2 r i)) fun i => vh (ix3 0 i d)) (W fun i : Fin N => s (ix2 r i)) := by
  obtain ⟨M, hM⟩ := max_real (fun i : Fin N => s (ix2 r i)) hs h1
  rw [acc_at z p, sum_at]
  simp only [exp_at, hM]
  exact Soft.head _ _ hs h1 M

theorem head_at {N : ℕ} (z : Sz 256 N) (p : Plain z) (s : FVec Ideal (Sh2 256 N) .f32) (vh : Vec Ideal (Sh3 1 N 128) .f32) (r : Fin 256)
    (d : Fin 128) (hs : ∀ i : Fin N, s (ix2 r i) ≠ (⊤ : EReal)) (h1 : ∃ i : Fin N, s (ix2 r i) ≠ (⊥ : EReal)) :
    headG z s vh (ix2 r d) = Ideal.div (A (fun i : Fin N => s (ix2 r i)) fun i => vh (ix3 0 i d)) (W fun i : Fin N => s (ix2 r i)) := by
  refine Eq.trans ?_ (head_row z p s vh r d 0 hs h1)
  show Ideal.div (accG z s vh (ix2 r d)) (broadcastTo S256x128 (sumG z s) broadcasts_S256x1_S256x128 (ix2 r d)) = _
  exact congrArg _ (spread_at (a := 256) (b := 128) (sumG z s) broadcasts_S256x1_S256x128 r d)

/-- Rows from `o` of a block. -/
theorem rows_at {a b c : ℕ} {α : Type} (o : ℕ) (v : (Sh2 a b).Idx → α) (h : (Sh2 a b).Slices ![o, 0] (Sh2 c b)) (r : Fin c) (r' : Fin a)
    (j : Fin b) (e : r'.val = o + r.val) : extractStridedSlice (Sh2 c b) ![o, 0] v h (ix2 r j) = v (ix2 r' j) := by
  refine extractStridedSlice_apply _ v h (ix2 r j) (ix2 r' j) fun t => ?_
  match t with
  | ⟨0, _⟩ => exact e
  | ⟨1, _⟩ => exact (Nat.zero_add _).symm

/-- The last block's upper half. -/
theorem merge_top (s : FVec Ideal S256x384 .f32) (vh : Vec Ideal S1x384x128 .f32) (m2 l2 : FVec Ideal S128x1 .f32) (a2 : FVec Ideal S128x128 .f32)
    (r : Fin 256) (hr : r.val < 128) (d : Fin 128) (hs : ∀ i : Fin 384, s (ix2 r i) ≠ (⊤ : EReal)) (h1 : ∃ i : Fin 384, s (ix2 r i) ≠ (⊥ : EReal)) :
    mergeG s vh m2 l2 a2 (ix2 r d) = Ideal.div (A (fun i : Fin 384 => s (ix2 r i)) fun i => vh (ix3 0 i d)) (W fun i : Fin 384 => s (ix2 r i)) := by
  refine Eq.trans ?_ (head_row z3 plain3 s vh r d 0 hs h1)
  unfold mergeG
  refine (concatenate_pair_apply_left (t := S256x128) (s₁ := S128x128) (s₂ := S128x128) 0 _ _ _ (ix2 r d) rfl (ix2 (⟨r.val, hr⟩ : Fin 128) d) fun b => ?_).trans ?_
  · match b with
    | ⟨0, _⟩ => rfl
    | ⟨1, _⟩ => rfl
  · show Ideal.div (extractStridedSlice S128x128 ![0, 0] (accG z3 s vh) slices_S256x128_o0_0_S128x128 (ix2 (⟨r.val, hr⟩ : Fin 128) d))
      (broadcastTo S128x128 (extractStridedSlice S128x1 ![0, 0] (sumG z3 s) slices_S256x1_o0_0_S128x1) broadcasts_S128x1_S128x128 (ix2 (⟨r.val, hr⟩ : Fin 128) d)) = _
    rw [spread_at (a := 128) (b := 128)]
    rw [rows_at (a := 256) (b := 128) (c := 128) 0 (accG z3 s vh) _ _ r d (Nat.zero_add _).symm]
    rw [rows_at (a := 256) (b := 1) (c := 128) 0 (sumG z3 s) _ _ r 0 (Nat.zero_add _).symm]

/-- Two parts put together, at an index. -/
theorem low_at (m1 m2 l1 l2 : FVec Ideal S128x1 .f32) (a1 a2 : FVec Ideal S128x128 .f32) (r d : Fin 128) :
    divf (addf (mulf a1 (broadcastTo S128x128 (exp (subf m1 (maximumf m1 m2))) broadcasts_S128x1_S128x128))
        (mulf a2 (broadcastTo S128x128 (exp (subf m2 (maximumf m1 m2))) broadcasts_S128x1_S128x128)))
      (broadcastTo S128x128 (addf (mulf l1 (exp (subf m1 (maximumf m1 m2)))) (mulf l2 (exp (subf m2 (maximumf m1 m2))))) broadcasts_S128x1_S128x128)
      (ix2 r d)
      = Ideal.div (a1 (ix2 r d) * Ideal.exp (m1 (ix2 r 0) - max (m1 (ix2 r 0)) (m2 (ix2 r 0)))
          + a2 (ix2 r d) * Ideal.exp (m2 (ix2 r 0) - max (m1 (ix2 r 0)) (m2 (ix2 r 0))))
        (l1 (ix2 r 0) * Ideal.exp (m1 (ix2 r 0) - max (m1 (ix2 r 0)) (m2 (ix2 r 0)))
          + l2 (ix2 r 0) * Ideal.exp (m2 (ix2 r 0) - max (m1 (ix2 r 0)) (m2 (ix2 r 0)))) := by
  have e (v : FVec Ideal S128x1 .f32) : broadcastTo S128x128 v broadcasts_S128x1_S128x128 (ix2 r d) = v (ix2 r 0) :=
    spread_at (a := 128) (b := 128) v broadcasts_S128x1_S128x128 r d
  show Ideal.div (a1 (ix2 r d) * broadcastTo S128x128 _ broadcasts_S128x1_S128x128 (ix2 r d)
    + a2 (ix2 r d) * broadcastTo S128x128 _ broadcasts_S128x1_S128x128 (ix2 r d)) (broadcastTo S128x128 _ broadcasts_S128x1_S128x128 (ix2 r d)) = _
  rw [e, e, e]
  rfl

/-- The last block's lower half. -/
theorem merge_low (s : FVec Ideal S256x384 .f32) (vh : Vec Ideal S1x384x128 .f32) (s2 : FVec Ideal (Sh2 128 128) .f32) (v2 : Vec Ideal (Sh3 1 128 128) .f32)
    (m2 l2 : FVec Ideal S128x1 .f32) (a2 : FVec Ideal S128x128 .f32) (r : Fin 256) (r' : Fin 128) (hr : r.val = 128 + r'.val) (d : Fin 128)
    (hm : m2 (ix2 r' 0) = maxG z1 s2 (ix2 r' 0)) (hl : l2 (ix2 r' 0) = sumG z1 s2 (ix2 r' 0)) (ha : a2 (ix2 r' d) = accG z1 s2 v2 (ix2 r' d))
    (hs : ∀ i : Fin 384, s (ix2 r i) ≠ (⊤ : EReal)) (h1 : ∃ i : Fin 384, s (ix2 r i) ≠ (⊥ : EReal))
    (hs' : ∀ i : Fin 128, s2 (ix2 r' i) ≠ (⊤ : EReal)) (h1' : ∃ i : Fin 128, s2 (ix2 r' i) ≠ (⊥ : EReal)) :
    mergeG s vh m2 l2 a2 (ix2 r d)
      = Ideal.div (A (fun i : Fin 384 => s (ix2 r i)) (fun i => vh (ix3 0 i d)) + A (fun i : Fin 128 => s2 (ix2 r' i)) fun i => v2 (ix3 0 i d))
          (W (fun i : Fin 384 => s (ix2 r i)) + W fun i : Fin 128 => s2 (ix2 r' i)) := by
  obtain ⟨M, hM⟩ := max_real (fun i : Fin 384 => s (ix2 r i)) hs h1
  obtain ⟨M', hM'⟩ := max_real (fun i : Fin 128 => s2 (ix2 r' i)) hs' h1'
  rw [← Soft.merge _ _ _ _ hs hs' h1 M M']
  unfold mergeG
  refine (concatenate_pair_apply_right (t := S256x128) (s₁ := S128x128) (s₂ := S128x128) 0 _ _ _ (ix2 r d) rfl rfl (ix2 r' d) ?_ ?_).trans ?_
  · intro b hb
    match b with
    | ⟨0, _⟩ => exact absurd rfl hb
    | ⟨1, _⟩ => rfl
  · show r'.val + 128 = r.val
    omega
  · have E1 : extractStridedSlice S128x1 ![128, 0] (maxG z3 s) slices_S256x1_o128_0_S128x1 (ix2 r' 0) = (M : EReal) :=
      (rows_at (a := 256) (b := 1) (c := 128) 128 (maxG z3 s) _ r' r 0 hr).trans ((max_at z3 s r 0).trans hM)
    have E2 : m2 (ix2 r' 0) = (M' : EReal) := hm.trans ((max_at z1 s2 r' 0).trans hM')
    have L1 : extractStridedSlice S128x1 ![128, 0] (sumG z3 s) slices_S256x1_o128_0_S128x1 (ix2 r' 0) = ∑ i : Fin 384, Ideal.exp (s (ix2 r i) - (M : EReal)) := by
      refine (rows_at (a := 256) (b := 1) (c := 128) 128 (sumG z3 s) _ r' r 0 hr).trans ((sum_at z3 s r 0).trans ?_)
      simp only [exp_at, hM]
    have L2 : l2 (ix2 r' 0) = ∑ i : Fin 128, Ideal.exp (s2 (ix2 r' i) - (M' : EReal)) := by
      refine hl.trans ((sum_at z1 s2 r' 0).trans ?_)
      simp only [exp_at, hM']
    have A1 : extractStridedSlice S128x128 ![128, 0] (accG z3 s vh) slices_S256x128_o128_0_S128x128 (ix2 r' d)
        = ∑ i : Fin 384, Ideal.exp (s (ix2 r i) - (M : EReal)) * vh (ix3 0 i d) := by
      refine (rows_at (a := 256) (b := 128) (c := 128) 128 (accG z3 s vh) _ r' r d hr).trans ((acc_at z3 plain3 s vh r d).trans ?_)
      simp only [exp_at, hM]
    have A2 : a2 (ix2 r' d) = ∑ i : Fin 128, Ideal.exp (s2 (ix2 r' i) - (M' : EReal)) * v2 (ix3 0 i d) := by
      refine ha.trans ((acc_at z1 plain1 s2 v2 r' d).trans ?_)
      simp only [exp_at, hM']
    refine (low_at _ m2 _ l2 _ a2 r' d).trans ?_
    rw [E1, E2, L1, L2, A1, A2]

end Cert.KernelIdeal.Hand
-- ==== Proof.V.Blocks.lean ====
/-
  The kernel's context and output over the extended reals are the attention of the numbers in its arguments.
-/
module

public import proofs.«01_k».proof.Proof.V.Kern
public import proofs.«01_k».proof.Proof.KI.Runs

@[expose] public section

noncomputable section

namespace Cert.KernelIdeal.Hand

open Cert.KernelIdeal Cert.KernelIdeal.Gen
open Idealize.ShloMosaic Idealize.ShloMosaic.ValueIdx Idealize.ShloMosaic.TcCoe
open Cert.Soft Cert.Att

/-- Eight pieces side by side, at column `d` of piece `h`. -/
theorem eight_at {R C T : ℕ} {α : Type} (v : Fin 8 → (Sh2 R C).Idx → α)
    (hc : Shape.Concatenates [Sh2 R C, Sh2 R C, Sh2 R C, Sh2 R C, Sh2 R C, Sh2 R C, Sh2 R C, Sh2 R C] (Sh2 R T) 1)
    (r : Fin R) (c : Fin T) (h : Fin 8) (d : Fin C) (e : C * h.val + d.val = c.val) :
    concatenate (Sh2 R T) 1 [⟨Sh2 R C, v 0⟩, ⟨Sh2 R C, v 1⟩, ⟨Sh2 R C, v 2⟩, ⟨Sh2 R C, v 3⟩, ⟨Sh2 R C, v 4⟩, ⟨Sh2 R C, v 5⟩,
      ⟨Sh2 R C, v 6⟩, ⟨Sh2 R C, v 7⟩] hc (ix2 r c) = v h (ix2 r d) := by
  refine concatenate_apply_piece (t := Sh2 R T) 1 ([⟨Sh2 R C, v 0⟩, ⟨Sh2 R C, v 1⟩, ⟨Sh2 R C, v 2⟩, ⟨Sh2 R C, v 3⟩, ⟨Sh2 R C, v 4⟩,
    ⟨Sh2 R C, v 5⟩, ⟨Sh2 R C, v 6⟩, ⟨Sh2 R C, v 7⟩] : List ((s : Shape) × (s.Idx → α))) hc (ix2 r c) h.val h.isLt (Sh2 R C) (v h) ?_ rfl (C * h.val) ?_ (ix2 r d) ?_ e
  · fin_cases h <;> rfl
  · fin_cases h <;> simp <;> ring
  · intro b hb
    match b with
    | ⟨0, _⟩ => rfl
    | ⟨1, _⟩ => exact absurd rfl hb

theorem cat256_at (v : Fin 8 → FVec Ideal S256x128 .f32) (r : Fin 256) (h : Fin 8) (d : Fin 128) :
    cat256 v (ix2 r (hd h d)) = v h (ix2 r d) := by
  unfold cat256
  rw [shapeCast_self]
  exact eight_at (R := 256) (C := 128) (T := 1024) v _ r (hd h d) h d rfl
theorem cat128_at (v : Fin 8 → FVec Ideal S128x128 .f32) (r : Fin 128) (h : Fin 8) (d : Fin 128) :
    cat128 v (ix2 r (hd h d)) = v h (ix2 r d) := by
  unfold cat128
  rw [shapeCast_self]
  exact eight_at (R := 128) (C := 128) (T := 1024) v _ r (hd h d) h d rfl
theorem cat8_at (v : Fin 8 → FVec Ideal S128x1 .f32) (r : Fin 128) (h : Fin 8) : cat8 v (ix2 r h) = v h (ix2 r 0) := by
  unfold cat8
  rw [shapeCast_self]
  refine eight_at (R := 128) (C := 1) (T := 8) v _ r h h 0 ?_
  show 1 * h.val + 0 = h.val
  omega

/-- A product of a block of rows with a 1024×1024 matrix. -/
theorem prod_at {R : ℕ} (a : FVec Ideal (Sh2 R 1024) .f32) (b : FVec Ideal (Sh2 1024 1024) .f32) (r : Fin R) (c : Fin 1024) :
    FloatOps.matmul (DotDims.plain R 1024 1024) none a b (constant (F := Ideal) (Sh2 R 1024) .f32 0x00000000#32) (ix2 r c)
      = ∑ t : Fin 1024, (a (ix2 r t) * b (ix2 t c) : EReal) := by
  refine (Ideal.matmul_plain_apply none _ _ _ r c).trans ?_
  show Ideal.ofBits .f32 0x00000000#32 + _ = _
  rw [zero_word, zero_add]

theorem q256_at (x : Vec Ideal S256x1024 .f32) (w : Vec Ideal S1024x1024 .f32) (r : Fin 256) (c : Fin 1024) :
    q256 x w (ix2 r c) = ∑ t : Fin 1024, (x (ix2 r t) * w (ix2 t c) : EReal) := by
  unfold q256
  rw [shapeCast_self, shapeCast_self]
  exact prod_at (R := 256) x w r c
theorem q128_at (x : Vec Ideal S128x1024 .f32) (w : Vec Ideal S1024x1024 .f32) (r : Fin 128) (c : Fin 1024) :
    q128 x w (ix2 r c) = ∑ t : Fin 1024, (x (ix2 r t) * w (ix2 t c) : EReal) := by
  unfold q128
  rw [shapeCast_self, shapeCast_self]
  exact prod_at (R := 128) x w r c

/-- A device's buffers hold these numbers, its keys being those from `off`. -/
structure Holds (fx : XT Ideal) (fwq : WT Ideal) (fk fv : KvT Ideal) (x : Fin 2048 → Fin 1024 → EReal) (wq : Fin 1024 → Fin 1024 → EReal)
    (k v : ℕ → Fin 1024 → EReal) (off : ℕ) : Prop where
  x : ∀ (q : Fin 2048) (t : Fin 1024), fx (ix2 q t) = x q t
  wq : ∀ t c : Fin 1024, fwq (ix2 t c) = wq t c
  k : ∀ (j : Fin 2048) (c : Fin 1024), fk (ix2 j c) = k (off + j.val) c
  v : ∀ (j : Fin 2048) (c : Fin 1024), fv (ix2 j c) = v (off + j.val) c

section
variable {fx : XT Ideal} {fwq : WT Ideal} {fk fv : KvT Ideal} {x : Fin 2048 → Fin 1024 → EReal} {wq : Fin 1024 → Fin 1024 → EReal}
  {k v : ℕ → Fin 1024 → EReal} {off : ℕ}

theorem wins_at {f : KvT Ideal} {g : ℕ → Fin 1024 → EReal} (hf : ∀ (j : Fin 2048) (c : Fin 1024), f (ix2 j c) = g (off + j.val) c)
    (N w : ℕ) (hN : w + N ≤ 2048) (h : Fin 8) (i : Fin N) (d : Fin 128) : wins N w f h (ix3 0 i d) = g (off + (w + i.val)) (hd h d) := by
  have hw : w + i.val < 2048 := by omega
  rw [← hf ⟨w + i.val, hw⟩ (hd h d)]
  show f _ = f _
  congr 1
  funext a
  match a with
  | ⟨0, _⟩ =>
    refine Fin.ext ?_
    show (w + i.val) % 2048 = w + i.val
    exact Nat.mod_eq_of_lt hw
  | ⟨1, _⟩ =>
    refine Fin.ext ?_
    show (128 * h.val + d.val) % 1024 = 128 * h.val + d.val
    exact Nat.mod_eq_of_lt (hd h d).isLt

variable (H : Holds fx fwq fk fv x wq k v off)
include H

theorem wqv_at (t c : Fin 1024) : wqv fwq (ix2 t c) = wq t c := by
  rw [← H.wq t c]
  exact congrArg fwq (full_emb (a := 1024) (b := 1024) _ (ix2 t c))

theorem rows_read {R : ℕ} (size : Fin 2 → ℕ) (h0 : size 0 = R) (h1 : size 1 = 1024) (n : ℕ)
    (hi : ∀ a : Fin 2, (![n, 0] : Fin 2 → ℕ) a + size a ≤ S2048x1024.size a)
    (y : (Rect.unit (s := S2048x1024) ![n, 0] size hi).shape.Idx) (q : Fin 2048) (t : Fin 1024) (hq : q.val = n + (y 0).val) (ht : t.val = (y 1).val) :
    (Rect.unit (s := S2048x1024) ![n, 0] size hi).emb y = ix2 q t := by
  obtain ⟨e0, e1⟩ := row_emb R size h0 h1 n hi y
  funext a
  match a with
  | ⟨0, _⟩ => exact Fin.ext (e0.trans hq.symm)
  | ⟨1, _⟩ => exact Fin.ext (e1.trans ht.symm)

theorem qblk_at (m : ℕ) (hb : m + 256 ≤ 2048) (r : Fin 256) (c : Fin 1024) :
    q256 (xblk fx m hb) (wqv fwq) (ix2 r c) = qp x wq ⟨m + r.val, by omega⟩ c := by
  rw [q256_at]
  refine Finset.sum_congr rfl fun t _ => ?_
  rw [wqv_at H, ← H.x]
  exact congrArg (fun a : EReal => a * wq t c) (congrArg fx (rows_read H S256x1024.size rfl rfl m (blkR_inb _ hb) (ix2 r t) ⟨m + r.val, by omega⟩ t rfl rfl))

theorem qsl_at (r : Fin 128) (c : Fin 1024) : qSl fx fwq (ix2 r c) = qp x wq ⟨1920 + r.val, by omega⟩ c := by
  unfold qSl
  rw [q128_at]
  refine Finset.sum_congr rfl fun t _ => ?_
  rw [wqv_at H, ← H.x]
  exact congrArg (fun a : EReal => a * wq t c) (congrArg fx (rows_read H S128x1024.size rfl rfl 1920 (rowR_inb _ (by decide)) (ix2 r t) ⟨1920 + r.val, by omega⟩ t rfl rfl))

omit H in
/-- A block's scores. -/
theorem sc_at {R N : ℕ} (z : Sz R N) (p : Plain z) (q0 k0 : ℕ) (hq : q0 + R ≤ 2048) (hk : k0 + N ≤ 8192) (Q : FVec Ideal (Sh2 R 1024) .f32)
    (h : Fin 8) (kh : Vec Ideal (Sh3 1 N 128) .f32) (hQ : ∀ (r : Fin R) (c : Fin 1024), Q (ix2 r c) = qp x wq ⟨q0 + r.val, by omega⟩ c)
    (hkh : ∀ (i : Fin N) (d : Fin 128), kh (ix3 0 i d) = k (k0 + i.val) (hd h d)) (r : Fin R) (i : Fin N) :
    scoreG z (maskG z (BitVec.ofNat 32 q0) (BitVec.ofNat 32 k0)) Q h kh (ix2 r i) = sc x wq k ⟨q0 + r.val, by omega⟩ h (k0 + i.val) := by
  rw [score_at z p q0 k0 (by omega) (by omega)]
  unfold sc
  simp only [hQ, hkh]

/-- A block that has all its keys. -/
theorem block_at {N : ℕ} (z : Sz 256 N) (p : Plain z) (fine : Fine x wq k) (off0 : off = 0) (m w : ℕ) (hb : m + 256 ≤ 2048) (hN : w + N ≤ 2048)
    (h1 : w = 0 ∨ w + 128 ≤ m) (h2 : m + 384 ≤ w + N) (r : Fin 256) (c : Fin 1024) :
    cat256 (fun h => headG z (scoreG z (maskG z (BitVec.ofNat 32 m) (BitVec.ofNat 32 w)) (q256 (xblk fx m hb) (wqv fwq)) h (wins N w fk h))
      (wins N w fv h)) (ix2 r c) = ctx x wq k v ⟨m + r.val, by omega⟩ c := by
  subst off0
  rw [← hd_of c, cat256_at]
  have hk : ∀ (i : Fin N) (d : Fin 128), wins N w fk (hOf c) (ix3 0 i d) = k (w + i.val) (hd (hOf c) d) := fun i d => by
    rw [wins_at H.k N w hN, Nat.zero_add]
  have hv : ∀ (i : Fin N) (d : Fin 128), wins N w fv (hOf c) (ix3 0 i d) = v (w + i.val) (hd (hOf c) d) := fun i d => by
    rw [wins_at H.v N w hN, Nat.zero_add]
  have hs := sc_at z p m w hb (by omega) (q256 (xblk fx m hb) (wqv fwq)) (hOf c) (wins N w fk (hOf c)) (qblk_at H m hb) hk r
  rw [head_at z p, ctx_window v _ _ _ w N (by omega)]
  · simp only [hs, hv]
    rfl
  · intro j hj _
    simp only [near] at hj
    omega
  · intro i
    rw [hs]
    exact (fine.sc _ _ _).1
  · refine ⟨⟨m + r.val - w, by omega⟩, ?_⟩
    rw [hs]
    refine (fine.sc _ _ _).2 ?_
    simp only [near]
    omega

end

end Cert.KernelIdeal.Hand
-- ==== Proof.V.Ctx.lean ====
/-
  All of the kernel's context and all of its output, over the extended reals.
-/
module

public import proofs.«01_k».proof.Proof.V.Blocks

@[expose] public section

noncomputable section

namespace Cert.KernelIdeal.Hand

open Cert.KernelIdeal Cert.KernelIdeal.Gen
open Idealize.ShloMosaic Idealize.ShloMosaic.ValueIdx Idealize.ShloMosaic.TcCoe
open Cert.Soft Cert.Att

section
variable {fx fx1 : XT Ideal} {fwq fwq1 : WT Ideal} {fk fv fk1 fv1 : KvT Ideal} {x : Fin 2048 → Fin 1024 → EReal}
  {wq : Fin 1024 → Fin 1024 → EReal} {k v : ℕ → Fin 1024 → EReal}
  (H : Holds fx fwq fk fv x wq k v 0) (H1 : Holds fx1 fwq1 fk1 fv1 x wq k v 2048) (fine : Fine x wq k)

include H1 in
/-- The sliver's scores are those of the last 128 rows and the keys from 2048. -/
theorem ssl_at (h : Fin 8) (r i : Fin 128) :
    sSl fx1 fwq1 (wins 128 0 fk1) h (ix2 r i) = sc x wq k ⟨1920 + r.val, by omega⟩ h (2048 + i.val) := by
  refine sc_at z1 plain1 1920 2048 (by decide) (by decide) (qSl fx1 fwq1) h (wins 128 0 fk1 h) (qsl_at H1) (fun i d => ?_) r i
  rw [wins_at H1.k 128 0 (by decide), Nat.zero_add]

theorem colM_at (f : SmT Ideal) (r : Fin 128) (h : Fin 8) : mSm.view.readAt (Elt Ideal) (colM h).toLoadRect f (ix2 r 0) = f (ix2 r h) := by
  show f ((colM h).emb (ix2 r 0)) = f (ix2 r h)
  congr 1
  funext a
  match a with
  | ⟨0, _⟩ =>
    refine Fin.ext ?_
    show 0 + 1 * r.val = r.val
    omega
  | ⟨1, _⟩ =>
    refine Fin.ext ?_
    show h.val + 1 * 0 = h.val
    omega
theorem colL_at (f : SlT Ideal) (r : Fin 128) (h : Fin 8) : mSl.view.readAt (Elt Ideal) (colM h).toLoadRect f (ix2 r 0) = f (ix2 r h) :=
  colM_at f r h
theorem colC_at (f : ScT Ideal) (r : Fin 128) (h : Fin 8) (d : Fin 128) :
    mSc.view.readAt (Elt Ideal) (colC h).toLoadRect f (ix2 r d) = f (ix2 r (hd h d)) := by
  show f ((colC h).emb (ix2 r d)) = f (ix2 r (hd h d))
  congr 1
  funext a
  match a with
  | ⟨0, _⟩ =>
    refine Fin.ext ?_
    show 0 + 1 * r.val = r.val
    omega
  | ⟨1, _⟩ =>
    refine Fin.ext ?_
    show 128 * h.val + 1 * d.val = 128 * h.val + d.val
    omega

include H H1 fine

/-- The last block: its upper rows have all their keys here, its lower rows take the sliver's share. -/
theorem last_at (r : Fin 256) (c : Fin 1024) :
    blk7 fx fwq (SCv fx1 fwq1 fk1 fv1) (SMv fx1 fwq1 fk1) (SLv fx1 fwq1 fk1) (wins 384 1664 fk) (wins 384 1664 fv) (ix2 r c)
      = ctx x wq k v ⟨1792 + r.val, by omega⟩ c := by
  unfold blk7
  rw [← hd_of c, cat256_at]
  generalize hh : hOf c = h
  generalize hdd : dOf c = d
  have hk : ∀ (i : Fin 384) (d : Fin 128), wins 384 1664 fk h (ix3 0 i d) = k (1664 + i.val) (hd h d) := fun i d => by
    rw [wins_at H.k 384 1664 (by decide), Nat.zero_add]
  have hv : ∀ (i : Fin 384) (d : Fin 128), wins 384 1664 fv h (ix3 0 i d) = v (1664 + i.val) (hd h d) := fun i d => by
    rw [wins_at H.v 384 1664 (by decide), Nat.zero_add]
  have hs := sc_at z3 plain3 1792 1664 (by decide) (by decide) (q256 (xblk fx 1792 (by decide)) (wqv fwq)) h (wins 384 1664 fk h)
    (qblk_at H 1792 (by decide)) hk r
  have hs0 : ∀ i : Fin 384, scoreG z3 (maskG z3 1792#32 1664#32) (q256 (xblk fx 1792 (by decide)) (wqv fwq)) h (wins 384 1664 fk h) (ix2 r i) ≠ (⊤ : EReal) :=
    fun i => by
      rw [hs]
      exact (fine.sc _ _ _).1
  have hs1 : ∃ i : Fin 384, scoreG z3 (maskG z3 1792#32 1664#32) (q256 (xblk fx 1792 (by decide)) (wqv fwq)) h (wins 384 1664 fk h) (ix2 r i) ≠ (⊥ : EReal) := by
    refine ⟨⟨128 + r.val, by omega⟩, ?_⟩
    rw [hs]
    refine (fine.sc _ _ _).2 ?_
    simp only [near]
    omega
  by_cases hr : r.val < 128
  · rw [merge_top _ _ _ _ _ r hr d hs0 hs1, ctx_window v _ _ _ 1664 384 (by decide)]
    · simp only [hs, hv]
      rfl
    · intro j hj _
      simp only [near] at hj
      omega
  · obtain ⟨r', hr'⟩ : ∃ r' : Fin 128, r.val = 128 + r'.val := ⟨⟨r.val - 128, by omega⟩, by simp only []; omega⟩
    have eq : (⟨1920 + r'.val, by omega⟩ : Fin 2048) = ⟨1792 + r.val, by omega⟩ := Fin.ext (by simp only []; omega)
    have hs2 := fun i => (ssl_at H1 h r' i).trans (by rw [eq])
    rw [merge_low _ _ (sSl fx1 fwq1 (wins 128 0 fk1) h) (wins 128 0 fv1 h) _ _ _ r r' hr' d ?_ ?_ ?_ hs0 hs1 ?_ ?_,
      ctx_two v _ _ _ 1664 384 128 (by decide)]
    · have hv2 : ∀ i : Fin 128, wins 128 0 fv1 h (ix3 0 i d) = v (1664 + 384 + i.val) (hd h d) := fun i => by
        rw [wins_at H1.v 128 0 (by decide), Nat.zero_add]
      simp only [hs, hv, hs2, hv2]
      rfl
    · intro j hj _
      simp only [near] at hj
      omega
    · refine (colM_at _ r' h).trans ?_
      exact cat8_at (fun h => maxG z1 (sSl fx1 fwq1 (wins 128 0 fk1) h)) r' h
    · refine (colL_at _ r' h).trans ?_
      exact cat8_at (fun h => sumG z1 (sSl fx1 fwq1 (wins 128 0 fk1) h)) r' h
    · refine (colC_at _ r' h d).trans ?_
      exact cat128_at (fun h => accG z1 (sSl fx1 fwq1 (wins 128 0 fk1) h) (wins 128 0 fv1 h)) r' h d
    · intro i
      rw [hs2]
      exact (fine.sc _ _ _).1
    · refine ⟨0, ?_⟩
      rw [hs2]
      refine (fine.sc _ _ _).2 ?_
      simp only [near]
      show 1792 + r.val ≤ 2048 + 0 + 128 ∧ 2048 + 0 ≤ 1792 + r.val + 128
      omega

/-- Every block of context rows. -/
theorem ctBlk_at (b : ℕ) (hb : 256 * b + 256 ≤ 2048) (r : Fin 256) (c : Fin 1024) :
    ctBlk fx fwq fk fv (SCv fx1 fwq1 fk1 fv1) (SMv fx1 fwq1 fk1) (SLv fx1 fwq1 fk1) b (ix2 r c) = ctx x wq k v ⟨256 * b + r.val, by omega⟩ c := by
  unfold ctBlk
  by_cases h0 : b = 0
  · subst h0
    exact block_at H z3 plain3 fine rfl 0 0 (by decide) (by decide) (Or.inl rfl) (by decide) r c
  · rw [if_neg h0]
    by_cases h7 : b = 7
    · subst h7
      exact last_at H H1 fine r c
    · have hm : 256 * b ∈ [256, 512, 768, 1024, 1280, 1536] := by
        simp only [List.mem_cons, List.not_mem_nil, or_false]
        omega
      rw [dif_pos hm]
      exact block_at H z5 plain5 fine rfl (256 * b) (256 * b - 128) hb (by omega) (Or.inr (by omega)) (by omega) r c

theorem ctv_at (q : Fin 2048) (c : Fin 1024) :
    CTv fx fwq fk fv (SCv fx1 fwq1 fk1 fv1) (SMv fx1 fwq1 fk1) (SLv fx1 fwq1 fk1) (ix2 q c) = ctx x wq k v q c := by
  have hq := q.isLt
  refine (tile_at 256 (by decide) _ (ix2 q c) (q.val / 256) (ix2 (⟨q.val % 256, by omega⟩ : Fin 256) c) ?_ rfl).trans ?_
  · show q.val = 256 * (q.val / 256) + q.val % 256
    omega
  · rw [ctBlk_at H H1 fine (q.val / 256) (by omega)]
    congr 1
    refine Fin.ext ?_
    show 256 * (q.val / 256) + q.val % 256 = q.val
    omega

omit H H1 fine

/-- The output's rows, from the context and the output weights. -/
theorem pay256_at (a : Vec Ideal S256x1024 .f32) (b : Vec Ideal S1024x1024 .f32) (r : Fin 256) (c : Fin 1024) :
    k0_pay182 a b (ix2 r c) = ∑ t : Fin 1024, (a (ix2 r t) * b (ix2 t c) : EReal) := by
  unfold k0_pay182
  simp only [shapeCast_self]
  exact prod_at (R := 256) a b r c
theorem pay128_at (a : Vec Ideal S128x1024 .f32) (b : Vec Ideal S1024x1024 .f32) (r : Fin 128) (c : Fin 1024) :
    k0_pay237 a b (ix2 r c) = ∑ t : Fin 1024, (a (ix2 r t) * b (ix2 t c) : EReal) := by
  unfold k0_pay237
  simp only [shapeCast_self]
  exact prod_at (R := 128) a b r c

variable {wo : Fin 1024 → Fin 1024 → EReal} {CT : CtxT Ideal} {fwo : WT Ideal}
  (hct : ∀ (q : Fin 2048) (c : Fin 1024), CT (ix2 q c) = ctx x wq k v q c) (hwo : ∀ t c : Fin 1024, fwo (ix2 t c) = wo t c)
include hct hwo

theorem woR_at (t c : Fin 1024) : mWo.view.readAt (Elt Ideal) woR.toLoadRect fwo (ix2 t c) = wo t c := by
  rw [← hwo t c]
  exact congrArg fwo (full_emb (a := 1024) (b := 1024) _ (ix2 t c))

theorem ocw_at (q : Fin 2048) (n : Fin 1024) : OCw CT fwo (ix2 q n) = out x wq wo k v q n := by
  have hq := q.isLt
  have hb : 256 * (q.val / 256) + 256 ≤ 2048 := by omega
  refine (tile_at 256 (by decide) _ (ix2 q n) (q.val / 256) (ix2 (⟨q.val % 256, by omega⟩ : Fin 256) n) ?_ rfl).trans ?_
  · show q.val = 256 * (q.val / 256) + q.val % 256
    omega
  · unfold ocBlk
    rw [dif_pos hb, pay256_at]
    unfold out
    refine Finset.sum_congr rfl fun t _ => ?_
    rw [woR_at hct hwo, ← hct]
    refine congrArg (fun a : EReal => a * wo t n) (congrArg CT ?_)
    obtain ⟨e0, e1⟩ := row_emb 256 S256x1024.size rfl rfl (256 * (q.val / 256)) (blkR_inb _ hb) (ix2 (⟨q.val % 256, by omega⟩ : Fin 256) t)
    funext a
    match a with
    | ⟨0, _⟩ =>
      refine Fin.ext (e0.trans ?_)
      show 256 * (q.val / 256) + q.val % 256 = q.val
      omega
    | ⟨1, _⟩ => exact Fin.ext e1

theorem ocv_at (q : Fin 2048) (n : Fin 1024) : OCv CT fwo (ix2 q n) = out x wq wo k v q n := by
  have hq := q.isLt
  have hb : q.val / 128 < 16 := by omega
  refine (tile_at 128 (by decide) _ (ix2 q n) (q.val / 128) (ix2 (⟨q.val % 128, by omega⟩ : Fin 128) n) ?_ rfl).trans ?_
  · show q.val = 128 * (q.val / 128) + q.val % 128
    omega
  · unfold ocChunk
    rw [dif_pos hb, pay128_at]
    unfold out
    refine Finset.sum_congr rfl fun t _ => ?_
    rw [woR_at hct hwo, ← hct]
    refine congrArg (fun a : EReal => a * wo t n) (congrArg CT ?_)
    obtain ⟨e0, e1⟩ := row_emb 128 S128x1024.size rfl rfl (128 * (q.val / 128)) (rowR_inb _ (chunk_inb ⟨q.val / 128, hb⟩))
      (ix2 (⟨q.val % 128, by omega⟩ : Fin 128) t)
    funext a
    match a with
    | ⟨0, _⟩ =>
      refine Fin.ext (e0.trans ?_)
      show 128 * (q.val / 128) + q.val % 128 = q.val
      omega
    | ⟨1, _⟩ => exact Fin.ext e1

end

/-- What every device ends up with. -/
theorem oca_at (fx : Dev nD → XT Ideal) (fwq fwo : Dev nD → WT Ideal) (fk fv : Dev nD → KvT Ideal) (x : Fin 2048 → Fin 1024 → EReal)
    (wq wo : Fin 1024 → Fin 1024 → EReal) (k v : ℕ → Fin 1024 → EReal) (H : Holds (fx 0) (fwq 0) (fk 0) (fv 0) x wq k v 0)
    (H1 : Holds (fx 1) (fwq 1) (fk 1) (fv 1) x wq k v 2048) (hwo : ∀ (c : Dev nD) (t n : Fin 1024), fwo c (ix2 t n) = wo t n) (fine : Fine x wq k)
    (c : Dev nD) (q : Fin 2048) (n : Fin 1024) : OCa fx fwq fwo fk fv c (ix2 q n) = out x wq wo k v q n := by
  have hct := ctv_at H H1 fine
  unfold OCa
  split
  · exact ocw_at hct (hwo c) q n
  · exact ocv_at hct (hwo c) q n

end Cert.KernelIdeal.Hand
-- ==== Proof.V.RefVal.lean ====
/-
  The reference's result over the extended reals is the attention of the numbers in its arguments.
-/
module

public import proofs.«01_k».proof.Proof.V.Kern
public import proofs.«01_k».proof.Proof.V.Ref

@[expose] public section

noncomputable section

namespace Cert.ReferenceIdeal.Hand

open Cert.ReferenceIdeal Cert.ReferenceIdeal.Gen Cert.ReferenceIdeal.Read
open Idealize.ShloMosaic Idealize.ShloMosaic.ValueIdx
open Cert.Soft Cert.Att
open Cert.KernelIdeal.Hand (zero_word bot_word select_bool)

/-- The numbers of the queries' array, and of the keys' and values'. -/
def xOf (X : (⟨S1x2048x1024, .f32⟩ : BufTy).Contents (Elt Ideal)) (q : Fin 2048) (t : Fin 1024) : EReal := X (ix3 0 q t)
def wOf (W : (⟨S1024x1024, .f32⟩ : BufTy).Contents (Elt Ideal)) (t c : Fin 1024) : EReal := W (ix2 t c)
def kOf (K : (⟨S1x8192x8x128, .f32⟩ : BufTy).Contents (Elt Ideal)) (j : ℕ) (c : Fin 1024) : EReal := K (ix4 0 (Fin.ofNat 8192 j) (hOf c) (dOf c))

theorem kOf_at (K : (⟨S1x8192x8x128, .f32⟩ : BufTy).Contents (Elt Ideal)) (j : Fin 8192) (h : Fin 8) (d : Fin 128) :
    kOf K j (hd h d) = K (ix4 0 j h d) := by
  unfold kOf
  rw [hOf_hd, dOf_hd]
  congr 2
  exact Fin.ext (Nat.mod_eq_of_lt j.isLt)

variable (X : (⟨S1x2048x1024, .f32⟩ : BufTy).Contents (Elt Ideal)) (Wq Wo : (⟨S1024x1024, .f32⟩ : BufTy).Contents (Elt Ideal))
  (K V : (⟨S1x8192x8x128, .f32⟩ : BufTy).Contents (Elt Ideal))

theorem query_at (q : Fin 2048) (h : Fin 8) (d : Fin 128) :
    val_main_v1 (F := Ideal) X Wq (ix4 0 q h d) = qp (xOf X) (wOf Wq) q (hd h d) := by
  rw [val_main_v1_apply, val_main_v0_apply]
  refine Finset.sum_congr rfl fun t _ => ?_
  have hh := h.isLt
  have hdl := d.isLt
  have hq := q.isLt
  have e : (((0 * 2048 + q.val) * 8 + h.val) * 128 + d.val) / 1024 % 2048 = q.val := by omega
  have e' : (((0 * 2048 + q.val) * 8 + h.val) * 128 + d.val) % 1024 = 128 * h.val + d.val := by omega
  unfold xOf wOf
  congr 1
  · refine congrArg X (funext fun a => ?_)
    match a with
    | ⟨0, _⟩ => rfl
    | ⟨1, _⟩ => exact Fin.ext e
    | ⟨2, _⟩ => rfl
  · refine congrArg Wq (funext fun a => ?_)
    match a with
    | ⟨0, _⟩ => rfl
    | ⟨1, _⟩ => exact Fin.ext e'

/-- Where the reference masks. -/
theorem band_at (q : Fin 2048) (j : Fin 8192) : val_main_v11 (F := Ideal) (ix2 q j) = BitVec.ofBool (decide (near q.val j.val)) := by
  rw [val_main_v11_apply, val_main_v9_apply, val_main_v8_apply, val_main_v6_apply, val_main_v7_apply, val_main_v3_apply, val_main_v5_apply,
    val_main_v2_apply, val_main_v4_apply, val_main_v10_apply, val_main_c_apply]
  have hq := q.isLt
  have hj := j.isLt
  exact near_bit (a := q.val) (b := j.val) (by omega) (by omega)

theorem or_true {ι : Type} [DecidableEq ι] (s : Finset ι) (f : ι → BitVec 1) (i : ι) (hi : i ∈ s) (h : f i = 1#1) : s.fold IntOp.ori 0#1 f = 1#1 := by
  rw [← Finset.insert_erase hi, Finset.fold_insert (Finset.notMem_erase i s), h]
  generalize Finset.fold IntOp.ori 0#1 f (s.erase i) = b
  revert b
  decide

/-- Every row has a key in its band. -/
theorem any_at (q : Fin 2048) : val_main_v22 (F := Ideal) (ix1 q) = 1#1 := by
  unfold val_main_v22
  refine (Host.reduce_eq_fold_single IntOp.ori _ _ reducesTo_S2048x8192_S2048_d1 (by decide) h_S_ (ix1 q)).trans ?_
  have hq := q.isLt
  refine or_true _ _ (⟨q.val, by omega⟩ : Fin 8192) (Finset.mem_univ _) ?_
  have e : val_main_v11 (F := Ideal) (ix2 q (⟨q.val, by omega⟩ : Fin 8192)) = 1#1 := by
    rw [band_at, decide_eq_true (by simp only [near]; omega)]
    rfl
  refine Eq.trans (congrArg (val_main_v11 (F := Ideal)) (funext fun a => ?_)) e
  match a with
  | ⟨0, _⟩ => rfl
  | ⟨1, _⟩ => rfl

theorem score_at (h : Fin 8) (q : Fin 2048) (j : Fin 8192) :
    val_main_v16 (F := Ideal) X Wq K (ix4 0 h q j) = sc (xOf X) (wOf Wq) (kOf K) q h j := by
  rw [val_main_v16_apply, val_main_call0_v1_apply, val_main_v15_apply, val_main_v14_apply, val_main_v12_apply, val_main_v13_apply,
    val_main_cst_apply, val_main_call0_v2_apply, val_main_call0_v0_apply, val_main_cst_0_apply]
  have e : val_main_v11 (F := Ideal) (idx_main_v15 (idx_main_call0_v1 (ix4 0 h q j))) = BitVec.ofBool (decide (near q.val j.val)) := by
    refine Eq.trans (congrArg (val_main_v11 (F := Ideal)) (funext fun a => ?_)) (band_at q j)
    match a with
    | ⟨0, _⟩ => rfl
    | ⟨1, _⟩ => rfl
  rw [e, select_bool]
  unfold sc
  have e2 : FloatOps.ofBits (F := Ideal) .f32 0xFF800000#32 = ⊥ := bot_word
  have e3 : ∀ d : Fin 128, val_main_v1 (F := Ideal) X Wq (lidx_main_v12 (ix4 0 h q j) d) * K (ridx_main_v12 (ix4 0 h q j) d)
      = qp (xOf X) (wOf Wq) q (hd h d) * kOf K j (hd h d) := fun d => by
    rw [← query_at, kOf_at]
    refine congrArg₂ (fun a b : EReal => a * b) ?_ ?_
    · refine congrArg _ (funext fun a => ?_)
      match a with
      | ⟨0, _⟩ => rfl
      | ⟨1, _⟩ => rfl
      | ⟨2, _⟩ => rfl
      | ⟨3, _⟩ => rfl
    · refine congrArg _ (funext fun a => ?_)
      match a with
      | ⟨0, _⟩ => rfl
      | ⟨1, _⟩ => rfl
      | ⟨2, _⟩ => rfl
      | ⟨3, _⟩ => rfl
  rw [e2, Finset.sum_congr rfl fun d _ => e3 d]
  rfl

/-- A row's largest score. -/
def top (h : Fin 8) (q : Fin 2048) : EReal := Finset.univ.fold max ⊥ fun j : Fin 8192 => sc (xOf X) (wOf Wq) (kOf K) q h j

theorem max_at (h : Fin 8) (q : Fin 2048) : val_main_v17 (F := Ideal) X Wq K (ix3 0 h q) = top X Wq K h q := by
  unfold val_main_v17
  refine (Host.reduce_eq_fold_single (max : EReal → EReal → EReal) (val_main_v16 (F := Ideal) X Wq K) _ reducesTo_S1x8x2048x8192_S1x8x2048_d3
    (by decide) h_S_ (ix3 0 h q)).trans ?_
  show Finset.univ.fold max (Ideal.ofBits .f32 0xFF800000#32) _ = _
  rw [bot_word]
  refine congrArg (Finset.univ.fold max (⊥ : EReal)) (funext fun j => ?_)
  refine Eq.trans (congrArg (val_main_v16 (F := Ideal) X Wq K) (funext fun a => ?_)) (score_at X Wq K h q j)
  match a with
  | ⟨0, _⟩ => rfl
  | ⟨1, _⟩ => rfl
  | ⟨2, _⟩ => rfl
  | ⟨3, _⟩ => rfl

theorem exp_at (h : Fin 8) (q : Fin 2048) (j : Fin 8192) :
    val_main_v21 (F := Ideal) X Wq K (ix4 0 h q j) = Ideal.exp (sc (xOf X) (wOf Wq) (kOf K) q h j - top X Wq K h q) := by
  rw [val_main_v21_apply, val_main_v20_apply, score_at, val_main_v19_apply, val_main_v18_apply]
  have e : val_main_v17 (F := Ideal) X Wq K (idx_main_v18 (idx_main_v19 (ix4 0 h q j))) = top X Wq K h q := by
    refine Eq.trans (congrArg (val_main_v17 (F := Ideal) X Wq K) (funext fun a => ?_)) (max_at X Wq K h q)
    match a with
    | ⟨0, _⟩ => rfl
    | ⟨1, _⟩ => rfl
    | ⟨2, _⟩ => rfl
  rw [e]
  rfl

theorem sum_at (h : Fin 8) (q : Fin 2048) :
    val_main_v24 (F := Ideal) X Wq K (ix3 0 h q) = ∑ j : Fin 8192, Ideal.exp (sc (xOf X) (wOf Wq) (kOf K) q h j - top X Wq K h q) := by
  rw [val_main_v24_apply, val_main_cst_3_apply]
  have e : FloatOps.ofBits (F := Ideal) .f32 0x00000000#32 = 0 := zero_word
  have e' : ∀ j : Fin 8192, val_main_v21 (F := Ideal) X Wq K (idx_main_v24 (ix3 0 h q) j)
      = Ideal.exp (sc (xOf X) (wOf Wq) (kOf K) q h j - top X Wq K h q) := fun j => by
    refine Eq.trans (congrArg (val_main_v21 (F := Ideal) X Wq K) (funext fun a => ?_)) (exp_at X Wq K h q j)
    match a with
    | ⟨0, _⟩ => rfl
    | ⟨1, _⟩ => rfl
    | ⟨2, _⟩ => rfl
    | ⟨3, _⟩ => rfl
  rw [Finset.sum_congr rfl fun j _ => e' j]
  exact (congrArg (· + _) e).trans (zero_add _)

theorem yes {α : Type} (a b : α) : Scalar.select 1#1 a b = a := rfl

/-- A row's weights. -/
theorem weight_at (h : Fin 8) (q : Fin 2048) (j : Fin 8192) :
    val_main_v30 (F := Ideal) X Wq K (ix4 0 h q j)
      = Ideal.div (Ideal.exp (sc (xOf X) (wOf Wq) (kOf K) q h j - top X Wq K h q))
          (∑ j : Fin 8192, Ideal.exp (sc (xOf X) (wOf Wq) (kOf K) q h j - top X Wq K h q)) := by
  have row : ∀ i : S2048.Idx, (i 0).val = q.val → val_main_v22 (F := Ideal) i = 1#1 := fun i hi => by
    refine Eq.trans (congrArg (val_main_v22 (F := Ideal)) (funext fun a => ?_)) (any_at q)
    match a with
    | ⟨0, _⟩ => exact Fin.ext hi
  rw [val_main_v30_apply, val_main_call2_v1_apply, val_main_v29_apply, row _ rfl, val_main_v28_apply, exp_at, val_main_v27_apply, val_main_v26_apply,
    val_main_call1_v1_apply, val_main_v23_apply, row _ rfl, val_main_v25_apply]
  have e : val_main_v24 (F := Ideal) X Wq K (idx_main_v25 (idx_main_v27 (ix4 0 h q j)))
      = ∑ j : Fin 8192, Ideal.exp (sc (xOf X) (wOf Wq) (kOf K) q h j - top X Wq K h q) := by
    refine Eq.trans (congrArg (val_main_v24 (F := Ideal) X Wq K) (funext fun a => ?_)) (sum_at X Wq K h q)
    match a with
    | ⟨0, _⟩ => rfl
    | ⟨1, _⟩ => rfl
    | ⟨2, _⟩ => rfl
  rw [e, yes, yes]
  exact Ideal.hostDivf_def (φ := .f32) _ _

variable {X Wq K}

theorem ctx_at (fine : Fine (xOf X) (wOf Wq) (kOf K)) (h : Fin 8) (q : Fin 2048) (d : Fin 128) :
    val_main_v31 (F := Ideal) X Wq K V (ix4 0 h d q) = ctx (xOf X) (wOf Wq) (kOf K) (kOf V) q (hd h d) := by
  rw [val_main_v31_apply]
  have e : ∀ j : Fin 8192, V (lidx_main_v31 (ix4 0 h d q) j) * val_main_v30 (F := Ideal) X Wq K (ridx_main_v31 (ix4 0 h d q) j)
      = kOf V j (hd h d) * Ideal.div (Ideal.exp (sc (xOf X) (wOf Wq) (kOf K) q h j - top X Wq K h q))
          (∑ j : Fin 8192, Ideal.exp (sc (xOf X) (wOf Wq) (kOf K) q h j - top X Wq K h q)) := fun j => by
    rw [← weight_at X Wq K h q j, kOf_at]
    refine congrArg₂ (fun a b : EReal => a * b) ?_ ?_
    · refine congrArg _ (funext fun a => ?_)
      match a with
      | ⟨0, _⟩ => rfl
      | ⟨1, _⟩ => rfl
      | ⟨2, _⟩ => rfl
      | ⟨3, _⟩ => rfl
    · refine congrArg _ (funext fun a => ?_)
      match a with
      | ⟨0, _⟩ => rfl
      | ⟨1, _⟩ => rfl
      | ⟨2, _⟩ => rfl
      | ⟨3, _⟩ => rfl
  rw [Finset.sum_congr rfl fun j _ => e j]
  have hs : ∀ j : Fin 8192, sc (xOf X) (wOf Wq) (kOf K) q h j ≠ ⊤ := fun j => (fine.sc q h j).1
  have hq := q.isLt
  have h1 : ∃ j : Fin 8192, sc (xOf X) (wOf Wq) (kOf K) q h j ≠ ⊥ :=
    ⟨⟨q.val, by omega⟩, (fine.sc q h q.val).2 (by simp only [near]; omega)⟩
  obtain ⟨M, hM⟩ := max_real _ hs h1
  have hM' : top X Wq K h q = (M : EReal) := hM
  rw [hM']
  refine (soft (fun j : Fin 8192 => sc (xOf X) (wOf Wq) (kOf K) q h j) (fun j => kOf V j (hd h d)) hs h1 M).trans ?_
  have z := ctx_window (x := xOf X) (wq := wOf Wq) (k := kOf K) (kOf V) q h d 0 8192 (by decide) (fun j _ hj => ⟨Nat.zero_le j, by omega⟩)
  rw [z]
  unfold num den
  simp only [Nat.zero_add]

theorem out_at (fine : Fine (xOf X) (wOf Wq) (kOf K)) (q : Fin 2048) (n : Fin 1024) :
    val_main_v34 (F := Ideal) X Wq K V Wo (ix3 0 q n) = out (xOf X) (wOf Wq) (wOf Wo) (kOf K) (kOf V) q n := by
  rw [val_main_v34_apply]
  unfold out
  refine Finset.sum_congr rfl fun c _ => ?_
  rw [val_main_v33_apply, val_main_v32_apply, ← hd_of c, ← ctx_at V fine]
  have hq := q.isLt
  have hh := (hOf c).isLt
  have hdl := (dOf c).isLt
  have hc := (hd (hOf c) (dOf c)).isLt
  have f0 : (hd (hOf c) (dOf c)).val = 128 * (hOf c).val + (dOf c).val := rfl
  have e1 : ((0 * 2048 + q.val) * 1024 + (hd (hOf c) (dOf c)).val) / 1024 % 2048 = q.val := by omega
  have e2 : ((0 * 2048 + q.val) * 1024 + (hd (hOf c) (dOf c)).val) / 128 % 8 = (hOf c).val := by omega
  have e3 : ((0 * 2048 + q.val) * 1024 + (hd (hOf c) (dOf c)).val) % 128 = (dOf c).val := by omega
  unfold wOf
  refine congrArg₂ (fun a b : EReal => a * b) ?_ ?_
  · refine congrArg _ (funext fun a => ?_)
    match a with
    | ⟨0, _⟩ => rfl
    | ⟨1, _⟩ => exact Fin.ext e2
    | ⟨2, _⟩ => exact Fin.ext e3
    | ⟨3, _⟩ => exact Fin.ext e1
  · refine congrArg _ (funext fun a => ?_)
    match a with
    | ⟨0, _⟩ => rfl
    | ⟨1, _⟩ => rfl

end Cert.ReferenceIdeal.Hand
-- ==== Proof.V.Ends.lean ====
/-
  What the kernel's own buffers hold at the region's start and at its end, in terms of the arguments
  and of the result: the host only relabels the coordinates of arrays before and after the region.
-/
module

public import proofs.«01_k».proof.Proof.V.Ctx
public import proofs.«01_k».proof.Proof.V.RefVal
public import proofs.«01_k».proof.Proof.KI.Launch
public import Idealize.ShloMosaic.Lib.Pipeline.ValueKit.Geometry

@[expose] public section

noncomputable section

namespace Cert.KernelIdeal.Hand

open Cert.KernelIdeal Cert.KernelIdeal.Gen
open Idealize.ShloMosaic Idealize.ShloMosaic.ValueIdx Idealize.ShloMosaic.TcCoe
open Idealize.ShloMosaic.Pipeline
open Cert.Soft Cert.Att

variable (m : (ℓ : Loc nD τ sig) → Buf (Elt Ideal) ℓ) (c : Dev nD)

/-- The first reshaped argument at the region's start. -/
theorem start_x : V m c main_v1 = shapeCast main_v1.ty.shape (m (c.tc.loc main_arg0)) shapeCasts_S1x2048x1024_S2048x1024 := by
  show StableHlo.after (List.flatten [hostOps0]) _ (Proc.devRef .tc main_v1) = _
  simp only [hostOps0, List.flatten_cons, List.flatten_nil, List.append_nil, StableHlo.after_cons, StableHlo.after_nil]
  rw [StableHlo.reshape_result_ne, StableHlo.reshape_result_ne, StableHlo.reshape_result]
  all_goals first | rfl | decide

/-- The keys at the region's start. -/
theorem start_k : V m c main_v2 = shapeCast main_v2.ty.shape (m (c.tc.loc main_arg2)) shapeCasts_S1x2048x8x128_S2048x1024 := by
  show StableHlo.after (List.flatten [hostOps0]) _ (Proc.devRef .tc main_v2) = _
  simp only [hostOps0, List.flatten_cons, List.flatten_nil, List.append_nil, StableHlo.after_cons, StableHlo.after_nil]
  rw [StableHlo.reshape_result_ne, StableHlo.reshape_result, StableHlo.reshape_result_ne]
  all_goals first | rfl | decide

/-- The values at the region's start. -/
theorem start_v : V m c main_v3 = shapeCast main_v3.ty.shape (m (c.tc.loc main_arg3)) shapeCasts_S1x2048x8x128_S2048x1024 := by
  show StableHlo.after (List.flatten [hostOps0]) _ (Proc.devRef .tc main_v3) = _
  simp only [hostOps0, List.flatten_cons, List.flatten_nil, List.append_nil, StableHlo.after_cons, StableHlo.after_nil]
  rw [StableHlo.reshape_result, StableHlo.reshape_result_ne, StableHlo.reshape_result_ne]
  all_goals first | rfl | decide

/-- A leading coordinate of size one added. -/
theorem add_at (f : S2048x1024.Idx → EReal) (q : Fin 2048) (t : Fin 1024) :
    shapeCast S1x2048x1024 f shapeCasts_S2048x1024_S1x2048x1024 (ix3 0 q t) = f (ix2 q t) := by
  refine shapeCast_apply _ _ _ _ ?_
  rw [Shape.rowMajor_val_two, Shape.rowMajor_val_three]
  show q.val * 1024 + t.val = (0 * 2048 + q.val) * 1024 + t.val
  omega

/-- The queries' input, read off the first argument. -/
theorem xs_at (q : Fin 2048) (t : Fin 1024) : xs m c (ix2 q t) = m (c.tc.loc main_arg0) (ix3 0 q t) := by
  have e : ((cfg0.win 0).rect t0_0).emb (ix2 q t) = ix2 q t :=
    funext fun a => Fin.ext (Window.rect_emb_val_of_index_zero _ t0_0 a (by revert a; decide) _)
  show V m c main_v1 (((cfg0.win 0).rect t0_0).emb (ix2 q t)) = _
  rw [e, start_x]
  exact drop_at _ _ q t

/-- The query weights, read off the second argument. -/
theorem wqs_at (t n : Fin 1024) : wqs m c (ix2 t n) = m (c.tc.loc main_arg1) (ix2 t n) := by
  show V m c main_arg1 (((cfg0.win 1).rect t0_0).emb (ix2 t n)) = _
  rw [V_main_arg1]
  refine congrArg _ (funext fun a => Fin.ext ?_)
  exact Window.rect_emb_val_of_index_zero _ t0_0 a (by revert a; decide) _

/-- The output weights, read off the fifth argument. -/
theorem wos_at (t n : Fin 1024) : wos m c (ix2 t n) = m (c.tc.loc main_arg4) (ix2 t n) := by
  show V m c main_arg4 (((cfg0.win 2).rect t0_0).emb (ix2 t n)) = _
  rw [V_main_arg4]
  refine congrArg _ (funext fun a => Fin.ext ?_)
  exact Window.rect_emb_val_of_index_zero _ t0_0 a (by revert a; decide) _

/-- The merged head-and-depth coordinate of a key or a value splits as the argument's last two. -/
theorem split_at (f : S1x2048x8x128.Idx → EReal) (j : Fin 2048) (n : Fin 1024) :
    shapeCast S2048x1024 f shapeCasts_S1x2048x8x128_S2048x1024 (ix2 j n) = f (ix4 0 j (hOf n) (dOf n)) := by
  refine shapeCast_apply _ _ _ _ ?_
  rw [Shape.rowMajor_val_two, Shape.rowMajor_val_four]
  show ((0 * 2048 + j.val) * 8 + n.val / 128) * 128 + n.val % 128 = j.val * 1024 + n.val
  omega

theorem ks_at (j : Fin 2048) (n : Fin 1024) : ks m c (ix2 j n) = m (c.tc.loc main_arg2) (ix4 0 j (hOf n) (dOf n)) := by
  show V m c main_v2 (ix2 j n) = _
  rw [start_k]
  exact split_at _ j n

theorem vs_at (j : Fin 2048) (n : Fin 1024) : vs m c (ix2 j n) = m (c.tc.loc main_arg3) (ix4 0 j (hOf n) (dOf n)) := by
  show V m c main_v3 (ix2 j n) = _
  rw [start_v]
  exact split_at _ j n

/-- The result array is what the region leaves in its output, with a leading coordinate added. -/
theorem end_at (q : Fin 2048) (n : Fin 1024) :
    V₃ m c (Proc.devRef .tc main_v5) (ix3 0 q n) = outM m c (ix2 q n) := by
  have e : V₃ m c (Proc.devRef .tc main_v5) = shapeCast main_v5.ty.shape (V₂ m c (Proc.devRef .tc main_v4)) shapeCasts_S2048x1024_S1x2048x1024 := by
    show StableHlo.after hostOps1 _ _ = _
    simp only [hostOps1, StableHlo.after_cons, StableHlo.after_nil]
    rw [StableHlo.reshape_result]
  rw [e]
  refine (add_at _ q n).trans ?_
  rw [show V₂ m c (Proc.devRef .tc main_v4) = (dat m c).arrAt 3 cfg0.N from V₂_arr m c 3]
  exact ((dat m c).arrAt_emb_eq_after_last 3 t0_0 (by decide +kernel) (ix2 q n)).trans rfl

end Cert.KernelIdeal.Hand

end
-- ==== Proof.V.Numbers.lean ====
/-
  What the precondition says: the queries' input, the query weights and the keys are numbers, on every device.
-/
module

public import proofs.«01_k».proof.Defs
public import proofs.«01_k».proof.Proof.V.Att
public import proofs.«01_k».proof.Proof.Gen.KernelIdeal
public import Idealize.ShloMosaic.PureOps.Reduce

@[expose] public section

noncomputable section

/-- The side conditions of the precondition's own operations, over the kernel's blocks and over the whole arrays. -/
instance Cert.Pre_finite_KernelIdeal.facts : Cert.Pre_finite_KernelIdeal.Facts where
  bcast_S_S1x2048x1024 := by decide
  reducesTo_S1x2048x1024_S_d0_1_2 := by decide
  h_S_ := by decide
  bcast_S_S1024x1024 := by decide
  reducesTo_S1024x1024_S_d0_1 := by decide
  bcast_S_S1x2048x8x128 := by decide
  reducesTo_S1x2048x8x128_S_d0_1_2_3 := by decide

instance Cert.Pre_finite_ReferenceIdeal.facts : Cert.Pre_finite_ReferenceIdeal.Facts where
  bcast_S_S1x2048x1024 := by decide
  reducesTo_S1x2048x1024_S_d0_1_2 := by decide
  h_S_ := by decide
  bcast_S_S1024x1024 := by decide
  reducesTo_S1024x1024_S_d0_1 := by decide
  bcast_S_S1x8192x8x128 := by decide
  reducesTo_S1x8192x8x128_S_d0_1_2_3 := by decide

namespace Cert.Numbers

open Idealize.ShloMosaic Cert.Soft Cert.Att
open Cert.Pre_finite_KernelIdeal (S_ S1x2048x1024 S1024x1024 S1x2048x8x128)

theorem both {a b : BitVec 1} (h : IntOp.andi a b = 1#1) : a = 1#1 ∧ b = 1#1 := by
  revert a b; decide

/-- A conjunction over a finite set holds only if each member does. -/
theorem each {α : Type} (f : α → BitVec 1) (s : Finset α) (h : s.fold IntOp.andi 1#1 f = 1#1) : ∀ i ∈ s, f i = 1#1 := by
  classical
  induction s using Finset.induction_on with
  | empty => simp
  | insert a s ha ih =>
    rw [Finset.fold_insert ha] at h
    intro i hi
    rcases Finset.mem_insert.mp hi with rfl | hi
    · exact (both h).1
    · exact ih (both h).2 i hi

theorem top_word : FloatOps.ofBits (F := Ideal) .f32 0x7F800000#32 = (⊤ : EReal) := by
  show Ideal.ofBits .f32 0x7F800000#32 = ⊤
  simp [Ideal.ofBits, Ideal.ieee, -EReal.coe_mul]

/-- An extended real whose absolute value is below the top is a number. -/
theorem number {a : EReal} (h : Ideal.cmp .olt (max a (-a)) ⊤ = 1#1) : IsR a := by
  have hlt : max a (-a) < ⊤ := by
    by_contra hn
    simp [Ideal.cmp, hn] at h
  have h1 := (le_max_left a (-a)).trans_lt hlt
  have h2 := (le_max_right a (-a)).trans_lt hlt
  refine IsR.of_ne h1.ne fun hb => ?_
  rw [hb, EReal.neg_bot] at h2
  exact lt_irrefl _ h2

/-- A whole array whose test reduces to true holds numbers only. -/
theorem numbers {s : Shape} {axes : List (Fin s.rank)} (x : FVec Ideal s .f32) (hb : S_.BroadcastsInDim s (![] : Fin 0 → Fin s.rank))
    (hr : s.ReducesTo axes S_) (h0 : 0 < S_.numel) (j : S_.Idx)
    (h : Host.reduce IntOp.andi (cmpf .olt (Host.absf x) (broadcastInDim s ![] hb (constant (F := Ideal) S_ .f32 0x7F800000#32)))
      (constantI S_ 1 1#1) hr h0 j = 1#1) (i : s.Idx) : IsR (x i) := by
  rw [Host.reduce_eq_fold] at h
  have e := each _ _ h i (Finset.mem_filter.mpr ⟨Finset.mem_univ _, funext fun a => a.elim0⟩)
  refine number (Eq.trans ?_ e)
  show _ = Ideal.cmp .olt (max (x i) (-(x i))) (FloatOps.ofBits (F := Ideal) .f32 0x7F800000#32)
  rw [top_word]

/-- The precondition on one device's arrays: the first three hold numbers. -/
theorem of_fn {X : FVec Ideal S1x2048x1024 .f32} {Wq : FVec Ideal S1024x1024 .f32} {K V : FVec Ideal S1x2048x8x128 .f32}
    {Wo : FVec Ideal S1024x1024 .f32} (h : Cert.Pre_finite_KernelIdeal.fn (F := Ideal) X Wq K V Wo = fun _ => 1#1) :
    (∀ i, IsR (X i)) ∧ (∀ i, IsR (Wq i)) ∧ ∀ i, IsR (K i) := by
  have e := congrFun h (fun a => a.elim0)
  have e1 := both e
  have e2 := both e1.1
  exact ⟨numbers X _ _ _ _ e2.1, numbers Wq _ _ _ _ e2.2, numbers K _ _ _ _ e1.2⟩

end Cert.Numbers

end
-- ==== Proof.V.Both.lean ====
/-
  The kernel and the reference, started from the same whole arrays, end with the same result.
-/
module

public import proofs.«01_k».proof.Proof.V.Ends
public import proofs.«01_k».proof.Proof.V.Numbers

@[expose] public section

noncomputable section

namespace Cert.Both

open Idealize.ShloMosaic Idealize.ShloMosaic.ValueIdx Idealize.SL.Sem
open Cert.Soft Cert.Att
open Cert.KernelIdeal.Hand Cert.ReferenceIdeal.Hand

section
variable {m : (ℓ : Loc Cert.KernelIdeal.nD Cert.KernelIdeal.τ Cert.KernelIdeal.sig) → Buf (Elt Ideal) ℓ}
  {X : (⟨Cert.ReferenceIdeal.S1x2048x1024, .f32⟩ : BufTy).Contents (Elt Ideal)}
  {Wq Wo : (⟨Cert.ReferenceIdeal.S1024x1024, .f32⟩ : BufTy).Contents (Elt Ideal)}
  {K V : (⟨Cert.ReferenceIdeal.S1x8192x8x128, .f32⟩ : BufTy).Contents (Elt Ideal)}

/-- Where a device's key lies among all keys. -/
theorem block_at (A : (⟨Cert.ReferenceIdeal.S1x8192x8x128, .f32⟩ : BufTy).Contents (Elt Ideal))
    (hv : Layout.Tiles ⟨4, ![1, 2048, 8, 128]⟩ ⟨4, ![1, 8192, 8, 128]⟩ 1 4)
    (c : Fin 4) (j : Fin 2048) (h : Fin 8) (d : Fin 128) (J : Fin 8192) (e : J.val = c.val * 2048 + j.val) :
    Layout.block (α := EReal) ⟨4, ![1, 2048, 8, 128]⟩ ⟨4, ![1, 8192, 8, 128]⟩ 1 4 c A hv (ix4 0 j h d) = A (ix4 0 J h d) := by
  rw [Layout.block_apply]
  refine congrArg A (funext fun a => Fin.ext ?_)
  match a with
  | ⟨0, _⟩ => rfl
  | ⟨1, _⟩ => exact e.symm
  | ⟨2, _⟩ => rfl
  | ⟨3, _⟩ => rfl

variable (hx : ∀ c : Dev Cert.KernelIdeal.nD, m (c.tc.loc Cert.KernelIdeal.main_arg0) = X)
  (hwq : ∀ c : Dev Cert.KernelIdeal.nD, m (c.tc.loc Cert.KernelIdeal.main_arg1) = Wq)
  (hk : ∀ c : Dev Cert.KernelIdeal.nD, m (c.tc.loc Cert.KernelIdeal.main_arg2) = Layout.block ⟨4, ![1, 2048, 8, 128]⟩ ⟨4, ![1, 8192, 8, 128]⟩ 1 4 c K)
  (hv : ∀ c : Dev Cert.KernelIdeal.nD, m (c.tc.loc Cert.KernelIdeal.main_arg3) = Layout.block ⟨4, ![1, 2048, 8, 128]⟩ ⟨4, ![1, 8192, 8, 128]⟩ 1 4 c V)
  (hwo : ∀ c : Dev Cert.KernelIdeal.nD, m (c.tc.loc Cert.KernelIdeal.main_arg4) = Wo)

include hx hwq hk hv in
/-- What a device holds of the whole arrays. -/
theorem holds (c : Dev Cert.KernelIdeal.nD) (off : ℕ) (ho : off = c.val * 2048) :
    Holds (xs m c) (wqs m c) (ks m c) (vs m c) (xOf X) (wOf Wq) (kOf K) (kOf V) off := by
  have hc : c.val < 4 := c.isLt
  have ej : ∀ j : Fin 2048, (Fin.ofNat 8192 (off + j.val)).val = c.val * 2048 + j.val := fun j => by
    show (off + j.val) % 8192 = _
    have := j.isLt
    omega
  constructor
  · intro q t
    rw [xs_at, hx]; rfl
  · intro t n
    rw [wqs_at, hwq]; rfl
  · intro j n
    rw [ks_at, hk]
    exact block_at K _ c j _ _ _ (ej j)
  · intro j n
    rw [vs_at, hv]
    exact block_at V _ c j _ _ _ (ej j)

include hx hwq hk in
/-- The precondition on every device says it of the whole arrays: each key lies on some device. -/
theorem fine (hp : Cert.Pre_KernelIdeal_finite_KernelIdeal m) : Fine (xOf X) (wOf Wq) (kOf K) := by
  have hn := fun c => Cert.Numbers.of_fn (hp c)
  constructor
  · intro q t
    have := (hn 0).1 (ix3 0 q t)
    rw [hx] at this
    exact this
  · intro t n
    have := (hn 0).2.1 (ix2 t n)
    rw [hwq] at this
    exact this
  · intro j n
    have hj : j % 8192 < 8192 := Nat.mod_lt _ (by decide)
    have := (hn (⟨j % 8192 / 2048, by show _ < 4; omega⟩ : Fin 4)).2.2 (ix4 0 ⟨j % 8192 % 2048, by omega⟩ (hOf n) (dOf n))
    rw [hk, block_at K _ _ _ _ _ (Fin.ofNat 8192 j) (by show j % 8192 = j % 8192 / 2048 * 2048 + j % 8192 % 2048; omega)] at this
    exact this

include hx hwq hk hv hwo in
/-- Every device's result is the reference's. -/
theorem result (hp : Cert.Pre_KernelIdeal_finite_KernelIdeal m) (c : Dev Cert.KernelIdeal.nD) :
    V₃ m c (Proc.devRef .tc Cert.KernelIdeal.main_v5) = Cert.ReferenceIdeal.Read.val_main_v34 (F := Ideal) X Wq K V Wo := by
  have f := fine hx hwq hk hp
  funext (i : Shape.Idx ⟨3, ![1, 2048, 1024]⟩)
  obtain ⟨a, q, n, rfl⟩ : ∃ a q n, i = ix3 a q n := ⟨i 0, i 1, i 2, eq_ix3 i⟩
  obtain rfl : a = 0 := Subsingleton.elim _ _
  refine (end_at m c q n).trans (Eq.trans ?_ (out_at Wo V f q n).symm)
  exact oca_at (xs m) (wqs m) (wos m) (ks m) (vs m) (xOf X) (wOf Wq) (wOf Wo) (kOf K) (kOf V)
    (holds hx hwq hk hv 0 0 rfl) (holds hx hwq hk hv 1 2048 rfl) (fun c t n => by rw [wos_at, hwo]; rfl) f c q n

end

/-- Over the extended reals the kernel's result, on every device, is the reference's. -/
theorem algebraic : Cert.algebraic_KernelIdeal_ReferenceIdeal_pre_finite_KernelIdeal := by
  intro m g m' g' hp h
  refine ⟨Cert.ReferenceIdeal.Read.val_main_v34 (F := Ideal) (m' ((0 : Dev Cert.ReferenceIdeal.nD).tc.loc Cert.ReferenceIdeal.main_arg0))
    (m' ((0 : Dev Cert.ReferenceIdeal.nD).tc.loc Cert.ReferenceIdeal.main_arg1)) (m' ((0 : Dev Cert.ReferenceIdeal.nD).tc.loc Cert.ReferenceIdeal.main_arg2))
    (m' ((0 : Dev Cert.ReferenceIdeal.nD).tc.loc Cert.ReferenceIdeal.main_arg3)) (m' ((0 : Dev Cert.ReferenceIdeal.nD).tc.loc Cert.ReferenceIdeal.main_arg4)),
    ?_, ?_⟩
  · refine (θ_run Cert.KernelIdeal.defs _ _).mono (fun r hr c => ⟨?_, (hr.1 c).1⟩) (Cert.KernelIdeal.Hand.run_main m g)
    exact (hr.1 c).2.trans (result (fun c => (h c).1) (fun c => (h c).2.1) (fun c => (h c).2.2.1) (fun c => (h c).2.2.2.1)
      (fun c => (h c).2.2.2.2) hp c)
  · refine (θ_run Cert.ReferenceIdeal.defs _ _).mono (fun r hr => ⟨?_, (hr 0).2⟩) (Cert.ReferenceIdeal.Value.run (F := Ideal) m' g')
    exact (hr 0).1.trans (Cert.ReferenceIdeal.Read.val_main_v34_eq m' 0)

end Cert.Both

end
-- ==== Proof.lean ====
/- The claims of this certificate, each from the module that proves it. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.K.Launch
public import proofs.«01_k».proof.Proof.KI.Launch
public import proofs.«01_k».proof.Proof.V.Ref
public import proofs.«01_k».proof.Proof.V.Both
public import Idealize.ShloMosaic.Adequacy
public import Idealize.ShloMosaic.Init

@[expose] public section

noncomputable section

namespace Cert.Proof

open Idealize.ShloMosaic Idealize.SL.Sem Cert.Kernel

theorem frame_Kernel : Cert.quiescent_Kernel := fun m g _ =>
  (θ_run Cert.Kernel.defs _ _).mono (fun _ h => ⟨fun c => (h.1 c).1, h.2⟩) (Cert.Kernel.Hand.run_main m g)

theorem frame_KernelIdeal : Cert.quiescent_KernelIdeal := fun m g _ =>
  (θ_run Cert.KernelIdeal.defs _ _).mono (fun _ h => ⟨fun c => (h.1 c).1, h.2⟩) (Cert.KernelIdeal.Hand.run_main m g)

theorem kept : Cert.preserves_Kernel_KernelIdeal := IdealRules.named_const.statement Cert.KernelIdeal.κ "mask" .f32 0xCE6E6B28#32 ⊥ rfl

theorem claim : Cert.Claim := ⟨Cert.Kernel.Gen.facts, Cert.KernelIdeal.Gen.facts, Cert.ReferenceIdeal.Gen.facts,
  Cert.Pre_finite_KernelIdeal.facts, Cert.Pre_finite_ReferenceIdeal.facts,
  frame_Kernel, frame_KernelIdeal, fun m g _ => frame_KernelIdeal m g trivial,
  Cert.ReferenceIdeal.Hand.frame, fun m g _ => Cert.ReferenceIdeal.Hand.frame m g trivial, kept, Cert.Both.algebraic⟩

end Cert.Proof

end
